-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite1 [hPre_finite1 : Cert.Pre_finite1.Facts] (m : (ℓ : Loc Cert.KernelIdeal.nD Cert.KernelIdeal.τ Cert.KernelIdeal.sig) → Buf (Elt Ideal) ℓ) : Prop :=
  ∀ c : Dev Cert.KernelIdeal.nD,
    (Cert.Pre_finite1.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).1 = (fun _ => 1#1)
    ∧ (Cert.Pre_finite1.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.1 = (fun _ => 1#1)
    ∧ (Cert.Pre_finite1.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.1 = (fun _ => 1#1)
    ∧ (Cert.Pre_finite1.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.1 = (fun _ => 1#1)
    ∧ (Cert.Pre_finite1.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.1 = (fun _ => 1#1)
    ∧ (Cert.Pre_finite1.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.1 = (fun _ => 1#1)
    ∧ (Cert.Pre_finite1.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.2.1 = (fun _ => 1#1)
    ∧ (Cert.Pre_finite1.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite1 [hPre_finite1 : Cert.Pre_finite1.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite1.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).1 = (fun _ => 1#1)
    ∧ (Cert.Pre_finite1.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.1 = (fun _ => 1#1)
    ∧ (Cert.Pre_finite1.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.1 = (fun _ => 1#1)
    ∧ (Cert.Pre_finite1.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.1 = (fun _ => 1#1)
    ∧ (Cert.Pre_finite1.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.1 = (fun _ => 1#1)
    ∧ (Cert.Pre_finite1.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.2.1 = (fun _ => 1#1)
    ∧ (Cert.Pre_finite1.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.2.2.1 = (fun _ => 1#1)
    ∧ (Cert.Pre_finite1.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))).1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))).2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))).1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))).2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite4 [hPre_finite4 : Cert.Pre_finite4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5))).1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5))).2 = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite4 [hPre_finite4 : Cert.Pre_finite4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5))).1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5))).2 = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_finite1 [hKernelIdeal : Cert.KernelIdeal.Facts] [hPre_finite1 : Cert.Pre_finite1.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite1 m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_finite1 [hReferenceIdeal : Cert.ReferenceIdeal.Facts] [hPre_finite1 : Cert.Pre_finite1.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite1 m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Kernel4Ideal_pre_finite4 [hKernel4Ideal : Cert.Kernel4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite4 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Reference4Ideal_pre_finite4 [hReference4Ideal : Cert.Reference4Ideal.Facts] [hPre_finite4 : Cert.Pre_finite4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8)
      ∧ r.2.mem ((c.tc : Thread Cert.Kernel6.nD Cert.Kernel6.τ).loc Cert.Kernel6.main_arg9) = m ((c.tc : Thread Cert.Kernel6.nD Cert.Kernel6.τ).loc Cert.Kernel6.main_arg9))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9))
      ∧ r.2.sem = fun _ => 0)

def preserves_Kernel_KernelIdeal : Prop :=
  True

def algebraic_KernelIdeal_ReferenceIdeal_pre_finite1 [hKernelIdeal : Cert.KernelIdeal.Facts] [hReferenceIdeal : Cert.ReferenceIdeal.Facts] [hPre_finite1 : Cert.Pre_finite1.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite1 m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v23_0)) (v1 : (c : Dev Cert.KernelIdeal.nD) → Buf (Elt Ideal) ((c.tc : Thread Cert.KernelIdeal.nD Cert.KernelIdeal.τ).loc Cert.KernelIdeal.main_v23_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23_0) = v0 c
          ∧ r.2.mem ((c.tc : Thread Cert.KernelIdeal.nD Cert.KernelIdeal.τ).loc Cert.KernelIdeal.main_v23_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v99) = v0 c
          ∧ r.2.mem ((c.tc : Thread Cert.ReferenceIdeal.nD Cert.ReferenceIdeal.τ).loc Cert.ReferenceIdeal.main_v70) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v21) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v38_0)) (v1 : (c : Dev Cert.Kernel3Ideal.nD) → Buf (Elt Ideal) ((c.tc : Thread Cert.Kernel3Ideal.nD Cert.Kernel3Ideal.τ).loc Cert.Kernel3Ideal.main_v38_1)) (v2 : (c : Dev Cert.Kernel3Ideal.nD) → Buf (Elt Ideal) ((c.tc : Thread Cert.Kernel3Ideal.nD Cert.Kernel3Ideal.τ).loc Cert.Kernel3Ideal.main_v38_2)) (v3 : (c : Dev Cert.Kernel3Ideal.nD) → Buf (Elt Ideal) ((c.tc : Thread Cert.Kernel3Ideal.nD Cert.Kernel3Ideal.τ).loc Cert.Kernel3Ideal.main_v38_3)) (v4 : (c : Dev Cert.Kernel3Ideal.nD) → Buf (Elt Ideal) ((c.tc : Thread Cert.Kernel3Ideal.nD Cert.Kernel3Ideal.τ).loc Cert.Kernel3Ideal.main_v38_4)) (v5 : (c : Dev Cert.Kernel3Ideal.nD) → Buf (Elt Ideal) ((c.tc : Thread Cert.Kernel3Ideal.nD Cert.Kernel3Ideal.τ).loc Cert.Kernel3Ideal.main_v38_5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v38_0) = v0 c
          ∧ r.2.mem ((c.tc : Thread Cert.Kernel3Ideal.nD Cert.Kernel3Ideal.τ).loc Cert.Kernel3Ideal.main_v38_1) = v1 c
          ∧ r.2.mem ((c.tc : Thread Cert.Kernel3Ideal.nD Cert.Kernel3Ideal.τ).loc Cert.Kernel3Ideal.main_v38_2) = v2 c
          ∧ r.2.mem ((c.tc : Thread Cert.Kernel3Ideal.nD Cert.Kernel3Ideal.τ).loc Cert.Kernel3Ideal.main_v38_3) = v3 c
          ∧ r.2.mem ((c.tc : Thread Cert.Kernel3Ideal.nD Cert.Kernel3Ideal.τ).loc Cert.Kernel3Ideal.main_v38_4) = v4 c
          ∧ r.2.mem ((c.tc : Thread Cert.Kernel3Ideal.nD Cert.Kernel3Ideal.τ).loc Cert.Kernel3Ideal.main_v38_5) = v5 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v68) = v0 c
          ∧ r.2.mem ((c.tc : Thread Cert.Reference3Ideal.nD Cert.Reference3Ideal.τ).loc Cert.Reference3Ideal.main_v69) = v1 c
          ∧ r.2.mem ((c.tc : Thread Cert.Reference3Ideal.nD Cert.Reference3Ideal.τ).loc Cert.Reference3Ideal.main_v16) = v2 c
          ∧ r.2.mem ((c.tc : Thread Cert.Reference3Ideal.nD Cert.Reference3Ideal.τ).loc Cert.Reference3Ideal.main_v70) = v3 c
          ∧ r.2.mem ((c.tc : Thread Cert.Reference3Ideal.nD Cert.Reference3Ideal.τ).loc Cert.Reference3Ideal.main_v71) = v4 c
          ∧ r.2.mem ((c.tc : Thread Cert.Reference3Ideal.nD Cert.Reference3Ideal.τ).loc Cert.Reference3Ideal.main_v72) = v5 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal_pre_finite4 [hKernel4Ideal : Cert.Kernel4Ideal.Facts] [hReference4Ideal : Cert.Reference4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite4 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v38_0)) (v1 : (c : Dev Cert.Kernel4Ideal.nD) → Buf (Elt Ideal) ((c.tc : Thread Cert.Kernel4Ideal.nD Cert.Kernel4Ideal.τ).loc Cert.Kernel4Ideal.main_v38_1)) (v2 : (c : Dev Cert.Kernel4Ideal.nD) → Buf (Elt Ideal) ((c.tc : Thread Cert.Kernel4Ideal.nD Cert.Kernel4Ideal.τ).loc Cert.Kernel4Ideal.main_v38_2)) (v3 : (c : Dev Cert.Kernel4Ideal.nD) → Buf (Elt Ideal) ((c.tc : Thread Cert.Kernel4Ideal.nD Cert.Kernel4Ideal.τ).loc Cert.Kernel4Ideal.main_v38_3)) (v4 : (c : Dev Cert.Kernel4Ideal.nD) → Buf (Elt Ideal) ((c.tc : Thread Cert.Kernel4Ideal.nD Cert.Kernel4Ideal.τ).loc Cert.Kernel4Ideal.main_v38_4)) (v5 : (c : Dev Cert.Kernel4Ideal.nD) → Buf (Elt Ideal) ((c.tc : Thread Cert.Kernel4Ideal.nD Cert.Kernel4Ideal.τ).loc Cert.Kernel4Ideal.main_v38_5)) (v6 : (c : Dev Cert.Kernel4Ideal.nD) → Buf (Elt Ideal) ((c.tc : Thread Cert.Kernel4Ideal.nD Cert.Kernel4Ideal.τ).loc Cert.Kernel4Ideal.main_v38_6)) (v7 : (c : Dev Cert.Kernel4Ideal.nD) → Buf (Elt Ideal) ((c.tc : Thread Cert.Kernel4Ideal.nD Cert.Kernel4Ideal.τ).loc Cert.Kernel4Ideal.main_v38_7)) (v8 : (c : Dev Cert.Kernel4Ideal.nD) → Buf (Elt Ideal) ((c.tc : Thread Cert.Kernel4Ideal.nD Cert.Kernel4Ideal.τ).loc Cert.Kernel4Ideal.main_v38_8)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v38_0) = v0 c
          ∧ r.2.mem ((c.tc : Thread Cert.Kernel4Ideal.nD Cert.Kernel4Ideal.τ).loc Cert.Kernel4Ideal.main_v38_1) = v1 c
          ∧ r.2.mem ((c.tc : Thread Cert.Kernel4Ideal.nD Cert.Kernel4Ideal.τ).loc Cert.Kernel4Ideal.main_v38_2) = v2 c
          ∧ r.2.mem ((c.tc : Thread Cert.Kernel4Ideal.nD Cert.Kernel4Ideal.τ).loc Cert.Kernel4Ideal.main_v38_3) = v3 c
          ∧ r.2.mem ((c.tc : Thread Cert.Kernel4Ideal.nD Cert.Kernel4Ideal.τ).loc Cert.Kernel4Ideal.main_v38_4) = v4 c
          ∧ r.2.mem ((c.tc : Thread Cert.Kernel4Ideal.nD Cert.Kernel4Ideal.τ).loc Cert.Kernel4Ideal.main_v38_5) = v5 c
          ∧ r.2.mem ((c.tc : Thread Cert.Kernel4Ideal.nD Cert.Kernel4Ideal.τ).loc Cert.Kernel4Ideal.main_v38_6) = v6 c
          ∧ r.2.mem ((c.tc : Thread Cert.Kernel4Ideal.nD Cert.Kernel4Ideal.τ).loc Cert.Kernel4Ideal.main_v38_7) = v7 c
          ∧ r.2.mem ((c.tc : Thread Cert.Kernel4Ideal.nD Cert.Kernel4Ideal.τ).loc Cert.Kernel4Ideal.main_v38_8) = v8 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v80) = v0 c
          ∧ r.2.mem ((c.tc : Thread Cert.Reference4Ideal.nD Cert.Reference4Ideal.τ).loc Cert.Reference4Ideal.main_v16) = v1 c
          ∧ r.2.mem ((c.tc : Thread Cert.Reference4Ideal.nD Cert.Reference4Ideal.τ).loc Cert.Reference4Ideal.main_v81) = v2 c
          ∧ r.2.mem ((c.tc : Thread Cert.Reference4Ideal.nD Cert.Reference4Ideal.τ).loc Cert.Reference4Ideal.main_v82) = v3 c
          ∧ r.2.mem ((c.tc : Thread Cert.Reference4Ideal.nD Cert.Reference4Ideal.τ).loc Cert.Reference4Ideal.main_v83) = v4 c
          ∧ r.2.mem ((c.tc : Thread Cert.Reference4Ideal.nD Cert.Reference4Ideal.τ).loc Cert.Reference4Ideal.main_v74) = v5 c
          ∧ r.2.mem ((c.tc : Thread Cert.Reference4Ideal.nD Cert.Reference4Ideal.τ).loc Cert.Reference4Ideal.main_v85) = v6 c
          ∧ r.2.mem ((c.tc : Thread Cert.Reference4Ideal.nD Cert.Reference4Ideal.τ).loc Cert.Reference4Ideal.main_v86) = v7 c
          ∧ r.2.mem ((c.tc : Thread Cert.Reference4Ideal.nD Cert.Reference4Ideal.τ).loc Cert.Reference4Ideal.main_v87) = v8 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v2) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal_on_conv_only [hKernel6Ideal : Cert.Kernel6Ideal.Facts] [hReference6Ideal : Cert.Reference6Ideal.Facts] [hOn_conv_only : Cert.On_conv_only.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)
      ∧ m' ((c.tc : Thread Cert.Reference6Ideal.nD Cert.Reference6Ideal.τ).loc Cert.Reference6Ideal.main_arg9) = m ((c.tc : Thread Cert.Kernel6Ideal.nD Cert.Kernel6Ideal.τ).loc Cert.Kernel6Ideal.main_arg9)) →
    ∃ (v0 : (c : Dev Cert.Kernel6Ideal.nD) → Buf (Elt Ideal) ((c.tc : Thread Cert.Kernel6Ideal.nD Cert.Kernel6Ideal.τ).loc Cert.Kernel6Ideal.main_v27_0)) (v1 : (c : Dev Cert.Kernel6Ideal.nD) → Buf (Elt Ideal) ((c.tc : Thread Cert.Kernel6Ideal.nD Cert.Kernel6Ideal.τ).loc Cert.Kernel6Ideal.main_v27_1)) (v2 : (c : Dev Cert.Kernel6Ideal.nD) → Buf (Elt Ideal) ((c.tc : Thread Cert.Kernel6Ideal.nD Cert.Kernel6Ideal.τ).loc Cert.Kernel6Ideal.main_v27_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          (∀ i : (⟨2, ![33792, 1024]⟩ : Shape).Idx, (Cert.On_conv_only.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8)) (m ((c.tc : Thread Cert.Kernel6Ideal.nD Cert.Kernel6Ideal.τ).loc Cert.Kernel6Ideal.main_arg9))).1 i = 1#1 → r.2.mem ((c.tc : Thread Cert.Kernel6Ideal.nD Cert.Kernel6Ideal.τ).loc Cert.Kernel6Ideal.main_v27_0) i = v0 c i)
          ∧ (∀ i : (⟨4, ![8, 32, 64, 128]⟩ : Shape).Idx, (Cert.On_conv_only.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8)) (m ((c.tc : Thread Cert.Kernel6Ideal.nD Cert.Kernel6Ideal.τ).loc Cert.Kernel6Ideal.main_arg9))).2.1 i = 1#1 → r.2.mem ((c.tc : Thread Cert.Kernel6Ideal.nD Cert.Kernel6Ideal.τ).loc Cert.Kernel6Ideal.main_v27_1) i = v1 c i)
          ∧ (∀ i : (⟨3, ![8, 8, 3072]⟩ : Shape).Idx, (Cert.On_conv_only.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8)) (m ((c.tc : Thread Cert.Kernel6Ideal.nD Cert.Kernel6Ideal.τ).loc Cert.Kernel6Ideal.main_arg9))).2.2 i = 1#1 → r.2.mem ((c.tc : Thread Cert.Kernel6Ideal.nD Cert.Kernel6Ideal.τ).loc Cert.Kernel6Ideal.main_v27_2) i = v2 c i)
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
          ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          (∀ i : (⟨2, ![33792, 1024]⟩ : Shape).Idx, (Cert.On_conv_only.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8)) (m ((c.tc : Thread Cert.Kernel6Ideal.nD Cert.Kernel6Ideal.τ).loc Cert.Kernel6Ideal.main_arg9))).1 i = 1#1 → r.2.mem ((c.tc : Thread Cert.Reference6Ideal.nD Cert.Reference6Ideal.τ).loc Cert.Reference6Ideal.main_v128) i = v0 c i)
          ∧ (∀ i : (⟨4, ![8, 32, 64, 128]⟩ : Shape).Idx, (Cert.On_conv_only.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8)) (m ((c.tc : Thread Cert.Kernel6Ideal.nD Cert.Kernel6Ideal.τ).loc Cert.Kernel6Ideal.main_arg9))).2.1 i = 1#1 → r.2.mem ((c.tc : Thread Cert.Reference6Ideal.nD Cert.Reference6Ideal.τ).loc Cert.Reference6Ideal.main_v100) i = v1 c i)
          ∧ (∀ i : (⟨3, ![8, 8, 3072]⟩ : Shape).Idx, (Cert.On_conv_only.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8)) (m ((c.tc : Thread Cert.Kernel6Ideal.nD Cert.Kernel6Ideal.τ).loc Cert.Kernel6Ideal.main_arg9))).2.2 i = 1#1 → r.2.mem ((c.tc : Thread Cert.Reference6Ideal.nD Cert.Reference6Ideal.τ).loc Cert.Reference6Ideal.main_v129) i = v2 c i)
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8)
          ∧ r.2.mem ((c.tc : Thread Cert.Reference6Ideal.nD Cert.Reference6Ideal.τ).loc Cert.Reference6Ideal.main_arg9) = m' ((c.tc : Thread Cert.Reference6Ideal.nD Cert.Reference6Ideal.τ).loc Cert.Reference6Ideal.main_arg9))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite1 : Cert.Pre_finite1.Facts) (hPre_finite3 : Cert.Pre_finite3.Facts) (hPre_finite4 : Cert.Pre_finite4.Facts) (hOn_conv_only : Cert.On_conv_only.Facts),
    quiescent_Kernel (hKernel := hKernel)
    ∧ quiescent_KernelIdeal (hKernelIdeal := hKernelIdeal)
    ∧ quiescent_KernelIdeal_pre_finite1 (hKernelIdeal := hKernelIdeal) (hPre_finite1 := hPre_finite1)
    ∧ quiescent_ReferenceIdeal (hReferenceIdeal := hReferenceIdeal)
    ∧ quiescent_ReferenceIdeal_pre_finite1 (hReferenceIdeal := hReferenceIdeal) (hPre_finite1 := hPre_finite1)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ quiescent_Kernel4 (hKernel4 := hKernel4)
    ∧ quiescent_Kernel4Ideal (hKernel4Ideal := hKernel4Ideal)
    ∧ quiescent_Kernel4Ideal_pre_finite4 (hKernel4Ideal := hKernel4Ideal) (hPre_finite4 := hPre_finite4)
    ∧ quiescent_Reference4Ideal (hReference4Ideal := hReference4Ideal)
    ∧ quiescent_Reference4Ideal_pre_finite4 (hReference4Ideal := hReference4Ideal) (hPre_finite4 := hPre_finite4)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal_pre_finite1 (hKernelIdeal := hKernelIdeal) (hReferenceIdeal := hReferenceIdeal) (hPre_finite1 := hPre_finite1)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite3 (hKernel3Ideal := hKernel3Ideal) (hReference3Ideal := hReference3Ideal) (hPre_finite3 := hPre_finite3)
    ∧ preserves_Kernel4_Kernel4Ideal
    ∧ algebraic_Kernel4Ideal_Reference4Ideal_pre_finite4 (hKernel4Ideal := hKernel4Ideal) (hReference4Ideal := hReference4Ideal) (hPre_finite4 := hPre_finite4)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_on_conv_only (hKernel6Ideal := hKernel6Ideal) (hReference6Ideal := hReference6Ideal) (hOn_conv_only := hOn_conv_only)
-- ==== On_conv_only.lean ====
abbrev S8x4112x1024 : Shape := ⟨3, ![8, 4112, 1024]⟩
abbrev S1024 : Shape := ⟨1, ![1024]⟩
abbrev S1024x5152 : Shape := ⟨2, ![1024, 5152]⟩
abbrev S4x3072 : Shape := ⟨2, ![4, 3072]⟩
abbrev S3072 : Shape := ⟨1, ![3072]⟩
abbrev S32 : Shape := ⟨1, ![32]⟩
abbrev S2048 : Shape := ⟨1, ![2048]⟩
abbrev S2048x1024 : Shape := ⟨2, ![2048, 1024]⟩
abbrev S_ : Shape := ⟨0, ![]⟩
abbrev S33792x1024 : Shape := ⟨2, ![33792, 1024]⟩
abbrev S8x32x64x128 : Shape := ⟨4, ![8, 32, 64, 128]⟩
abbrev S8x8x3072 : Shape := ⟨3, ![8, 8, 3072]⟩

class Facts : Prop where
  bcast_S_S33792x1024 : S_.BroadcastsInDim S33792x1024 (![] : Fin 0 → Fin S33792x1024.rank)
  bcast_S_S8x32x64x128 : S_.BroadcastsInDim S8x32x64x128 (![] : Fin 0 → Fin S8x32x64x128.rank)
  bcast_S_S8x8x3072 : S_.BroadcastsInDim S8x8x3072 (![] : Fin 0 → Fin S8x8x3072.rank)

variable [Facts]

def fn {F : FTy → Type} [FloatOps F] (main_arg0 : FVec F S8x4112x1024 .f32) (main_arg1 : FVec F S1024 .f32) (main_arg2 : FVec F S1024x5152 .f32) (main_arg3 : FVec F S4x3072 .f32) (main_arg4 : FVec F S3072 .f32) (main_arg5 : FVec F S32 .f32) (main_arg6 : FVec F S32 .f32) (main_arg7 : FVec F S32 .f32) (main_arg8 : FVec F S2048 .f32) (main_arg9 : FVec F S2048x1024 .f32) : IVec S33792x1024 1 × IVec S8x32x64x128 1 × IVec S8x8x3072 1 :=
  let main_c : IVec S_ 1 := constantI S_ 1 0#1
  let main_v0 : IVec S33792x1024 1 := broadcastInDim S33792x1024 ![] bcast_S_S33792x1024 main_c
  let main_c_0 : IVec S_ 1 := constantI S_ 1 0#1
  let main_v1 : IVec S8x32x64x128 1 := broadcastInDim S8x32x64x128 ![] bcast_S_S8x32x64x128 main_c_0
  let main_c_1 : IVec S_ 1 := constantI S_ 1 1#1
  let main_v2 : IVec S8x8x3072 1 := broadcastInDim S8x8x3072 ![] bcast_S_S8x8x3072 main_c_1
  (main_v0, main_v1, main_v2)
-- ==== Pre_finite1.lean ====
abbrev S32x2048 : Shape := ⟨2, ![32, 2048]⟩
abbrev S32x3072 : Shape := ⟨2, ![32, 3072]⟩
abbrev S32x32 : Shape := ⟨2, ![32, 32]⟩
abbrev S32x3x3072 : Shape := ⟨3, ![32, 3, 3072]⟩
abbrev S32x32x64x128 : Shape := ⟨4, ![32, 32, 64, 128]⟩
abbrev S4x3072 : Shape := ⟨2, ![4, 3072]⟩
abbrev S3072 : Shape := ⟨1, ![3072]⟩
abbrev S32 : Shape := ⟨1, ![32]⟩
abbrev S2048 : Shape := ⟨1, ![2048]⟩
abbrev S_ : Shape := ⟨0, ![]⟩

class Facts : Prop where
  bcast_S_S32x3072 : S_.BroadcastsInDim S32x3072 (![] : Fin 0 → Fin S32x3072.rank)
  bcast_S_S32x32 : S_.BroadcastsInDim S32x32 (![] : Fin 0 → Fin S32x32.rank)
  bcast_S_S32x3x3072 : S_.BroadcastsInDim S32x3x3072 (![] : Fin 0 → Fin S32x3x3072.rank)
  bcast_S_S4x3072 : S_.BroadcastsInDim S4x3072 (![] : Fin 0 → Fin S4x3072.rank)
  bcast_S_S3072 : S_.BroadcastsInDim S3072 (![] : Fin 0 → Fin S3072.rank)
  bcast_S_S32 : S_.BroadcastsInDim S32 (![] : Fin 0 → Fin S32.rank)

variable [Facts]

def fn_part2 {F : FTy → Type} [FloatOps F] (main_arg9 : FVec F S32 .f32) (main_v4 : IVec S32x3072 1) (main_v9 : IVec S32x32 1) (main_v14 : IVec S32x3x3072 1) (main_v19 : IVec S4x3072 1) (main_v24 : IVec S3072 1) (main_v29 : IVec S32 1) (main_v31 : IVec S32 1) (main_v33 : IVec S32 1) : IVec S32x3072 1 × IVec S32x32 1 × IVec S32x3x3072 1 × IVec S4x3072 1 × IVec S3072 1 × IVec S32 1 × IVec S32 1 × IVec S32 1 :=
  let main_v34 : IVec S32 1 := andi main_v31 main_v33
  let main_cst_13 : FVec F S_ .f32 := constant S_ .f32 0xFF800000#32
  let main_v35 : FVec F S32 .f32 := broadcastInDim S32 ![] bcast_S_S32 main_cst_13
  let main_v36 : IVec S32 1 := cmpf .ogt main_arg9 main_v35
  let main_cst_14 : FVec F S_ .f32 := constant S_ .f32 0x7F800000#32
  let main_v37 : FVec F S32 .f32 := broadcastInDim S32 ![] bcast_S_S32 main_cst_14
  let main_v38 : IVec S32 1 := cmpf .olt main_arg9 main_v37
  let main_v39 : IVec S32 1 := andi main_v36 main_v38
  (main_v4, main_v9, main_v14, main_v19, main_v24, main_v29, main_v34, main_v39)

def fn_part1 {F : FTy → Type} [FloatOps F] (main_arg5 : FVec F S4x3072 .f32) (main_arg6 : FVec F S3072 .f32) (main_arg7 : FVec F S32 .f32) (main_arg8 : FVec F S32 .f32) (main_arg9 : FVec F S32 .f32) (main_v4 : IVec S32x3072 1) (main_v9 : IVec S32x32 1) (main_v14 : IVec S32x3x3072 1) (main_v16 : IVec S4x3072 1) : IVec S32x3072 1 × IVec S32x32 1 × IVec S32x3x3072 1 × IVec S4x3072 1 × IVec S3072 1 × IVec S32 1 × IVec S32 1 × IVec S32 1 :=
  let main_cst_6 : FVec F S_ .f32 := constant S_ .f32 0x7F800000#32
  let main_v17 : FVec F S4x3072 .f32 := broadcastInDim S4x3072 ![] bcast_S_S4x3072 main_cst_6
  let main_v18 : IVec S4x3072 1 := cmpf .olt main_arg5 main_v17
  let main_v19 : IVec S4x3072 1 := andi main_v16 main_v18
  let main_cst_7 : FVec F S_ .f32 := constant S_ .f32 0xFF800000#32
  let main_v20 : FVec F S3072 .f32 := broadcastInDim S3072 ![] bcast_S_S3072 main_cst_7
  let main_v21 : IVec S3072 1 := cmpf .ogt main_arg6 main_v20
  let main_cst_8 : FVec F S_ .f32 := constant S_ .f32 0x7F800000#32
  let main_v22 : FVec F S3072 .f32 := broadcastInDim S3072 ![] bcast_S_S3072 main_cst_8
  let main_v23 : IVec S3072 1 := cmpf .olt main_arg6 main_v22
  let main_v24 : IVec S3072 1 := andi main_v21 main_v23
  let main_cst_9 : FVec F S_ .f32 := constant S_ .f32 0xFF800000#32
  let main_v25 : FVec F S32 .f32 := broadcastInDim S32 ![] bcast_S_S32 main_cst_9
  let main_v26 : IVec S32 1 := cmpf .ogt main_arg7 main_v25
  let main_cst_10 : FVec F S_ .f32 := constant S_ .f32 0x7F800000#32
  let main_v27 : FVec F S32 .f32 := broadcastInDim S32 ![] bcast_S_S32 main_cst_10
  let main_v28 : IVec S32 1 := cmpf .olt main_arg7 main_v27
  let main_v29 : IVec S32 1 := andi main_v26 main_v28
  let main_cst_11 : FVec F S_ .f32 := constant S_ .f32 0xFF800000#32
  let main_v30 : FVec F S32 .f32 := broadcastInDim S32 ![] bcast_S_S32 main_cst_11
  let main_v31 : IVec S32 1 := cmpf .ogt main_arg8 main_v30
  let main_cst_12 : FVec F S_ .f32 := constant S_ .f32 0x7F800000#32
  let main_v32 : FVec F S32 .f32 := broadcastInDim S32 ![] bcast_S_S32 main_cst_12
  let main_v33 : IVec S32 1 := cmpf .olt main_arg8 main_v32
  fn_part2 (F := F) main_arg9 main_v4 main_v9 main_v14 main_v19 main_v24 main_v29 main_v31 main_v33

def fn {F : FTy → Type} [FloatOps F] (main_arg0 : FVec F S32x2048 .f32) (main_arg1 : FVec F S32x3072 .f32) (main_arg2 : FVec F S32x32 .f32) (main_arg3 : FVec F S32x3x3072 .f32) (main_arg4 : FVec F S32x32x64x128 .f32) (main_arg5 : FVec F S4x3072 .f32) (main_arg6 : FVec F S3072 .f32) (main_arg7 : FVec F S32 .f32) (main_arg8 : FVec F S32 .f32) (main_arg9 : FVec F S32 .f32) (main_arg10 : FVec F S2048 .f32) : IVec S32x3072 1 × IVec S32x32 1 × IVec S32x3x3072 1 × IVec S4x3072 1 × IVec S3072 1 × IVec S32 1 × IVec S32 1 × IVec S32 1 :=
  let main_cst : FVec F S_ .f32 := constant S_ .f32 0xFF800000#32
  let main_v0 : FVec F S32x3072 .f32 := broadcastInDim S32x3072 ![] bcast_S_S32x3072 main_cst
  let main_v1 : IVec S32x3072 1 := cmpf .ogt main_arg1 main_v0
  let main_cst_0 : FVec F S_ .f32 := constant S_ .f32 0x7F800000#32
  let main_v2 : FVec F S32x3072 .f32 := broadcastInDim S32x3072 ![] bcast_S_S32x3072 main_cst_0
  let main_v3 : IVec S32x3072 1 := cmpf .olt main_arg1 main_v2
  let main_v4 : IVec S32x3072 1 := andi main_v1 main_v3
  let main_cst_1 : FVec F S_ .f32 := constant S_ .f32 0xFF800000#32
  let main_v5 : FVec F S32x32 .f32 := broadcastInDim S32x32 ![] bcast_S_S32x32 main_cst_1
  let main_v6 : IVec S32x32 1 := cmpf .ogt main_arg2 main_v5
  let main_cst_2 : FVec F S_ .f32 := constant S_ .f32 0x7F800000#32
  let main_v7 : FVec F S32x32 .f32 := broadcastInDim S32x32 ![] bcast_S_S32x32 main_cst_2
  let main_v8 : IVec S32x32 1 := cmpf .olt main_arg2 main_v7
  let main_v9 : IVec S32x32 1 := andi main_v6 main_v8
  let main_cst_3 : FVec F S_ .f32 := constant S_ .f32 0xFF800000#32
  let main_v10 : FVec F S32x3x3072 .f32 := broadcastInDim S32x3x3072 ![] bcast_S_S32x3x3072 main_cst_3
  let main_v11 : IVec S32x3x3072 1 := cmpf .ogt main_arg3 main_v10
  let main_cst_4 : FVec F S_ .f32 := constant S_ .f32 0x7F800000#32
  let main_v12 : FVec F S32x3x3072 .f32 := broadcastInDim S32x3x3072 ![] bcast_S_S32x3x3072 main_cst_4
  let main_v13 : IVec S32x3x3072 1 := cmpf .olt main_arg3 main_v12
  let main_v14 : IVec S32x3x3072 1 := andi main_v11 main_v13
  let main_cst_5 : FVec F S_ .f32 := constant S_ .f32 0xFF800000#32
  let main_v15 : FVec F S4x3072 .f32 := broadcastInDim S4x3072 ![] bcast_S_S4x3072 main_cst_5
  let main_v16 : IVec S4x3072 1 := cmpf .ogt main_arg5 main_v15
  fn_part1 (F := F) main_arg5 main_arg6 main_arg7 main_arg8 main_arg9 main_v4 main_v9 main_v14 main_v16
-- ==== Pre_finite3.lean ====
abbrev S32x1024 : Shape := ⟨2, ![32, 1024]⟩
abbrev S1024 : Shape := ⟨1, ![1024]⟩
abbrev S1024x2120 : Shape := ⟨2, ![1024, 2120]⟩
abbrev S64 : Shape := ⟨1, ![64]⟩
abbrev S_ : Shape := ⟨0, ![]⟩

class Facts : Prop where
  bcast_S_S1024 : S_.BroadcastsInDim S1024 (![] : Fin 0 → Fin S1024.rank)
  bcast_S_S1024x2120 : S_.BroadcastsInDim S1024x2120 (![] : Fin 0 → Fin S1024x2120.rank)

variable [Facts]

def fn {F : FTy → Type} [FloatOps F] (main_arg0 : FVec F S32x1024 .f32) (main_arg1 : FVec F S1024 .f32) (main_arg2 : FVec F S1024x2120 .f32) (main_arg3 : FVec F S64 .f32) (main_arg4 : FVec F S64 .f32) (main_arg5 : FVec F S64 .f32) : IVec S1024 1 × IVec S1024x2120 1 :=
  let main_cst : FVec F S_ .f32 := constant S_ .f32 0xFF800000#32
  let main_v0 : FVec F S1024 .f32 := broadcastInDim S1024 ![] bcast_S_S1024 main_cst
  let main_v1 : IVec S1024 1 := cmpf .ogt main_arg1 main_v0
  let main_cst_0 : FVec F S_ .f32 := constant S_ .f32 0x7F800000#32
  let main_v2 : FVec F S1024 .f32 := broadcastInDim S1024 ![] bcast_S_S1024 main_cst_0
  let main_v3 : IVec S1024 1 := cmpf .olt main_arg1 main_v2
  let main_v4 : IVec S1024 1 := andi main_v1 main_v3
  let main_cst_1 : FVec F S_ .f32 := constant S_ .f32 0xFF800000#32
  let main_v5 : FVec F S1024x2120 .f32 := broadcastInDim S1024x2120 ![] bcast_S_S1024x2120 main_cst_1
  let main_v6 : IVec S1024x2120 1 := cmpf .ogt main_arg2 main_v5
  let main_cst_2 : FVec F S_ .f32 := constant S_ .f32 0x7F800000#32
  let main_v7 : FVec F S1024x2120 .f32 := broadcastInDim S1024x2120 ![] bcast_S_S1024x2120 main_cst_2
  let main_v8 : IVec S1024x2120 1 := cmpf .olt main_arg2 main_v7
  let main_v9 : IVec S1024x2120 1 := andi main_v6 main_v8
  (main_v4, main_v9)
-- ==== Pre_finite4.lean ====
abbrev S33792x1024 : Shape := ⟨2, ![33792, 1024]⟩
abbrev S1024 : Shape := ⟨1, ![1024]⟩
abbrev S1024x2120 : Shape := ⟨2, ![1024, 2120]⟩
abbrev S64 : Shape := ⟨1, ![64]⟩
abbrev S_ : Shape := ⟨0, ![]⟩

class Facts : Prop where
  bcast_S_S1024 : S_.BroadcastsInDim S1024 (![] : Fin 0 → Fin S1024.rank)
  bcast_S_S1024x2120 : S_.BroadcastsInDim S1024x2120 (![] : Fin 0 → Fin S1024x2120.rank)

variable [Facts]

def fn {F : FTy → Type} [FloatOps F] (main_arg0 : FVec F S33792x1024 .f32) (main_arg1 : FVec F S1024 .f32) (main_arg2 : FVec F S1024x2120 .f32) (main_arg3 : FVec F S64 .f32) (main_arg4 : FVec F S64 .f32) (main_arg5 : FVec F S64 .f32) : IVec S1024 1 × IVec S1024x2120 1 :=
  let main_cst : FVec F S_ .f32 := constant S_ .f32 0xFF800000#32
  let main_v0 : FVec F S1024 .f32 := broadcastInDim S1024 ![] bcast_S_S1024 main_cst
  let main_v1 : IVec S1024 1 := cmpf .ogt main_arg1 main_v0
  let main_cst_0 : FVec F S_ .f32 := constant S_ .f32 0x7F800000#32
  let main_v2 : FVec F S1024 .f32 := broadcastInDim S1024 ![] bcast_S_S1024 main_cst_0
  let main_v3 : IVec S1024 1 := cmpf .olt main_arg1 main_v2
  let main_v4 : IVec S1024 1 := andi main_v1 main_v3
  let main_cst_1 : FVec F S_ .f32 := constant S_ .f32 0xFF800000#32
  let main_v5 : FVec F S1024x2120 .f32 := broadcastInDim S1024x2120 ![] bcast_S_S1024x2120 main_cst_1
  let main_v6 : IVec S1024x2120 1 := cmpf .ogt main_arg2 main_v5
  let main_cst_2 : FVec F S_ .f32 := constant S_ .f32 0x7F800000#32
  let main_v7 : FVec F S1024x2120 .f32 := broadcastInDim S1024x2120 ![] bcast_S_S1024x2120 main_cst_2
  let main_v8 : IVec S1024x2120 1 := cmpf .olt main_arg2 main_v7
  let main_v9 : IVec S1024x2120 1 := andi main_v6 main_v8
  (main_v4, main_v9)
-- ==== Kernel.lean ====
abbrev S32x2048 : Shape := ⟨2, ![32, 2048]⟩
abbrev S32x3072 : Shape := ⟨2, ![32, 3072]⟩
abbrev S32x32 : Shape := ⟨2, ![32, 32]⟩
abbrev S32x3x3072 : Shape := ⟨3, ![32, 3, 3072]⟩
abbrev S32x32x64x128 : Shape := ⟨4, ![32, 32, 64, 128]⟩
abbrev S4x3072 : Shape := ⟨2, ![4, 3072]⟩
abbrev S3072 : Shape := ⟨1, ![3072]⟩
abbrev S32 : Shape := ⟨1, ![32]⟩
abbrev S2048 : Shape := ⟨1, ![2048]⟩
abbrev S_ : Shape := ⟨0, ![]⟩
abbrev S32x128 : Shape := ⟨2, ![32, 128]⟩
abbrev S128 : Shape := ⟨1, ![128]⟩
abbrev S128x1 : Shape := ⟨2, ![128, 1]⟩
abbrev S1x2048 : Shape := ⟨2, ![1, 2048]⟩
abbrev S128x2048 : Shape := ⟨2, ![128, 2048]⟩
abbrev S32x1x2048 : Shape := ⟨3, ![32, 1, 2048]⟩
abbrev S32x1x3072 : Shape := ⟨3, ![32, 1, 3072]⟩
abbrev S32x1x128 : Shape := ⟨3, ![32, 1, 128]⟩
abbrev S1x3072 : Shape := ⟨2, ![1, 3072]⟩
abbrev S1x128 : Shape := ⟨2, ![1, 128]⟩
abbrev S1x1x2048 : Shape := ⟨3, ![1, 1, 2048]⟩
abbrev S1x1x3072 : Shape := ⟨3, ![1, 1, 3072]⟩
abbrev S1x1x128 : Shape := ⟨3, ![1, 1, 128]⟩
abbrev S1x3x3072 : Shape := ⟨3, ![1, 3, 3072]⟩
abbrev S1x32x64x128 : Shape := ⟨4, ![1, 32, 64, 128]⟩
abbrev S7x128 : Shape := ⟨2, ![7, 128]⟩
abbrev S8x128 : Shape := ⟨2, ![8, 128]⟩
abbrev S8x2048 : Shape := ⟨2, ![8, 2048]⟩
abbrev S1x512 : Shape := ⟨2, ![1, 512]⟩
abbrev S7x512 : Shape := ⟨2, ![7, 512]⟩
abbrev S8x512 : Shape := ⟨2, ![8, 512]⟩
abbrev S512x128 : Shape := ⟨2, ![512, 128]⟩
abbrev S1x8x64x128 : Shape := ⟨4, ![1, 8, 64, 128]⟩
abbrev S8x64x128 : Shape := ⟨3, ![8, 64, 128]⟩
abbrev S512 : Shape := ⟨1, ![512]⟩
abbrev S512x1 : Shape := ⟨2, ![512, 1]⟩
abbrev S2048x1 : Shape := ⟨2, ![2048, 1]⟩
abbrev S128x128 : Shape := ⟨2, ![128, 128]⟩
abbrev S1 : Shape := ⟨1, ![1]⟩
abbrev S1x1 : Shape := ⟨2, ![1, 1]⟩
abbrev S1x1x512 : Shape := ⟨3, ![1, 1, 512]⟩

abbrev nBuf : Space → Nat
  | .hbm => 61
  | .vmem => 21
  | .smem => 0
  | _ => 0

abbrev bufTy : (tb : Table) → Fin (tcTables nBuf tb) → BufTy
  | .hbm, ⟨0, _⟩ => ⟨S32x2048, .f32⟩
  | .hbm, ⟨1, _⟩ => ⟨S32x3072, .f32⟩
  | .hbm, ⟨2, _⟩ => ⟨S32x32, .f32⟩
  | .hbm, ⟨3, _⟩ => ⟨S32x3x3072, .f32⟩
  | .hbm, ⟨4, _⟩ => ⟨S32x32x64x128, .f32⟩
  | .hbm, ⟨5, _⟩ => ⟨S4x3072, .f32⟩
  | .hbm, ⟨6, _⟩ => ⟨S3072, .f32⟩
  | .hbm, ⟨7, _⟩ => ⟨S32, .f32⟩
  | .hbm, ⟨8, _⟩ => ⟨S32, .f32⟩
  | .hbm, ⟨9, _⟩ => ⟨S32, .f32⟩
  | .hbm, ⟨10, _⟩ => ⟨S2048, .f32⟩
  | .hbm, ⟨11, _⟩ => ⟨S_, .i32⟩
  | .hbm, ⟨12, _⟩ => ⟨S_, .f32⟩
  | .hbm, ⟨13, _⟩ => ⟨S32x128, .f32⟩
  | .hbm, ⟨14, _⟩ => ⟨S32, .f32⟩
  | .hbm, ⟨15, _⟩ => ⟨S32, .f32⟩
  | .hbm, ⟨16, _⟩ => ⟨S128, .i32⟩
  | .hbm, ⟨17, _⟩ => ⟨S128x1, .i32⟩
  | .hbm, ⟨18, _⟩ => ⟨S2048, .i32⟩
  | .hbm, ⟨19, _⟩ => ⟨S_, .i32⟩
  | .hbm, ⟨20, _⟩ => ⟨S_, .i32⟩
  | .hbm, ⟨21, _⟩ => ⟨S2048, .i32⟩
  | .hbm, ⟨22, _⟩ => ⟨S2048, .i32⟩
  | .hbm, ⟨23, _⟩ => ⟨S2048, .i32⟩
  | .hbm, ⟨24, _⟩ => ⟨S_, .i32⟩
  | .hbm, ⟨25, _⟩ => ⟨S2048, .i32⟩
  | .hbm, ⟨26, _⟩ => ⟨S2048, .i1⟩
  | .hbm, ⟨27, _⟩ => ⟨S2048, .i32⟩
  | .hbm, ⟨28, _⟩ => ⟨S2048, .i32⟩
  | .hbm, ⟨29, _⟩ => ⟨S_, .i32⟩
  | .hbm, ⟨30, _⟩ => ⟨S2048, .i32⟩
  | .hbm, ⟨31, _⟩ => ⟨S2048, .i1⟩
  | .hbm, ⟨32, _⟩ => ⟨S2048, .i1⟩
  | .hbm, ⟨33, _⟩ => ⟨S_, .i32⟩
  | .hbm, ⟨34, _⟩ => ⟨S2048, .i32⟩
  | .hbm, ⟨35, _⟩ => ⟨S2048, .i32⟩
  | .hbm, ⟨36, _⟩ => ⟨S2048, .i32⟩
  | .hbm, ⟨37, _⟩ => ⟨S1x2048, .i32⟩
  | .hbm, ⟨38, _⟩ => ⟨S128x2048, .i32⟩
  | .hbm, ⟨39, _⟩ => ⟨S128x2048, .i32⟩
  | .hbm, ⟨40, _⟩ => ⟨S128x2048, .i1⟩
  | .hbm, ⟨41, _⟩ => ⟨S128x2048, .bf16⟩
  | .hbm, ⟨42, _⟩ => ⟨S32x1x2048, .f32⟩
  | .hbm, ⟨43, _⟩ => ⟨S32x1x3072, .f32⟩
  | .hbm, ⟨44, _⟩ => ⟨S32x1x128, .f32⟩
  | .hbm, ⟨45, _⟩ => ⟨S1x3072, .f32⟩
  | .hbm, ⟨46, _⟩ => ⟨S_, .i32⟩
  | .hbm, ⟨47, _⟩ => ⟨S_, .f32⟩
  | .hbm, ⟨48, _⟩ => ⟨S128, .f32⟩
  | .hbm, ⟨49, _⟩ => ⟨S1x128, .f32⟩
  | .hbm, ⟨50, _⟩ => ⟨S_, .i32⟩
  | .hbm, ⟨51, _⟩ => ⟨S_, .f32⟩
  | .hbm, ⟨52, _⟩ => ⟨S128, .f32⟩
  | .hbm, ⟨53, _⟩ => ⟨S1x128, .f32⟩
  | .hbm, ⟨54, _⟩ => ⟨S_, .i32⟩
  | .hbm, ⟨55, _⟩ => ⟨S_, .f32⟩
  | .hbm, ⟨56, _⟩ => ⟨S128, .f32⟩
  | .hbm, ⟨57, _⟩ => ⟨S1x128, .f32⟩
  | .hbm, ⟨58, _⟩ => ⟨S1x2048, .f32⟩
  | .hbm, ⟨59, _⟩ => ⟨S32x1x2048, .bf16⟩
  | .hbm, ⟨60, _⟩ => ⟨S32x32x64x128, .f32⟩
  | .local _ .vmem, ⟨0, _⟩ => ⟨S1x1x2048, .f32⟩
  | .local _ .vmem, ⟨1, _⟩ => ⟨S1x1x2048, .f32⟩
  | .local _ .vmem, ⟨2, _⟩ => ⟨S1x1x3072, .f32⟩
  | .local _ .vmem, ⟨3, _⟩ => ⟨S1x1x3072, .f32⟩
  | .local _ .vmem, ⟨4, _⟩ => ⟨S1x1x128, .f32⟩
  | .local _ .vmem, ⟨5, _⟩ => ⟨S1x1x128, .f32⟩
  | .local _ .vmem, ⟨6, _⟩ => ⟨S1x3x3072, .f32⟩
  | .local _ .vmem, ⟨7, _⟩ => ⟨S1x3x3072, .f32⟩
  | .local _ .vmem, ⟨8, _⟩ => ⟨S1x32x64x128, .f32⟩
  | .local _ .vmem, ⟨9, _⟩ => ⟨S1x32x64x128, .f32⟩
  | .local _ .vmem, ⟨10, _⟩ => ⟨S4x3072, .f32⟩
  | .local _ .vmem, ⟨11, _⟩ => ⟨S1x3072, .f32⟩
  | .local _ .vmem, ⟨12, _⟩ => ⟨S1x128, .f32⟩
  | .local _ .vmem, ⟨13, _⟩ => ⟨S1x128, .f32⟩
  | .local _ .vmem, ⟨14, _⟩ => ⟨S1x128, .f32⟩
  | .local _ .vmem, ⟨15, _⟩ => ⟨S1x2048, .f32⟩
  | .local _ .vmem, ⟨16, _⟩ => ⟨S128x2048, .bf16⟩
  | .local _ .vmem, ⟨17, _⟩ => ⟨S1x1x2048, .bf16⟩
  | .local _ .vmem, ⟨18, _⟩ => ⟨S1x1x2048, .bf16⟩
  | .local _ .vmem, ⟨19, _⟩ => ⟨S1x32x64x128, .f32⟩
  | .local _ .vmem, ⟨20, _⟩ => ⟨S1x32x64x128, .f32⟩
  | _, _ => ⟨S32x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_call0_v0 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_call1_v0 : Ref sig .tc := ⟨.hbm, 20, rfl⟩
abbrev main_call1_v1 : Ref sig .tc := ⟨.hbm, 21, rfl⟩
abbrev main_call1_v2 : Ref sig .tc := ⟨.hbm, 22, rfl⟩
abbrev main_call1_v3 : Ref sig .tc := ⟨.hbm, 23, rfl⟩
abbrev main_call1_v4 : Ref sig .tc := ⟨.hbm, 24, rfl⟩
abbrev main_call1_v5 : Ref sig .tc := ⟨.hbm, 25, rfl⟩
abbrev main_call1_v6 : Ref sig .tc := ⟨.hbm, 26, rfl⟩
abbrev main_call1_v7 : Ref sig .tc := ⟨.hbm, 27, rfl⟩
abbrev main_call1_v8 : Ref sig .tc := ⟨.hbm, 28, rfl⟩
abbrev main_call1_c : Ref sig .tc := ⟨.hbm, 29, rfl⟩
abbrev main_call1_v9 : Ref sig .tc := ⟨.hbm, 30, rfl⟩
abbrev main_call1_v10 : Ref sig .tc := ⟨.hbm, 31, rfl⟩
abbrev main_call1_v11 : Ref sig .tc := ⟨.hbm, 32, rfl⟩
abbrev main_call1_c_0 : Ref sig .tc := ⟨.hbm, 33, rfl⟩
abbrev main_call1_v12 : Ref sig .tc := ⟨.hbm, 34, rfl⟩
abbrev main_call1_v13 : Ref sig .tc := ⟨.hbm, 35, rfl⟩
abbrev main_v6 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_c_1 : Ref sig .tc := ⟨.hbm, 46, rfl⟩
abbrev main_call2_v0 : Ref sig .tc := ⟨.hbm, 47, rfl⟩
abbrev main_v16 : Ref sig .tc := ⟨.hbm, 48, rfl⟩
abbrev main_v17 : Ref sig .tc := ⟨.hbm, 49, rfl⟩
abbrev main_c_2 : Ref sig .tc := ⟨.hbm, 50, rfl⟩
abbrev main_call3_v0 : Ref sig .tc := ⟨.hbm, 51, rfl⟩
abbrev main_v18 : Ref sig .tc := ⟨.hbm, 52, rfl⟩
abbrev main_v19 : Ref sig .tc := ⟨.hbm, 53, rfl⟩
abbrev main_c_3 : Ref sig .tc := ⟨.hbm, 54, rfl⟩
abbrev main_call4_v0 : Ref sig .tc := ⟨.hbm, 55, rfl⟩
abbrev main_v20 : Ref sig .tc := ⟨.hbm, 56, rfl⟩
abbrev main_v21 : Ref sig .tc := ⟨.hbm, 57, rfl⟩
abbrev main_v22 : Ref sig .tc := ⟨.hbm, 58, rfl⟩
abbrev main_v23_0 : Ref sig .tc := ⟨.hbm, 59, rfl⟩
abbrev main_v23_1 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem12_1 : DmaSem sig := 18
abbrev cc0_sem13_0 : DmaSem sig := 19
abbrev cc0_sem13_1 : DmaSem sig := 20

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x1x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x3x3072 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x32x64x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S4x3072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x3072 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x2048 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S1x1x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x32x64x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== ReferenceIdeal.lean ====
abbrev S32x2048 : Shape := ⟨2, ![32, 2048]⟩
abbrev S32x3072 : Shape := ⟨2, ![32, 3072]⟩
abbrev S32x32 : Shape := ⟨2, ![32, 32]⟩
abbrev S32x3x3072 : Shape := ⟨3, ![32, 3, 3072]⟩
abbrev S32x32x64x128 : Shape := ⟨4, ![32, 32, 64, 128]⟩
abbrev S4x3072 : Shape := ⟨2, ![4, 3072]⟩
abbrev S3072 : Shape := ⟨1, ![3072]⟩
abbrev S32 : Shape := ⟨1, ![32]⟩
abbrev S2048 : Shape := ⟨1, ![2048]⟩
abbrev S32x1x3072 : Shape := ⟨3, ![32, 1, 3072]⟩
abbrev S32x4x3072 : Shape := ⟨3, ![32, 4, 3072]⟩
abbrev S1x3072 : Shape := ⟨2, ![1, 3072]⟩
abbrev S_ : Shape := ⟨0, ![]⟩
abbrev S32x32x64 : Shape := ⟨3, ![32, 32, 64]⟩
abbrev S32x512 : Shape := ⟨2, ![32, 512]⟩
abbrev S32x4x128 : Shape := ⟨3, ![32, 4, 128]⟩
abbrev S32x4x8x128 : Shape := ⟨4, ![32, 4, 8, 128]⟩
abbrev S32x32x128 : Shape := ⟨3, ![32, 32, 128]⟩
abbrev S1x32 : Shape := ⟨2, ![1, 32]⟩
abbrev S32x32x1 : Shape := ⟨3, ![32, 32, 1]⟩
abbrev S32x32x1x1 : Shape := ⟨4, ![32, 32, 1, 1]⟩
abbrev S32x32x64x1 : Shape := ⟨4, ![32, 32, 64, 1]⟩
abbrev S32x32x1x128 : Shape := ⟨4, ![32, 32, 1, 128]⟩
abbrev S32x1 : Shape := ⟨2, ![32, 1]⟩
abbrev S1x32x1 : Shape := ⟨3, ![1, 32, 1]⟩
abbrev S32x4x512 : Shape := ⟨3, ![32, 4, 512]⟩
abbrev S4x512 : Shape := ⟨2, ![4, 512]⟩
abbrev S32x4 : Shape := ⟨2, ![32, 4]⟩
abbrev S32x4x1 : Shape := ⟨3, ![32, 4, 1]⟩
abbrev S1x4x512 : Shape := ⟨3, ![1, 4, 512]⟩
abbrev S32x1x2048 : Shape := ⟨3, ![32, 1, 2048]⟩

abbrev nBuf : Space → Nat
  | .hbm => 145
  | .vmem => 0
  | .smem => 0
  | _ => 0

abbrev hbmTy0_0 (i : Nat) : BufTy := match i % 128 with
  | 0 => ⟨S32x2048, .f32⟩
  | 1 => ⟨S32x3072, .f32⟩
  | 2 => ⟨S32x32, .f32⟩
  | 3 => ⟨S32x3x3072, .f32⟩
  | 4 => ⟨S32x32x64x128, .f32⟩
  | 5 => ⟨S4x3072, .f32⟩
  | 6 => ⟨S3072, .f32⟩
  | 7 => ⟨S32, .f32⟩
  | 8 => ⟨S32, .f32⟩
  | 9 => ⟨S32, .f32⟩
  | 10 => ⟨S2048, .f32⟩
  | 11 => ⟨S32x1x3072, .f32⟩
  | 12 => ⟨S32x4x3072, .f32⟩
  | 13 => ⟨S32x1x3072, .f32⟩
  | 14 => ⟨S32x3072, .f32⟩
  | 15 => ⟨S1x3072, .f32⟩
  | 16 => ⟨S3072, .f32⟩
  | 17 => ⟨S1x3072, .f32⟩
  | 18 => ⟨S32x3072, .f32⟩
  | 19 => ⟨S32x3072, .f32⟩
  | 20 => ⟨S_, .f32⟩
  | 21 => ⟨S32x3072, .f32⟩
  | 22 => ⟨S32x3072, .f32⟩
  | 23 => ⟨S32x1x3072, .f32⟩
  | 24 => ⟨S32x3072, .f32⟩
  | 25 => ⟨S1x3072, .f32⟩
  | 26 => ⟨S3072, .f32⟩
  | 27 => ⟨S1x3072, .f32⟩
  | 28 => ⟨S32x3072, .f32⟩
  | 29 => ⟨S32x3072, .f32⟩
  | 30 => ⟨S32x3072, .f32⟩
  | 31 => ⟨S32x1x3072, .f32⟩
  | 32 => ⟨S32x3072, .f32⟩
  | 33 => ⟨S1x3072, .f32⟩
  | 34 => ⟨S3072, .f32⟩
  | 35 => ⟨S1x3072, .f32⟩
  | 36 => ⟨S32x3072, .f32⟩
  | 37 => ⟨S32x3072, .f32⟩
  | 38 => ⟨S32x3072, .f32⟩
  | 39 => ⟨S32x1x3072, .f32⟩
  | 40 => ⟨S32x3072, .f32⟩
  | 41 => ⟨S1x3072, .f32⟩
  | 42 => ⟨S3072, .f32⟩
  | 43 => ⟨S1x3072, .f32⟩
  | 44 => ⟨S32x3072, .f32⟩
  | 45 => ⟨S32x3072, .f32⟩
  | 46 => ⟨S32x3072, .f32⟩
  | 47 => ⟨S1x3072, .f32⟩
  | 48 => ⟨S32x3072, .f32⟩
  | 49 => ⟨S32x3072, .f32⟩
  | 50 => ⟨S32x3072, .f32⟩
  | 51 => ⟨S32x3072, .f32⟩
  | 52 => ⟨S_, .f32⟩
  | 53 => ⟨S32x3072, .f32⟩
  | 54 => ⟨S32x3072, .f32⟩
  | 55 => ⟨S_, .f32⟩
  | 56 => ⟨S32x3072, .f32⟩
  | 57 => ⟨S32x3072, .f32⟩
  | 58 => ⟨S32x3072, .f32⟩
  | 59 => ⟨S32x2048, .f32⟩
  | 60 => ⟨S32x32x64, .f32⟩
  | 61 => ⟨S32x512, .f32⟩
  | 62 => ⟨S32x4x128, .f32⟩
  | 63 => ⟨S32x512, .f32⟩
  | 64 => ⟨S32x4x128, .f32⟩
  | 65 => ⟨S32x4x8x128, .f32⟩
  | 66 => ⟨S32x32x128, .f32⟩
  | 67 => ⟨S32x4x8x128, .f32⟩
  | 68 => ⟨S32x32x128, .f32⟩
  | 69 => ⟨S1x32, .f32⟩
  | 70 => ⟨S32x32, .f32⟩
  | 71 => ⟨S32x32, .f32⟩
  | 72 => ⟨S_, .f32⟩
  | 73 => ⟨S32x32, .f32⟩
  | 74 => ⟨S32x32, .f32⟩
  | 75 => ⟨S32x32, .f32⟩
  | 76 => ⟨S32x32, .f32⟩
  | 77 => ⟨S32x32, .i1⟩
  | 78 => ⟨S32x32, .f32⟩
  | 79 => ⟨S32x32, .f32⟩
  | 80 => ⟨S32x32, .f32⟩
  | 81 => ⟨S32x32, .f32⟩
  | 82 => ⟨S32x32, .f32⟩
  | 83 => ⟨S32x32, .f32⟩
  | 84 => ⟨S32x32, .f32⟩
  | 85 => ⟨S32x32, .f32⟩
  | 86 => ⟨S32, .f32⟩
  | 87 => ⟨S32, .f32⟩
  | 88 => ⟨S32x32x1, .f32⟩
  | 89 => ⟨S32x32x64, .f32⟩
  | 90 => ⟨S32x32x64, .f32⟩
  | 91 => ⟨S1x32, .f32⟩
  | 92 => ⟨S32x32, .f32⟩
  | 93 => ⟨S32x32, .f32⟩
  | 94 => ⟨S32x32, .f32⟩
  | 95 => ⟨S32x32x1x1, .f32⟩
  | 96 => ⟨S32x32x64x128, .f32⟩
  | 97 => ⟨S32x32x64x128, .f32⟩
  | 98 => ⟨S32x32x64x1, .f32⟩
  | 99 => ⟨S32x32x1x128, .f32⟩
  | 100 => ⟨S32x32x64x128, .f32⟩
  | 101 => ⟨S32x32x64x128, .f32⟩
  | 102 => ⟨S32x32x64x128, .f32⟩
  | 103 => ⟨S32x32x64x128, .f32⟩
  | 104 => ⟨S32x32x1x128, .f32⟩
  | 105 => ⟨S32x32x64x128, .f32⟩
  | 106 => ⟨S32x32x64x128, .f32⟩
  | 107 => ⟨S_, .f32⟩
  | 108 => ⟨S32x32x64, .f32⟩
  | 109 => ⟨S32x1, .f32⟩
  | 110 => ⟨S1x32x1, .f32⟩
  | 111 => ⟨S32x32x64, .f32⟩
  | 112 => ⟨S32x32x64, .f32⟩
  | 113 => ⟨S32x32x64, .f32⟩
  | 114 => ⟨S32x2048, .f32⟩
  | 115 => ⟨S32x2048, .f32⟩
  | 116 => ⟨S32x2048, .f32⟩
  | 117 => ⟨S_, .f32⟩
  | 118 => ⟨S32x2048, .f32⟩
  | 119 => ⟨S32x2048, .f32⟩
  | 120 => ⟨S_, .f32⟩
  | 121 => ⟨S32x2048, .f32⟩
  | 122 => ⟨S32x2048, .f32⟩
  | 123 => ⟨S32x2048, .f32⟩
  | 124 => ⟨S32x2048, .f32⟩
  | 125 => ⟨S32x4x512, .f32⟩
  | 126 => ⟨S4x512, .f32⟩
  | 127 => ⟨S32x4x512, .f32⟩
  | _ => ⟨S32x2048, .f32⟩

abbrev hbmTy0_1 (i : Nat) : BufTy := match i % 128 with
  | 0 => ⟨S_, .f32⟩
  | 1 => ⟨S32x4, .f32⟩
  | 2 => ⟨S32x4x1, .f32⟩
  | 3 => ⟨S_, .f32⟩
  | 4 => ⟨S32x4x1, .f32⟩
  | 5 => ⟨S32x4x1, .f32⟩
  | 6 => ⟨S_, .f32⟩
  | 7 => ⟨S32x4x1, .f32⟩
  | 8 => ⟨S32x4x1, .f32⟩
  | 9 => ⟨S32x4x1, .f32⟩
  | 10 => ⟨S32x4x512, .f32⟩
  | 11 => ⟨S32x4x512, .f32⟩
  | 12 => ⟨S1x4x512, .f32⟩
  | 13 => ⟨S32x4x512, .f32⟩
  | 14 => ⟨S32x4x512, .f32⟩
  | 15 => ⟨S32x1x2048, .f32⟩
  | 16 => ⟨S32x1x2048, .bf16⟩
  | _ => ⟨S32x2048, .f32⟩

abbrev hbmTy (i : Nat) : BufTy := match i / 128 with
  | 0 => hbmTy0_0 i
  | 1 => hbmTy0_1 i
  | _ => ⟨S32x2048, .f32⟩

abbrev bufTy : (tb : Table) → Fin (tcTables nBuf tb) → BufTy
  | .hbm, ⟨i, _⟩ => hbmTy i
  | _, _ => ⟨S32x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_call0_v0 : Ref sig .tc := ⟨.hbm, 50, rfl⟩
abbrev main_call0_v1 : Ref sig .tc := ⟨.hbm, 51, rfl⟩
abbrev main_call0_cst : Ref sig .tc := ⟨.hbm, 52, rfl⟩
abbrev main_call0_v2 : Ref sig .tc := ⟨.hbm, 53, rfl⟩
abbrev main_call0_v3 : Ref sig .tc := ⟨.hbm, 54, rfl⟩
abbrev main_call0_cst_0 : Ref sig .tc := ⟨.hbm, 55, rfl⟩
abbrev main_call0_v4 : Ref sig .tc := ⟨.hbm, 56, rfl⟩
abbrev main_call0_v5 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_call1_cst : Ref sig .tc := ⟨.hbm, 72, rfl⟩
abbrev main_call1_v0 : Ref sig .tc := ⟨.hbm, 73, rfl⟩
abbrev main_call1_v1 : Ref sig .tc := ⟨.hbm, 74, rfl⟩
abbrev main_call1_v2 : Ref sig .tc := ⟨.hbm, 75, rfl⟩
abbrev main_call1_v3 : Ref sig .tc := ⟨.hbm, 76, rfl⟩
abbrev main_call1_v4 : Ref sig .tc := ⟨.hbm, 77, rfl⟩
abbrev main_call1_v5 : Ref sig .tc := ⟨.hbm, 78, rfl⟩
abbrev main_call1_v6 : Ref sig .tc := ⟨.hbm, 79, rfl⟩
abbrev main_call1_v7 : Ref sig .tc := ⟨.hbm, 80, rfl⟩
abbrev main_call1_v8 : Ref sig .tc := ⟨.hbm, 81, rfl⟩
abbrev main_call1_v9 : Ref sig .tc := ⟨.hbm, 82, rfl⟩
abbrev main_call1_v10 : Ref sig .tc := ⟨.hbm, 83, rfl⟩
abbrev main_call1_v11 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_cst_0 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_call2_v0 : Ref sig .tc := ⟨.hbm, 115, rfl⟩
abbrev main_call2_v1 : Ref sig .tc := ⟨.hbm, 116, rfl⟩
abbrev main_call2_cst : Ref sig .tc := ⟨.hbm, 117, rfl⟩
abbrev main_call2_v2 : Ref sig .tc := ⟨.hbm, 118, rfl⟩
abbrev main_call2_v3 : Ref sig .tc := ⟨.hbm, 119, rfl⟩
abbrev main_call2_cst_0 : Ref sig .tc := ⟨.hbm, 120, rfl⟩
abbrev main_call2_v4 : Ref sig .tc := ⟨.hbm, 121, rfl⟩
abbrev main_call2_v5 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_cst_1 : Ref sig .tc := ⟨.hbm, 128, rfl⟩
abbrev main_v86 : Ref sig .tc := ⟨.hbm, 129, rfl⟩
abbrev main_v87 : Ref sig .tc := ⟨.hbm, 130, rfl⟩
abbrev main_cst_2 : Ref sig .tc := ⟨.hbm, 131, rfl⟩
abbrev main_v88 : Ref sig .tc := ⟨.hbm, 132, rfl⟩
abbrev main_v89 : Ref sig .tc := ⟨.hbm, 133, rfl⟩
abbrev main_cst_3 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩

abbrev nD : Nat := 1
abbrev τ : Topo := Topo.v7x

variable {F : FTy → Type} [FloatOps F]
-- ==== Kernel2.lean ====
abbrev S33792x1024 : Shape := ⟨2, ![33792, 1024]⟩
abbrev S1024 : Shape := ⟨1, ![1024]⟩
abbrev S1024x5632 : Shape := ⟨2, ![1024, 5632]⟩
abbrev S2816x1024 : Shape := ⟨2, ![2816, 1024]⟩
abbrev S1x1024 : Shape := ⟨2, ![1, 1024]⟩
abbrev S1024x1024 : Shape := ⟨2, ![1024, 1024]⟩
abbrev S1024x1 : Shape := ⟨2, ![1024, 1]⟩
abbrev S1024x256 : Shape := ⟨2, ![1024, 256]⟩
abbrev S256x1024 : Shape := ⟨2, ![256, 1024]⟩

abbrev nBuf : Space → Nat
  | .hbm => 8
  | .vmem => 9
  | .smem => 0
  | _ => 0

abbrev bufTy : (tb : Table) → Fin (tcTables nBuf tb) → BufTy
  | .hbm, ⟨0, _⟩ => ⟨S33792x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S1024x5632, .bf16⟩
  | .hbm, ⟨5, _⟩ => ⟨S2816x1024, .bf16⟩
  | .hbm, ⟨6, _⟩ => ⟨S1x1024, .f32⟩
  | .hbm, ⟨7, _⟩ => ⟨S33792x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x5632, .bf16⟩
  | .local _ .vmem, ⟨4, _⟩ => ⟨S2816x1024, .bf16⟩
  | .local _ .vmem, ⟨5, _⟩ => ⟨S1024x1024, .f32⟩
  | .local _ .vmem, ⟨6, _⟩ => ⟨S1024x1024, .f32⟩
  | .local _ .vmem, ⟨7, _⟩ => ⟨S1024x1024, .bf16⟩
  | .local _ .vmem, ⟨8, _⟩ => ⟨S1024x1024, .f32⟩
  | _, _ => ⟨S33792x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference2Ideal.lean ====
abbrev S33792x1024 : Shape := ⟨2, ![33792, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S33792 : Shape := ⟨1, ![33792]⟩
abbrev S33792x1 : Shape := ⟨2, ![33792, 1]⟩
abbrev S1x1024 : Shape := ⟨2, ![1, 1024]⟩
abbrev S33792x5632 : Shape := ⟨2, ![33792, 5632]⟩
abbrev S33792x2816 : Shape := ⟨2, ![33792, 2816]⟩

abbrev nBuf : Space → Nat
  | .hbm => 38
  | .vmem => 0
  | .smem => 0
  | _ => 0

abbrev bufTy : (tb : Table) → Fin (tcTables nBuf tb) → BufTy
  | .hbm, ⟨0, _⟩ => ⟨S33792x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S33792x1024, .f32⟩
  | .hbm, ⟨5, _⟩ => ⟨S_, .f32⟩
  | .hbm, ⟨6, _⟩ => ⟨S33792, .f32⟩
  | .hbm, ⟨7, _⟩ => ⟨S33792x1, .f32⟩
  | .hbm, ⟨8, _⟩ => ⟨S_, .f32⟩
  | .hbm, ⟨9, _⟩ => ⟨S33792x1, .f32⟩
  | .hbm, ⟨10, _⟩ => ⟨S33792x1, .f32⟩
  | .hbm, ⟨11, _⟩ => ⟨S_, .f32⟩
  | .hbm, ⟨12, _⟩ => ⟨S33792x1, .f32⟩
  | .hbm, ⟨13, _⟩ => ⟨S33792x1, .f32⟩
  | .hbm, ⟨14, _⟩ => ⟨S33792x1, .f32⟩
  | .hbm, ⟨15, _⟩ => ⟨S33792x1024, .f32⟩
  | .hbm, ⟨16, _⟩ => ⟨S33792x1024, .f32⟩
  | .hbm, ⟨17, _⟩ => ⟨S1x1024, .f32⟩
  | .hbm, ⟨18, _⟩ => ⟨S33792x1024, .f32⟩
  | .hbm, ⟨19, _⟩ => ⟨S33792x1024, .f32⟩
  | .hbm, ⟨20, _⟩ => ⟨S33792x5632, .f32⟩
  | .hbm, ⟨21, _⟩ => ⟨S33792x2816, .f32⟩
  | .hbm, ⟨22, _⟩ => ⟨S33792x2816, .f32⟩
  | .hbm, ⟨23, _⟩ => ⟨S33792x2816, .f32⟩
  | .hbm, ⟨24, _⟩ => ⟨S33792x2816, .f32⟩
  | .hbm, ⟨25, _⟩ => ⟨S_, .f32⟩
  | .hbm, ⟨26, _⟩ => ⟨S33792x2816, .f32⟩
  | .hbm, ⟨27, _⟩ => ⟨S33792x2816, .f32⟩
  | .hbm, ⟨28, _⟩ => ⟨S_, .f32⟩
  | .hbm, ⟨29, _⟩ => ⟨S33792x2816, .f32⟩
  | .hbm, ⟨30, _⟩ => ⟨S33792x2816, .f32⟩
  | .hbm, ⟨31, _⟩ => ⟨S33792x2816, .f32⟩
  | .hbm, ⟨32, _⟩ => ⟨S33792x2816, .f32⟩
  | .hbm, ⟨33, _⟩ => ⟨S33792x1024, .f32⟩
  | .hbm, ⟨34, _⟩ => ⟨S_, .f32⟩
  | .hbm, ⟨35, _⟩ => ⟨S33792x1024, .f32⟩
  | .hbm, ⟨36, _⟩ => ⟨S33792x1024, .f32⟩
  | .hbm, ⟨37, _⟩ => ⟨S33792x1024, .f32⟩
  | _, _ => ⟨S33792x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_2 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩

abbrev nD : Nat := 1
abbrev τ : Topo := Topo.v7x

variable {F : FTy → Type} [FloatOps F]
-- ==== Kernel3.lean ====
abbrev S32x1024 : Shape := ⟨2, ![32, 1024]⟩
abbrev S1024 : Shape := ⟨1, ![1024]⟩
abbrev S1024x2120 : Shape := ⟨2, ![1024, 2120]⟩
abbrev S64 : Shape := ⟨1, ![64]⟩
abbrev S1024x2048 : Shape := ⟨2, ![1024, 2048]⟩
abbrev S1024x64 : Shape := ⟨2, ![1024, 64]⟩
abbrev S_ : Shape := ⟨0, ![]⟩
abbrev S1024x128 : Shape := ⟨2, ![1024, 128]⟩
abbrev S1024x8 : Shape := ⟨2, ![1024, 8]⟩
abbrev S1024x2304 : Shape := ⟨2, ![1024, 2304]⟩
abbrev S1024x1 : Shape := ⟨2, ![1024, 1]⟩
abbrev S128 : Shape := ⟨1, ![128]⟩
abbrev S1x128 : Shape := ⟨2, ![1, 128]⟩
abbrev S128x1024 : Shape := ⟨2, ![128, 1024]⟩
abbrev S256 : Shape := ⟨1, ![256]⟩
abbrev S256x1 : Shape := ⟨2, ![256, 1]⟩
abbrev S256x128 : Shape := ⟨2, ![256, 128]⟩
abbrev S128x256 : Shape := ⟨2, ![128, 256]⟩
abbrev S1x1024 : Shape := ⟨2, ![1, 1024]⟩
abbrev S1x64 : Shape := ⟨2, ![1, 64]⟩
abbrev S16x64 : Shape := ⟨2, ![16, 64]⟩
abbrev S4x64 : Shape := ⟨2, ![4, 64]⟩
abbrev S1x256 : Shape := ⟨2, ![1, 256]⟩
abbrev S32x256 : Shape := ⟨2, ![32, 256]⟩
abbrev S32x512 : Shape := ⟨2, ![32, 512]⟩
abbrev S32x128 : Shape := ⟨2, ![32, 128]⟩
abbrev S32 : Shape := ⟨1, ![32]⟩
abbrev S32x1 : Shape := ⟨2, ![32, 1]⟩
abbrev S32x2304 : Shape := ⟨2, ![32, 2304]⟩

abbrev nBuf : Space → Nat
  | .hbm => 90
  | .vmem => 16
  | .smem => 0
  | _ => 0

abbrev bufTy : (tb : Table) → Fin (tcTables nBuf tb) → BufTy
  | .hbm, ⟨0, _⟩ => ⟨S32x1024, .f32⟩
  | .hbm, ⟨1, _⟩ => ⟨S1024, .f32⟩
  | .hbm, ⟨2, _⟩ => ⟨S1024x2120, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S1024x2048, .f32⟩
  | .hbm, ⟨7, _⟩ => ⟨S1024x64, .f32⟩
  | .hbm, ⟨8, _⟩ => ⟨S_, .i32⟩
  | .hbm, ⟨9, _⟩ => ⟨S_, .f32⟩
  | .hbm, ⟨10, _⟩ => ⟨S1024x128, .f32⟩
  | .hbm, ⟨11, _⟩ => ⟨S1024x8, .f32⟩
  | .hbm, ⟨12, _⟩ => ⟨S_, .i32⟩
  | .hbm, ⟨13, _⟩ => ⟨S_, .f32⟩
  | .hbm, ⟨14, _⟩ => ⟨S1024x128, .f32⟩
  | .hbm, ⟨15, _⟩ => ⟨S1024x2304, .f32⟩
  | .hbm, ⟨16, _⟩ => ⟨S1024x2304, .bf16⟩
  | .hbm, ⟨17, _⟩ => ⟨S1024, .i32⟩
  | .hbm, ⟨18, _⟩ => ⟨S_, .i32⟩
  | .hbm, ⟨19, _⟩ => ⟨S_, .i32⟩
  | .hbm, ⟨20, _⟩ => ⟨S1024, .i32⟩
  | .hbm, ⟨21, _⟩ => ⟨S1024, .i32⟩
  | .hbm, ⟨22, _⟩ => ⟨S1024, .i32⟩
  | .hbm, ⟨23, _⟩ => ⟨S_, .i32⟩
  | .hbm, ⟨24, _⟩ => ⟨S1024, .i32⟩
  | .hbm, ⟨25, _⟩ => ⟨S1024, .i1⟩
  | .hbm, ⟨26, _⟩ => ⟨S1024, .i32⟩
  | .hbm, ⟨27, _⟩ => ⟨S1024, .i32⟩
  | .hbm, ⟨28, _⟩ => ⟨S_, .i32⟩
  | .hbm, ⟨29, _⟩ => ⟨S1024, .i32⟩
  | .hbm, ⟨30, _⟩ => ⟨S1024, .i1⟩
  | .hbm, ⟨31, _⟩ => ⟨S1024, .i1⟩
  | .hbm, ⟨32, _⟩ => ⟨S_, .i32⟩
  | .hbm, ⟨33, _⟩ => ⟨S1024, .i32⟩
  | .hbm, ⟨34, _⟩ => ⟨S1024, .i32⟩
  | .hbm, ⟨35, _⟩ => ⟨S1024, .i32⟩
  | .hbm, ⟨36, _⟩ => ⟨S1024x1, .i32⟩
  | .hbm, ⟨37, _⟩ => ⟨S128, .i32⟩
  | .hbm, ⟨38, _⟩ => ⟨S1x128, .i32⟩
  | .hbm, ⟨39, _⟩ => ⟨S1024x128, .i32⟩
  | .hbm, ⟨40, _⟩ => ⟨S1024x128, .i32⟩
  | .hbm, ⟨41, _⟩ => ⟨S1024x128, .i1⟩
  | .hbm, ⟨42, _⟩ => ⟨S1024x128, .bf16⟩
  | .hbm, ⟨43, _⟩ => ⟨S128x1024, .bf16⟩
  | .hbm, ⟨44, _⟩ => ⟨S256, .i32⟩
  | .hbm, ⟨45, _⟩ => ⟨S_, .i32⟩
  | .hbm, ⟨46, _⟩ => ⟨S_, .i32⟩
  | .hbm, ⟨47, _⟩ => ⟨S256, .i32⟩
  | .hbm, ⟨48, _⟩ => ⟨S256, .i32⟩
  | .hbm, ⟨49, _⟩ => ⟨S256, .i32⟩
  | .hbm, ⟨50, _⟩ => ⟨S_, .i32⟩
  | .hbm, ⟨51, _⟩ => ⟨S256, .i32⟩
  | .hbm, ⟨52, _⟩ => ⟨S256, .i1⟩
  | .hbm, ⟨53, _⟩ => ⟨S256, .i32⟩
  | .hbm, ⟨54, _⟩ => ⟨S256, .i32⟩
  | .hbm, ⟨55, _⟩ => ⟨S_, .i32⟩
  | .hbm, ⟨56, _⟩ => ⟨S256, .i32⟩
  | .hbm, ⟨57, _⟩ => ⟨S256, .i1⟩
  | .hbm, ⟨58, _⟩ => ⟨S256, .i1⟩
  | .hbm, ⟨59, _⟩ => ⟨S_, .i32⟩
  | .hbm, ⟨60, _⟩ => ⟨S256, .i32⟩
  | .hbm, ⟨61, _⟩ => ⟨S256, .i32⟩
  | .hbm, ⟨62, _⟩ => ⟨S256, .i32⟩
  | .hbm, ⟨63, _⟩ => ⟨S256x1, .i32⟩
  | .hbm, ⟨64, _⟩ => ⟨S128, .i32⟩
  | .hbm, ⟨65, _⟩ => ⟨S1x128, .i32⟩
  | .hbm, ⟨66, _⟩ => ⟨S256x128, .i32⟩
  | .hbm, ⟨67, _⟩ => ⟨S256x128, .i32⟩
  | .hbm, ⟨68, _⟩ => ⟨S256x128, .i1⟩
  | .hbm, ⟨69, _⟩ => ⟨S256x128, .bf16⟩
  | .hbm, ⟨70, _⟩ => ⟨S128x256, .bf16⟩
  | .hbm, ⟨71, _⟩ => ⟨S1x1024, .f32⟩
  | .hbm, ⟨72, _⟩ => ⟨S1x64, .f32⟩
  | .hbm, ⟨73, _⟩ => ⟨S16x64, .f32⟩
  | .hbm, ⟨74, _⟩ => ⟨S1024, .f32⟩
  | .hbm, ⟨75, _⟩ => ⟨S1x1024, .f32⟩
  | .hbm, ⟨76, _⟩ => ⟨S1x64, .f32⟩
  | .hbm, ⟨77, _⟩ => ⟨S4x64, .f32⟩
  | .hbm, ⟨78, _⟩ => ⟨S256, .f32⟩
  | .hbm, ⟨79, _⟩ => ⟨S1x256, .f32⟩
  | .hbm, ⟨80, _⟩ => ⟨S_, .i32⟩
  | .hbm, ⟨81, _⟩ => ⟨S_, .f32⟩
  | .hbm, ⟨82, _⟩ => ⟨S128, .f32⟩
  | .hbm, ⟨83, _⟩ => ⟨S1x128, .f32⟩
  | .hbm, ⟨84, _⟩ => ⟨S32x1024, .bf16⟩
  | .hbm, ⟨85, _⟩ => ⟨S32x256, .f32⟩
  | .hbm, ⟨86, _⟩ => ⟨S32x256, .f32⟩
  | .hbm, ⟨87, _⟩ => ⟨S32x512, .bf16⟩
  | .hbm, ⟨88, _⟩ => ⟨S32x128, .f32⟩
  | .hbm, ⟨89, _⟩ => ⟨S32x128, .f32⟩
  | .local _ .vmem, ⟨0, _⟩ => ⟨S32x1024, .f32⟩
  | .local _ .vmem, ⟨1, _⟩ => ⟨S1x1024, .f32⟩
  | .local _ .vmem, ⟨2, _⟩ => ⟨S1024x2304, .bf16⟩
  | .local _ .vmem, ⟨3, _⟩ => ⟨S1x1024, .f32⟩
  | .local _ .vmem, ⟨4, _⟩ => ⟨S1x256, .f32⟩
  | .local _ .vmem, ⟨5, _⟩ => ⟨S1x128, .f32⟩
  | .local _ .vmem, ⟨6, _⟩ => ⟨S1024x128, .bf16⟩
  | .local _ .vmem, ⟨7, _⟩ => ⟨S128x1024, .bf16⟩
  | .local _ .vmem, ⟨8, _⟩ => ⟨S256x128, .bf16⟩
  | .local _ .vmem, ⟨9, _⟩ => ⟨S128x256, .bf16⟩
  | .local _ .vmem, ⟨10, _⟩ => ⟨S32x1024, .bf16⟩
  | .local _ .vmem, ⟨11, _⟩ => ⟨S32x256, .f32⟩
  | .local _ .vmem, ⟨12, _⟩ => ⟨S32x256, .f32⟩
  | .local _ .vmem, ⟨13, _⟩ => ⟨S32x512, .bf16⟩
  | .local _ .vmem, ⟨14, _⟩ => ⟨S32x128, .f32⟩
  | .local _ .vmem, ⟨15, _⟩ => ⟨S32x128, .f32⟩
  | _, _ => ⟨S32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_call0_v0 : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_call1_v0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_c_1 : Ref sig .tc := ⟨.hbm, 18, rfl⟩
abbrev main_call2_v0 : Ref sig .tc := ⟨.hbm, 19, rfl⟩
abbrev main_call2_v1 : Ref sig .tc := ⟨.hbm, 20, rfl⟩
abbrev main_call2_v2 : Ref sig .tc := ⟨.hbm, 21, rfl⟩
abbrev main_call2_v3 : Ref sig .tc := ⟨.hbm, 22, rfl⟩
abbrev main_call2_v4 : Ref sig .tc := ⟨.hbm, 23, rfl⟩
abbrev main_call2_v5 : Ref sig .tc := ⟨.hbm, 24, rfl⟩
abbrev main_call2_v6 : Ref sig .tc := ⟨.hbm, 25, rfl⟩
abbrev main_call2_v7 : Ref sig .tc := ⟨.hbm, 26, rfl⟩
abbrev main_call2_v8 : Ref sig .tc := ⟨.hbm, 27, rfl⟩
abbrev main_call2_c : Ref sig .tc := ⟨.hbm, 28, rfl⟩
abbrev main_call2_v9 : Ref sig .tc := ⟨.hbm, 29, rfl⟩
abbrev main_call2_v10 : Ref sig .tc := ⟨.hbm, 30, rfl⟩
abbrev main_call2_v11 : Ref sig .tc := ⟨.hbm, 31, rfl⟩
abbrev main_call2_c_0 : Ref sig .tc := ⟨.hbm, 32, rfl⟩
abbrev main_call2_v12 : Ref sig .tc := ⟨.hbm, 33, rfl⟩
abbrev main_call2_v13 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_c_2 : Ref sig .tc := ⟨.hbm, 45, rfl⟩
abbrev main_call3_v0 : Ref sig .tc := ⟨.hbm, 46, rfl⟩
abbrev main_call3_v1 : Ref sig .tc := ⟨.hbm, 47, rfl⟩
abbrev main_call3_v2 : Ref sig .tc := ⟨.hbm, 48, rfl⟩
abbrev main_call3_v3 : Ref sig .tc := ⟨.hbm, 49, rfl⟩
abbrev main_call3_v4 : Ref sig .tc := ⟨.hbm, 50, rfl⟩
abbrev main_call3_v5 : Ref sig .tc := ⟨.hbm, 51, rfl⟩
abbrev main_call3_v6 : Ref sig .tc := ⟨.hbm, 52, rfl⟩
abbrev main_call3_v7 : Ref sig .tc := ⟨.hbm, 53, rfl⟩
abbrev main_call3_v8 : Ref sig .tc := ⟨.hbm, 54, rfl⟩
abbrev main_call3_c : Ref sig .tc := ⟨.hbm, 55, rfl⟩
abbrev main_call3_v9 : Ref sig .tc := ⟨.hbm, 56, rfl⟩
abbrev main_call3_v10 : Ref sig .tc := ⟨.hbm, 57, rfl⟩
abbrev main_call3_v11 : Ref sig .tc := ⟨.hbm, 58, rfl⟩
abbrev main_call3_c_0 : Ref sig .tc := ⟨.hbm, 59, rfl⟩
abbrev main_call3_v12 : Ref sig .tc := ⟨.hbm, 60, rfl⟩
abbrev main_call3_v13 : Ref sig .tc := ⟨.hbm, 61, rfl⟩
abbrev main_v18 : Ref sig .tc := ⟨.hbm, 62, rfl⟩
abbrev main_v19 : Ref sig .tc := ⟨.hbm, 63, rfl⟩
abbrev main_v20 : Ref sig .tc := ⟨.hbm, 64, rfl⟩
abbrev main_v21 : Ref sig .tc := ⟨.hbm, 65, rfl⟩
abbrev main_v22 : Ref sig .tc := ⟨.hbm, 66, rfl⟩
abbrev main_v23 : Ref sig .tc := ⟨.hbm, 67, rfl⟩
abbrev main_v24 : Ref sig .tc := ⟨.hbm, 68, rfl⟩
abbrev main_v25 : Ref sig .tc := ⟨.hbm, 69, rfl⟩
abbrev main_v26 : Ref sig .tc := ⟨.hbm, 70, rfl⟩
abbrev main_v27 : Ref sig .tc := ⟨.hbm, 71, rfl⟩
abbrev main_v28 : Ref sig .tc := ⟨.hbm, 72, rfl⟩
abbrev main_v29 : Ref sig .tc := ⟨.hbm, 73, rfl⟩
abbrev main_v30 : Ref sig .tc := ⟨.hbm, 74, rfl⟩
abbrev main_v31 : Ref sig .tc := ⟨.hbm, 75, rfl⟩
abbrev main_v32 : Ref sig .tc := ⟨.hbm, 76, rfl⟩
abbrev main_v33 : Ref sig .tc := ⟨.hbm, 77, rfl⟩
abbrev main_v34 : Ref sig .tc := ⟨.hbm, 78, rfl⟩
abbrev main_v35 : Ref sig .tc := ⟨.hbm, 79, rfl⟩
abbrev main_c_3 : Ref sig .tc := ⟨.hbm, 80, rfl⟩
abbrev main_call4_v0 : Ref sig .tc := ⟨.hbm, 81, rfl⟩
abbrev main_v36 : Ref sig .tc := ⟨.hbm, 82, rfl⟩
abbrev main_v37 : Ref sig .tc := ⟨.hbm, 83, rfl⟩
abbrev main_v38_0 : Ref sig .tc := ⟨.hbm, 84, rfl⟩
abbrev main_v38_1 : Ref sig .tc := ⟨.hbm, 85, rfl⟩
abbrev main_v38_2 : Ref sig .tc := ⟨.hbm, 86, rfl⟩
abbrev main_v38_3 : Ref sig .tc := ⟨.hbm, 87, rfl⟩
abbrev main_v38_4 : Ref sig .tc := ⟨.hbm, 88, rfl⟩
abbrev main_v38_5 : Ref sig .tc := ⟨.hbm, 89, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2304 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S32x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev stage0_11 : Fin 1 → Memref sig .tc .vmem S32x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]

abbrev stage0_12 : Fin 1 → Memref sig .tc .vmem S32x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]

abbrev stage0_13 : Fin 1 → Memref sig .tc .vmem S32x512 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true]

abbrev stage0_14 : Fin 1 → Memref sig .tc .vmem S32x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true]

abbrev stage0_15 : Fin 1 → Memref sig .tc .vmem S32x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![true]
-- ==== Reference3Ideal.lean ====
abbrev S32x1024 : Shape := ⟨2, ![32, 1024]⟩
abbrev S1024 : Shape := ⟨1, ![1024]⟩
abbrev S1024x2120 : Shape := ⟨2, ![1024, 2120]⟩
abbrev S64 : Shape := ⟨1, ![64]⟩
abbrev S_ : Shape := ⟨0, ![]⟩
abbrev S32 : Shape := ⟨1, ![32]⟩
abbrev S32x1 : Shape := ⟨2, ![32, 1]⟩
abbrev S1x1024 : Shape := ⟨2, ![1, 1024]⟩
abbrev S32x2120 : Shape := ⟨2, ![32, 2120]⟩
abbrev S32x256 : Shape := ⟨2, ![32, 256]⟩
abbrev S32x512 : Shape := ⟨2, ![32, 512]⟩
abbrev S32x64 : Shape := ⟨2, ![32, 64]⟩
abbrev S32x8 : Shape := ⟨2, ![32, 8]⟩
abbrev S32x16x64 : Shape := ⟨3, ![32, 16, 64]⟩
abbrev S32x16 : Shape := ⟨2, ![32, 16]⟩
abbrev S32x16x1 : Shape := ⟨3, ![32, 16, 1]⟩
abbrev S1x1x64 : Shape := ⟨3, ![1, 1, 64]⟩
abbrev S32x4x64 : Shape := ⟨3, ![32, 4, 64]⟩
abbrev S32x4 : Shape := ⟨2, ![32, 4]⟩
abbrev S32x4x1 : Shape := ⟨3, ![32, 4, 1]⟩
abbrev S1x64 : Shape := ⟨2, ![1, 64]⟩
abbrev S32x128 : Shape := ⟨2, ![32, 128]⟩

abbrev nBuf : Space → Nat
  | .hbm => 98
  | .vmem => 0
  | .smem => 0
  | _ => 0

abbrev bufTy : (tb : Table) → Fin (tcTables nBuf tb) → BufTy
  | .hbm, ⟨0, _⟩ => ⟨S32x1024, .f32⟩
  | .hbm, ⟨1, _⟩ => ⟨S1024, .f32⟩
  | .hbm, ⟨2, _⟩ => ⟨S1024x2120, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S32x1024, .f32⟩
  | .hbm, ⟨7, _⟩ => ⟨S_, .f32⟩
  | .hbm, ⟨8, _⟩ => ⟨S32, .f32⟩
  | .hbm, ⟨9, _⟩ => ⟨S32x1, .f32⟩
  | .hbm, ⟨10, _⟩ => ⟨S_, .f32⟩
  | .hbm, ⟨11, _⟩ => ⟨S32x1, .f32⟩
  | .hbm, ⟨12, _⟩ => ⟨S32x1, .f32⟩
  | .hbm, ⟨13, _⟩ => ⟨S_, .f32⟩
  | .hbm, ⟨14, _⟩ => ⟨S32x1, .f32⟩
  | .hbm, ⟨15, _⟩ => ⟨S32x1, .f32⟩
  | .hbm, ⟨16, _⟩ => ⟨S32x1, .f32⟩
  | .hbm, ⟨17, _⟩ => ⟨S32x1024, .f32⟩
  | .hbm, ⟨18, _⟩ => ⟨S32x1024, .f32⟩
  | .hbm, ⟨19, _⟩ => ⟨S1x1024, .f32⟩
  | .hbm, ⟨20, _⟩ => ⟨S32x1024, .f32⟩
  | .hbm, ⟨21, _⟩ => ⟨S32x1024, .f32⟩
  | .hbm, ⟨22, _⟩ => ⟨S32x2120, .f32⟩
  | .hbm, ⟨23, _⟩ => ⟨S32x1024, .f32⟩
  | .hbm, ⟨24, _⟩ => ⟨S32x256, .f32⟩
  | .hbm, ⟨25, _⟩ => ⟨S32x256, .f32⟩
  | .hbm, ⟨26, _⟩ => ⟨S32x512, .f32⟩
  | .hbm, ⟨27, _⟩ => ⟨S32x64, .f32⟩
  | .hbm, ⟨28, _⟩ => ⟨S32x8, .f32⟩
  | .hbm, ⟨29, _⟩ => ⟨S32x16x64, .f32⟩
  | .hbm, ⟨30, _⟩ => ⟨S32x16x64, .f32⟩
  | .hbm, ⟨31, _⟩ => ⟨S_, .f32⟩
  | .hbm, ⟨32, _⟩ => ⟨S32x16, .f32⟩
  | .hbm, ⟨33, _⟩ => ⟨S32x16x1, .f32⟩
  | .hbm, ⟨34, _⟩ => ⟨S_, .f32⟩
  | .hbm, ⟨35, _⟩ => ⟨S32x16x1, .f32⟩
  | .hbm, ⟨36, _⟩ => ⟨S32x16x1, .f32⟩
  | .hbm, ⟨37, _⟩ => ⟨S_, .f32⟩
  | .hbm, ⟨38, _⟩ => ⟨S32x16x1, .f32⟩
  | .hbm, ⟨39, _⟩ => ⟨S32x16x1, .f32⟩
  | .hbm, ⟨40, _⟩ => ⟨S32x16x1, .f32⟩
  | .hbm, ⟨41, _⟩ => ⟨S32x16x64, .f32⟩
  | .hbm, ⟨42, _⟩ => ⟨S32x16x64, .f32⟩
  | .hbm, ⟨43, _⟩ => ⟨S1x1x64, .f32⟩
  | .hbm, ⟨44, _⟩ => ⟨S32x16x64, .f32⟩
  | .hbm, ⟨45, _⟩ => ⟨S32x16x64, .f32⟩
  | .hbm, ⟨46, _⟩ => ⟨S_, .f32⟩
  | .hbm, ⟨47, _⟩ => ⟨S32x16x64, .f32⟩
  | .hbm, ⟨48, _⟩ => ⟨S32x16x64, .f32⟩
  | .hbm, ⟨49, _⟩ => ⟨S32x4x64, .f32⟩
  | .hbm, ⟨50, _⟩ => ⟨S32x4x64, .f32⟩
  | .hbm, ⟨51, _⟩ => ⟨S_, .f32⟩
  | .hbm, ⟨52, _⟩ => ⟨S32x4, .f32⟩
  | .hbm, ⟨53, _⟩ => ⟨S32x4x1, .f32⟩
  | .hbm, ⟨54, _⟩ => ⟨S_, .f32⟩
  | .hbm, ⟨55, _⟩ => ⟨S32x4x1, .f32⟩
  | .hbm, ⟨56, _⟩ => ⟨S32x4x1, .f32⟩
  | .hbm, ⟨57, _⟩ => ⟨S_, .f32⟩
  | .hbm, ⟨58, _⟩ => ⟨S32x4x1, .f32⟩
  | .hbm, ⟨59, _⟩ => ⟨S32x4x1, .f32⟩
  | .hbm, ⟨60, _⟩ => ⟨S32x4x1, .f32⟩
  | .hbm, ⟨61, _⟩ => ⟨S32x4x64, .f32⟩
  | .hbm, ⟨62, _⟩ => ⟨S32x4x64, .f32⟩
  | .hbm, ⟨63, _⟩ => ⟨S1x1x64, .f32⟩
  | .hbm, ⟨64, _⟩ => ⟨S32x4x64, .f32⟩
  | .hbm, ⟨65, _⟩ => ⟨S32x4x64, .f32⟩
  | .hbm, ⟨66, _⟩ => ⟨S_, .f32⟩
  | .hbm, ⟨67, _⟩ => ⟨S32x512, .f32⟩
  | .hbm, ⟨68, _⟩ => ⟨S32x512, .f32⟩
  | .hbm, ⟨69, _⟩ => ⟨S32x64, .f32⟩
  | .hbm, ⟨70, _⟩ => ⟨S_, .f32⟩
  | .hbm, ⟨71, _⟩ => ⟨S32, .f32⟩
  | .hbm, ⟨72, _⟩ => ⟨S32x1, .f32⟩
  | .hbm, ⟨73, _⟩ => ⟨S_, .f32⟩
  | .hbm, ⟨74, _⟩ => ⟨S32x1, .f32⟩
  | .hbm, ⟨75, _⟩ => ⟨S32x1, .f32⟩
  | .hbm, ⟨76, _⟩ => ⟨S_, .f32⟩
  | .hbm, ⟨77, _⟩ => ⟨S32x1, .f32⟩
  | .hbm, ⟨78, _⟩ => ⟨S32x1, .f32⟩
  | .hbm, ⟨79, _⟩ => ⟨S32x1, .f32⟩
  | .hbm, ⟨80, _⟩ => ⟨S32x64, .f32⟩
  | .hbm, ⟨81, _⟩ => ⟨S32x64, .f32⟩
  | .hbm, ⟨82, _⟩ => ⟨S1x64, .f32⟩
  | .hbm, ⟨83, _⟩ => ⟨S32x64, .f32⟩
  | .hbm, ⟨84, _⟩ => ⟨S32x64, .f32⟩
  | .hbm, ⟨85, _⟩ => ⟨S_, .f32⟩
  | .hbm, ⟨86, _⟩ => ⟨S32x8, .f32⟩
  | .hbm, ⟨87, _⟩ => ⟨S32x8, .f32⟩
  | .hbm, ⟨88, _⟩ => ⟨S32x1024, .f32⟩
  | .hbm, ⟨89, _⟩ => ⟨S32x1024, .bf16⟩
  | .hbm, ⟨90, _⟩ => ⟨S32x256, .f32⟩
  | .hbm, ⟨91, _⟩ => ⟨S32x512, .bf16⟩
  | .hbm, ⟨92, _⟩ => ⟨S_, .i32⟩
  | .hbm, ⟨93, _⟩ => ⟨S_, .f32⟩
  | .hbm, ⟨94, _⟩ => ⟨S32x128, .f32⟩
  | .hbm, ⟨95, _⟩ => ⟨S_, .i32⟩
  | .hbm, ⟨96, _⟩ => ⟨S_, .f32⟩
  | .hbm, ⟨97, _⟩ => ⟨S32x128, .f32⟩
  | _, _ => ⟨S32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_2 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_5 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_6 : Ref sig .tc := ⟨.hbm, 51, rfl⟩
abbrev main_v38 : Ref sig .tc := ⟨.hbm, 52, rfl⟩
abbrev main_v39 : Ref sig .tc := ⟨.hbm, 53, rfl⟩
abbrev main_cst_7 : Ref sig .tc := ⟨.hbm, 54, rfl⟩
abbrev main_v40 : Ref sig .tc := ⟨.hbm, 55, rfl⟩
abbrev main_v41 : Ref sig .tc := ⟨.hbm, 56, rfl⟩
abbrev main_cst_8 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_cst_9 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_cst_10 : Ref sig .tc := ⟨.hbm, 70, rfl⟩
abbrev main_v53 : Ref sig .tc := ⟨.hbm, 71, rfl⟩
abbrev main_v54 : Ref sig .tc := ⟨.hbm, 72, rfl⟩
abbrev main_cst_11 : Ref sig .tc := ⟨.hbm, 73, rfl⟩
abbrev main_v55 : Ref sig .tc := ⟨.hbm, 74, rfl⟩
abbrev main_v56 : Ref sig .tc := ⟨.hbm, 75, rfl⟩
abbrev main_cst_12 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_cst_13 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_c : Ref sig .tc := ⟨.hbm, 92, rfl⟩
abbrev main_call0_v0 : Ref sig .tc := ⟨.hbm, 93, rfl⟩
abbrev main_v71 : Ref sig .tc := ⟨.hbm, 94, rfl⟩
abbrev main_c_14 : Ref sig .tc := ⟨.hbm, 95, rfl⟩
abbrev main_call1_v0 : Ref sig .tc := ⟨.hbm, 96, rfl⟩
abbrev main_v72 : Ref sig .tc := ⟨.hbm, 97, rfl⟩

abbrev nD : Nat := 1
abbrev τ : Topo := Topo.v7x

variable {F : FTy → Type} [FloatOps F]
-- ==== Kernel4.lean ====
abbrev S33792x1024 : Shape := ⟨2, ![33792, 1024]⟩
abbrev S1024 : Shape := ⟨1, ![1024]⟩
abbrev S1024x2120 : Shape := ⟨2, ![1024, 2120]⟩
abbrev S64 : Shape := ⟨1, ![64]⟩
abbrev S1024x2048 : Shape := ⟨2, ![1024, 2048]⟩
abbrev S1024x64 : Shape := ⟨2, ![1024, 64]⟩
abbrev S_ : Shape := ⟨0, ![]⟩
abbrev S1024x128 : Shape := ⟨2, ![1024, 128]⟩
abbrev S1024x8 : Shape := ⟨2, ![1024, 8]⟩
abbrev S1024x2304 : Shape := ⟨2, ![1024, 2304]⟩
abbrev S1024x1 : Shape := ⟨2, ![1024, 1]⟩
abbrev S128 : Shape := ⟨1, ![128]⟩
abbrev S1x128 : Shape := ⟨2, ![1, 128]⟩
abbrev S128x1024 : Shape := ⟨2, ![128, 1024]⟩
abbrev S256 : Shape := ⟨1, ![256]⟩
abbrev S256x1 : Shape := ⟨2, ![256, 1]⟩
abbrev S256x128 : Shape := ⟨2, ![256, 128]⟩
abbrev S128x256 : Shape := ⟨2, ![128, 256]⟩
abbrev S1x1024 : Shape := ⟨2, ![1, 1024]⟩
abbrev S1x64 : Shape := ⟨2, ![1, 64]⟩
abbrev S16x64 : Shape := ⟨2, ![16, 64]⟩
abbrev S4x64 : Shape := ⟨2, ![4, 64]⟩
abbrev S1x256 : Shape := ⟨2, ![1, 256]⟩
abbrev S33792x256 : Shape := ⟨2, ![33792, 256]⟩
abbrev S33792x128 : Shape := ⟨2, ![33792, 128]⟩
abbrev S264x4x64x512 : Shape := ⟨4, ![264, 4, 64, 512]⟩
abbrev S264x64x1024 : Shape := ⟨3, ![264, 64, 1024]⟩
abbrev S264x8x128 : Shape := ⟨3, ![264, 8, 128]⟩
abbrev S4x33792x64 : Shape := ⟨3, ![4, 33792, 64]⟩
abbrev S264x4x80x128 : Shape := ⟨4, ![264, 4, 80, 128]⟩
abbrev S33792x64 : Shape := ⟨2, ![33792, 64]⟩
abbrev S512x1024 : Shape := ⟨2, ![512, 1024]⟩
abbrev S512x256 : Shape := ⟨2, ![512, 256]⟩
abbrev S512x128 : Shape := ⟨2, ![512, 128]⟩
abbrev S4x4x64x512 : Shape := ⟨4, ![4, 4, 64, 512]⟩
abbrev S4x64x1024 : Shape := ⟨3, ![4, 64, 1024]⟩
abbrev S4x8x128 : Shape := ⟨3, ![4, 8, 128]⟩
abbrev S4x512x64 : Shape := ⟨3, ![4, 512, 64]⟩
abbrev S4x4x80x128 : Shape := ⟨4, ![4, 4, 80, 128]⟩
abbrev S512x64 : Shape := ⟨2, ![512, 64]⟩
abbrev S512 : Shape := ⟨1, ![512]⟩
abbrev S512x1 : Shape := ⟨2, ![512, 1]⟩
abbrev S512x2304 : Shape := ⟨2, ![512, 2304]⟩
abbrev S512x512 : Shape := ⟨2, ![512, 512]⟩
abbrev S1x512x64 : Shape := ⟨3, ![1, 512, 64]⟩
abbrev S16x128 : Shape := ⟨2, ![16, 128]⟩
abbrev S128x128 : Shape := ⟨2, ![128, 128]⟩
abbrev S64x128 : Shape := ⟨2, ![64, 128]⟩
abbrev S1x1x64x128 : Shape := ⟨4, ![1, 1, 64, 128]⟩
abbrev S1x64x128 : Shape := ⟨3, ![1, 64, 128]⟩
abbrev S8x128 : Shape := ⟨2, ![8, 128]⟩
abbrev S1x8x128 : Shape := ⟨3, ![1, 8, 128]⟩
abbrev S80x128 : Shape := ⟨2, ![80, 128]⟩
abbrev S1x1x80x128 : Shape := ⟨4, ![1, 1, 80, 128]⟩

abbrev nBuf : Space → Nat
  | .hbm => 93
  | .vmem => 29
  | .smem => 0
  | _ => 0

abbrev bufTy : (tb : Table) → Fin (tcTables nBuf tb) → BufTy
  | .hbm, ⟨0, _⟩ => ⟨S33792x1024, .f32⟩
  | .hbm, ⟨1, _⟩ => ⟨S1024, .f32⟩
  | .hbm, ⟨2, _⟩ => ⟨S1024x2120, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S1024x2048, .f32⟩
  | .hbm, ⟨7, _⟩ => ⟨S1024x64, .f32⟩
  | .hbm, ⟨8, _⟩ => ⟨S_, .i32⟩
  | .hbm, ⟨9, _⟩ => ⟨S_, .f32⟩
  | .hbm, ⟨10, _⟩ => ⟨S1024x128, .f32⟩
  | .hbm, ⟨11, _⟩ => ⟨S1024x8, .f32⟩
  | .hbm, ⟨12, _⟩ => ⟨S_, .i32⟩
  | .hbm, ⟨13, _⟩ => ⟨S_, .f32⟩
  | .hbm, ⟨14, _⟩ => ⟨S1024x128, .f32⟩
  | .hbm, ⟨15, _⟩ => ⟨S1024x2304, .f32⟩
  | .hbm, ⟨16, _⟩ => ⟨S1024x2304, .bf16⟩
  | .hbm, ⟨17, _⟩ => ⟨S1024, .i32⟩
  | .hbm, ⟨18, _⟩ => ⟨S_, .i32⟩
  | .hbm, ⟨19, _⟩ => ⟨S_, .i32⟩
  | .hbm, ⟨20, _⟩ => ⟨S1024, .i32⟩
  | .hbm, ⟨21, _⟩ => ⟨S1024, .i32⟩
  | .hbm, ⟨22, _⟩ => ⟨S1024, .i32⟩
  | .hbm, ⟨23, _⟩ => ⟨S_, .i32⟩
  | .hbm, ⟨24, _⟩ => ⟨S1024, .i32⟩
  | .hbm, ⟨25, _⟩ => ⟨S1024, .i1⟩
  | .hbm, ⟨26, _⟩ => ⟨S1024, .i32⟩
  | .hbm, ⟨27, _⟩ => ⟨S1024, .i32⟩
  | .hbm, ⟨28, _⟩ => ⟨S_, .i32⟩
  | .hbm, ⟨29, _⟩ => ⟨S1024, .i32⟩
  | .hbm, ⟨30, _⟩ => ⟨S1024, .i1⟩
  | .hbm, ⟨31, _⟩ => ⟨S1024, .i1⟩
  | .hbm, ⟨32, _⟩ => ⟨S_, .i32⟩
  | .hbm, ⟨33, _⟩ => ⟨S1024, .i32⟩
  | .hbm, ⟨34, _⟩ => ⟨S1024, .i32⟩
  | .hbm, ⟨35, _⟩ => ⟨S1024, .i32⟩
  | .hbm, ⟨36, _⟩ => ⟨S1024x1, .i32⟩
  | .hbm, ⟨37, _⟩ => ⟨S128, .i32⟩
  | .hbm, ⟨38, _⟩ => ⟨S1x128, .i32⟩
  | .hbm, ⟨39, _⟩ => ⟨S1024x128, .i32⟩
  | .hbm, ⟨40, _⟩ => ⟨S1024x128, .i32⟩
  | .hbm, ⟨41, _⟩ => ⟨S1024x128, .i1⟩
  | .hbm, ⟨42, _⟩ => ⟨S1024x128, .bf16⟩
  | .hbm, ⟨43, _⟩ => ⟨S128x1024, .bf16⟩
  | .hbm, ⟨44, _⟩ => ⟨S256, .i32⟩
  | .hbm, ⟨45, _⟩ => ⟨S_, .i32⟩
  | .hbm, ⟨46, _⟩ => ⟨S_, .i32⟩
  | .hbm, ⟨47, _⟩ => ⟨S256, .i32⟩
  | .hbm, ⟨48, _⟩ => ⟨S256, .i32⟩
  | .hbm, ⟨49, _⟩ => ⟨S256, .i32⟩
  | .hbm, ⟨50, _⟩ => ⟨S_, .i32⟩
  | .hbm, ⟨51, _⟩ => ⟨S256, .i32⟩
  | .hbm, ⟨52, _⟩ => ⟨S256, .i1⟩
  | .hbm, ⟨53, _⟩ => ⟨S256, .i32⟩
  | .hbm, ⟨54, _⟩ => ⟨S256, .i32⟩
  | .hbm, ⟨55, _⟩ => ⟨S_, .i32⟩
  | .hbm, ⟨56, _⟩ => ⟨S256, .i32⟩
  | .hbm, ⟨57, _⟩ => ⟨S256, .i1⟩
  | .hbm, ⟨58, _⟩ => ⟨S256, .i1⟩
  | .hbm, ⟨59, _⟩ => ⟨S_, .i32⟩
  | .hbm, ⟨60, _⟩ => ⟨S256, .i32⟩
  | .hbm, ⟨61, _⟩ => ⟨S256, .i32⟩
  | .hbm, ⟨62, _⟩ => ⟨S256, .i32⟩
  | .hbm, ⟨63, _⟩ => ⟨S256x1, .i32⟩
  | .hbm, ⟨64, _⟩ => ⟨S128, .i32⟩
  | .hbm, ⟨65, _⟩ => ⟨S1x128, .i32⟩
  | .hbm, ⟨66, _⟩ => ⟨S256x128, .i32⟩
  | .hbm, ⟨67, _⟩ => ⟨S256x128, .i32⟩
  | .hbm, ⟨68, _⟩ => ⟨S256x128, .i1⟩
  | .hbm, ⟨69, _⟩ => ⟨S256x128, .bf16⟩
  | .hbm, ⟨70, _⟩ => ⟨S128x256, .bf16⟩
  | .hbm, ⟨71, _⟩ => ⟨S1x1024, .f32⟩
  | .hbm, ⟨72, _⟩ => ⟨S1x64, .f32⟩
  | .hbm, ⟨73, _⟩ => ⟨S16x64, .f32⟩
  | .hbm, ⟨74, _⟩ => ⟨S1024, .f32⟩
  | .hbm, ⟨75, _⟩ => ⟨S1x1024, .f32⟩
  | .hbm, ⟨76, _⟩ => ⟨S1x64, .f32⟩
  | .hbm, ⟨77, _⟩ => ⟨S4x64, .f32⟩
  | .hbm, ⟨78, _⟩ => ⟨S256, .f32⟩
  | .hbm, ⟨79, _⟩ => ⟨S1x256, .f32⟩
  | .hbm, ⟨80, _⟩ => ⟨S_, .i32⟩
  | .hbm, ⟨81, _⟩ => ⟨S_, .f32⟩
  | .hbm, ⟨82, _⟩ => ⟨S128, .f32⟩
  | .hbm, ⟨83, _⟩ => ⟨S1x128, .f32⟩
  | .hbm, ⟨84, _⟩ => ⟨S33792x256, .f32⟩
  | .hbm, ⟨85, _⟩ => ⟨S33792x256, .f32⟩
  | .hbm, ⟨86, _⟩ => ⟨S33792x128, .f32⟩
  | .hbm, ⟨87, _⟩ => ⟨S264x4x64x512, .bf16⟩
  | .hbm, ⟨88, _⟩ => ⟨S264x64x1024, .bf16⟩
  | .hbm, ⟨89, _⟩ => ⟨S264x8x128, .f32⟩
  | .hbm, ⟨90, _⟩ => ⟨S4x33792x64, .bf16⟩
  | .hbm, ⟨91, _⟩ => ⟨S264x4x80x128, .bf16⟩
  | .hbm, ⟨92, _⟩ => ⟨S33792x64, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2304, .bf16⟩
  | .local _ .vmem, ⟨4, _⟩ => ⟨S1x1024, .f32⟩
  | .local _ .vmem, ⟨5, _⟩ => ⟨S1x256, .f32⟩
  | .local _ .vmem, ⟨6, _⟩ => ⟨S1x128, .f32⟩
  | .local _ .vmem, ⟨7, _⟩ => ⟨S1024x128, .bf16⟩
  | .local _ .vmem, ⟨8, _⟩ => ⟨S128x1024, .bf16⟩
  | .local _ .vmem, ⟨9, _⟩ => ⟨S256x128, .bf16⟩
  | .local _ .vmem, ⟨10, _⟩ => ⟨S128x256, .bf16⟩
  | .local _ .vmem, ⟨11, _⟩ => ⟨S512x256, .f32⟩
  | .local _ .vmem, ⟨12, _⟩ => ⟨S512x256, .f32⟩
  | .local _ .vmem, ⟨13, _⟩ => ⟨S512x256, .f32⟩
  | .local _ .vmem, ⟨14, _⟩ => ⟨S512x256, .f32⟩
  | .local _ .vmem, ⟨15, _⟩ => ⟨S512x128, .f32⟩
  | .local _ .vmem, ⟨16, _⟩ => ⟨S512x128, .f32⟩
  | .local _ .vmem, ⟨17, _⟩ => ⟨S4x4x64x512, .bf16⟩
  | .local _ .vmem, ⟨18, _⟩ => ⟨S4x4x64x512, .bf16⟩
  | .local _ .vmem, ⟨19, _⟩ => ⟨S4x64x1024, .bf16⟩
  | .local _ .vmem, ⟨20, _⟩ => ⟨S4x64x1024, .bf16⟩
  | .local _ .vmem, ⟨21, _⟩ => ⟨S4x8x128, .f32⟩
  | .local _ .vmem, ⟨22, _⟩ => ⟨S4x8x128, .f32⟩
  | .local _ .vmem, ⟨23, _⟩ => ⟨S4x512x64, .bf16⟩
  | .local _ .vmem, ⟨24, _⟩ => ⟨S4x512x64, .bf16⟩
  | .local _ .vmem, ⟨25, _⟩ => ⟨S4x4x80x128, .bf16⟩
  | .local _ .vmem, ⟨26, _⟩ => ⟨S4x4x80x128, .bf16⟩
  | .local _ .vmem, ⟨27, _⟩ => ⟨S512x64, .bf16⟩
  | .local _ .vmem, ⟨28, _⟩ => ⟨S512x64, .bf16⟩
  | _, _ => ⟨S33792x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_call0_v0 : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_call1_v0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_c_1 : Ref sig .tc := ⟨.hbm, 18, rfl⟩
abbrev main_call2_v0 : Ref sig .tc := ⟨.hbm, 19, rfl⟩
abbrev main_call2_v1 : Ref sig .tc := ⟨.hbm, 20, rfl⟩
abbrev main_call2_v2 : Ref sig .tc := ⟨.hbm, 21, rfl⟩
abbrev main_call2_v3 : Ref sig .tc := ⟨.hbm, 22, rfl⟩
abbrev main_call2_v4 : Ref sig .tc := ⟨.hbm, 23, rfl⟩
abbrev main_call2_v5 : Ref sig .tc := ⟨.hbm, 24, rfl⟩
abbrev main_call2_v6 : Ref sig .tc := ⟨.hbm, 25, rfl⟩
abbrev main_call2_v7 : Ref sig .tc := ⟨.hbm, 26, rfl⟩
abbrev main_call2_v8 : Ref sig .tc := ⟨.hbm, 27, rfl⟩
abbrev main_call2_c : Ref sig .tc := ⟨.hbm, 28, rfl⟩
abbrev main_call2_v9 : Ref sig .tc := ⟨.hbm, 29, rfl⟩
abbrev main_call2_v10 : Ref sig .tc := ⟨.hbm, 30, rfl⟩
abbrev main_call2_v11 : Ref sig .tc := ⟨.hbm, 31, rfl⟩
abbrev main_call2_c_0 : Ref sig .tc := ⟨.hbm, 32, rfl⟩
abbrev main_call2_v12 : Ref sig .tc := ⟨.hbm, 33, rfl⟩
abbrev main_call2_v13 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_c_2 : Ref sig .tc := ⟨.hbm, 45, rfl⟩
abbrev main_call3_v0 : Ref sig .tc := ⟨.hbm, 46, rfl⟩
abbrev main_call3_v1 : Ref sig .tc := ⟨.hbm, 47, rfl⟩
abbrev main_call3_v2 : Ref sig .tc := ⟨.hbm, 48, rfl⟩
abbrev main_call3_v3 : Ref sig .tc := ⟨.hbm, 49, rfl⟩
abbrev main_call3_v4 : Ref sig .tc := ⟨.hbm, 50, rfl⟩
abbrev main_call3_v5 : Ref sig .tc := ⟨.hbm, 51, rfl⟩
abbrev main_call3_v6 : Ref sig .tc := ⟨.hbm, 52, rfl⟩
abbrev main_call3_v7 : Ref sig .tc := ⟨.hbm, 53, rfl⟩
abbrev main_call3_v8 : Ref sig .tc := ⟨.hbm, 54, rfl⟩
abbrev main_call3_c : Ref sig .tc := ⟨.hbm, 55, rfl⟩
abbrev main_call3_v9 : Ref sig .tc := ⟨.hbm, 56, rfl⟩
abbrev main_call3_v10 : Ref sig .tc := ⟨.hbm, 57, rfl⟩
abbrev main_call3_v11 : Ref sig .tc := ⟨.hbm, 58, rfl⟩
abbrev main_call3_c_0 : Ref sig .tc := ⟨.hbm, 59, rfl⟩
abbrev main_call3_v12 : Ref sig .tc := ⟨.hbm, 60, rfl⟩
abbrev main_call3_v13 : Ref sig .tc := ⟨.hbm, 61, rfl⟩
abbrev main_v18 : Ref sig .tc := ⟨.hbm, 62, rfl⟩
abbrev main_v19 : Ref sig .tc := ⟨.hbm, 63, rfl⟩
abbrev main_v20 : Ref sig .tc := ⟨.hbm, 64, rfl⟩
abbrev main_v21 : Ref sig .tc := ⟨.hbm, 65, rfl⟩
abbrev main_v22 : Ref sig .tc := ⟨.hbm, 66, rfl⟩
abbrev main_v23 : Ref sig .tc := ⟨.hbm, 67, rfl⟩
abbrev main_v24 : Ref sig .tc := ⟨.hbm, 68, rfl⟩
abbrev main_v25 : Ref sig .tc := ⟨.hbm, 69, rfl⟩
abbrev main_v26 : Ref sig .tc := ⟨.hbm, 70, rfl⟩
abbrev main_v27 : Ref sig .tc := ⟨.hbm, 71, rfl⟩
abbrev main_v28 : Ref sig .tc := ⟨.hbm, 72, rfl⟩
abbrev main_v29 : Ref sig .tc := ⟨.hbm, 73, rfl⟩
abbrev main_v30 : Ref sig .tc := ⟨.hbm, 74, rfl⟩
abbrev main_v31 : Ref sig .tc := ⟨.hbm, 75, rfl⟩
abbrev main_v32 : Ref sig .tc := ⟨.hbm, 76, rfl⟩
abbrev main_v33 : Ref sig .tc := ⟨.hbm, 77, rfl⟩
abbrev main_v34 : Ref sig .tc := ⟨.hbm, 78, rfl⟩
abbrev main_v35 : Ref sig .tc := ⟨.hbm, 79, rfl⟩
abbrev main_c_3 : Ref sig .tc := ⟨.hbm, 80, rfl⟩
abbrev main_call4_v0 : Ref sig .tc := ⟨.hbm, 81, rfl⟩
abbrev main_v36 : Ref sig .tc := ⟨.hbm, 82, rfl⟩
abbrev main_v37 : Ref sig .tc := ⟨.hbm, 83, rfl⟩
abbrev main_v38_0 : Ref sig .tc := ⟨.hbm, 84, rfl⟩
abbrev main_v38_1 : Ref sig .tc := ⟨.hbm, 85, rfl⟩
abbrev main_v38_2 : Ref sig .tc := ⟨.hbm, 86, rfl⟩
abbrev main_v38_3 : Ref sig .tc := ⟨.hbm, 87, rfl⟩
abbrev main_v38_4 : Ref sig .tc := ⟨.hbm, 88, rfl⟩
abbrev main_v38_5 : Ref sig .tc := ⟨.hbm, 89, rfl⟩
abbrev main_v38_6 : Ref sig .tc := ⟨.hbm, 90, rfl⟩
abbrev main_v38_7 : Ref sig .tc := ⟨.hbm, 91, rfl⟩
abbrev main_v38_8 : Ref sig .tc := ⟨.hbm, 92, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc0_stg16_0 : Ref sig .tc := ⟨.vmem, 23, rfl⟩
abbrev cc0_stg16_1 : Ref sig .tc := ⟨.vmem, 24, rfl⟩
abbrev cc0_stg17_0 : Ref sig .tc := ⟨.vmem, 25, rfl⟩
abbrev cc0_stg17_1 : Ref sig .tc := ⟨.vmem, 26, rfl⟩
abbrev cc0_stg18_0 : Ref sig .tc := ⟨.vmem, 27, rfl⟩
abbrev cc0_stg18_1 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12
abbrev cc0_sem11_0 : DmaSem sig := 13
abbrev cc0_sem11_1 : DmaSem sig := 14
abbrev cc0_sem12_0 : DmaSem sig := 15
abbrev cc0_sem12_1 : DmaSem sig := 16
abbrev cc0_sem13_0 : DmaSem sig := 17
abbrev cc0_sem13_1 : DmaSem sig := 18
abbrev cc0_sem14_0 : DmaSem sig := 19
abbrev cc0_sem14_1 : DmaSem sig := 20
abbrev cc0_sem15_0 : DmaSem sig := 21
abbrev cc0_sem15_1 : DmaSem sig := 22
abbrev cc0_sem16_0 : DmaSem sig := 23
abbrev cc0_sem16_1 : DmaSem sig := 24
abbrev cc0_sem17_0 : DmaSem sig := 25
abbrev cc0_sem17_1 : DmaSem sig := 26
abbrev cc0_sem18_0 : DmaSem sig := 27
abbrev cc0_sem18_1 : DmaSem sig := 28

abbrev nD : Nat := 1
abbrev τ : Topo := Topo.v7x

variable {F : FTy → Type} [FloatOps F]

abbrev grid0 : Pipeline.Grid := ⟨1, ![66], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_17 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2304 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S4x4x64x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S4x64x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S4x8x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S4x512x64 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S4x4x80x128 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x64 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== Reference4Ideal.lean ====
abbrev S33792x1024 : Shape := ⟨2, ![33792, 1024]⟩
abbrev S1024 : Shape := ⟨1, ![1024]⟩
abbrev S1024x2120 : Shape := ⟨2, ![1024, 2120]⟩
abbrev S64 : Shape := ⟨1, ![64]⟩
abbrev S_ : Shape := ⟨0, ![]⟩
abbrev S33792 : Shape := ⟨1, ![33792]⟩
abbrev S33792x1 : Shape := ⟨2, ![33792, 1]⟩
abbrev S1x1024 : Shape := ⟨2, ![1, 1024]⟩
abbrev S33792x2120 : Shape := ⟨2, ![33792, 2120]⟩
abbrev S33792x256 : Shape := ⟨2, ![33792, 256]⟩
abbrev S33792x512 : Shape := ⟨2, ![33792, 512]⟩
abbrev S33792x64 : Shape := ⟨2, ![33792, 64]⟩
abbrev S33792x8 : Shape := ⟨2, ![33792, 8]⟩
abbrev S33792x16x64 : Shape := ⟨3, ![33792, 16, 64]⟩
abbrev S33792x16 : Shape := ⟨2, ![33792, 16]⟩
abbrev S33792x16x1 : Shape := ⟨3, ![33792, 16, 1]⟩
abbrev S1x1x64 : Shape := ⟨3, ![1, 1, 64]⟩
abbrev S33792x4x64 : Shape := ⟨3, ![33792, 4, 64]⟩
abbrev S33792x4 : Shape := ⟨2, ![33792, 4]⟩
abbrev S33792x4x1 : Shape := ⟨3, ![33792, 4, 1]⟩
abbrev S1x64 : Shape := ⟨2, ![1, 64]⟩
abbrev S264x128x4x4x64 : Shape := ⟨5, ![264, 128, 4, 4, 64]⟩
abbrev S264x4x64x4x128 : Shape := ⟨5, ![264, 4, 64, 4, 128]⟩
abbrev S264x4x64x512 : Shape := ⟨4, ![264, 4, 64, 512]⟩
abbrev S264x128x8x64 : Shape := ⟨4, ![264, 128, 8, 64]⟩
abbrev S264x64x8x128 : Shape := ⟨4, ![264, 64, 8, 128]⟩
abbrev S264x64x1024 : Shape := ⟨3, ![264, 64, 1024]⟩
abbrev S264x128x8 : Shape := ⟨3, ![264, 128, 8]⟩
abbrev S264x8x128 : Shape := ⟨3, ![264, 8, 128]⟩
abbrev S264x128x4x64 : Shape := ⟨4, ![264, 128, 4, 64]⟩
abbrev S264x4x64x128 : Shape := ⟨4, ![264, 4, 64, 128]⟩
abbrev S264x4x1x128 : Shape := ⟨4, ![264, 4, 1, 128]⟩
abbrev S264x4x15x128 : Shape := ⟨4, ![264, 4, 15, 128]⟩
abbrev S264x4x80x128 : Shape := ⟨4, ![264, 4, 80, 128]⟩
abbrev S33792x128 : Shape := ⟨2, ![33792, 128]⟩
abbrev S4x33792x64 : Shape := ⟨3, ![4, 33792, 64]⟩

abbrev nBuf : Space → Nat
  | .hbm => 113
  | .vmem => 0
  | .smem => 0
  | _ => 0

abbrev bufTy : (tb : Table) → Fin (tcTables nBuf tb) → BufTy
  | .hbm, ⟨0, _⟩ => ⟨S33792x1024, .f32⟩
  | .hbm, ⟨1, _⟩ => ⟨S1024, .f32⟩
  | .hbm, ⟨2, _⟩ => ⟨S1024x2120, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S33792x1024, .f32⟩
  | .hbm, ⟨7, _⟩ => ⟨S_, .f32⟩
  | .hbm, ⟨8, _⟩ => ⟨S33792, .f32⟩
  | .hbm, ⟨9, _⟩ => ⟨S33792x1, .f32⟩
  | .hbm, ⟨10, _⟩ => ⟨S_, .f32⟩
  | .hbm, ⟨11, _⟩ => ⟨S33792x1, .f32⟩
  | .hbm, ⟨12, _⟩ => ⟨S33792x1, .f32⟩
  | .hbm, ⟨13, _⟩ => ⟨S_, .f32⟩
  | .hbm, ⟨14, _⟩ => ⟨S33792x1, .f32⟩
  | .hbm, ⟨15, _⟩ => ⟨S33792x1, .f32⟩
  | .hbm, ⟨16, _⟩ => ⟨S33792x1, .f32⟩
  | .hbm, ⟨17, _⟩ => ⟨S33792x1024, .f32⟩
  | .hbm, ⟨18, _⟩ => ⟨S33792x1024, .f32⟩
  | .hbm, ⟨19, _⟩ => ⟨S1x1024, .f32⟩
  | .hbm, ⟨20, _⟩ => ⟨S33792x1024, .f32⟩
  | .hbm, ⟨21, _⟩ => ⟨S33792x1024, .f32⟩
  | .hbm, ⟨22, _⟩ => ⟨S33792x2120, .f32⟩
  | .hbm, ⟨23, _⟩ => ⟨S33792x1024, .f32⟩
  | .hbm, ⟨24, _⟩ => ⟨S33792x256, .f32⟩
  | .hbm, ⟨25, _⟩ => ⟨S33792x256, .f32⟩
  | .hbm, ⟨26, _⟩ => ⟨S33792x512, .f32⟩
  | .hbm, ⟨27, _⟩ => ⟨S33792x64, .f32⟩
  | .hbm, ⟨28, _⟩ => ⟨S33792x8, .f32⟩
  | .hbm, ⟨29, _⟩ => ⟨S33792x16x64, .f32⟩
  | .hbm, ⟨30, _⟩ => ⟨S33792x16x64, .f32⟩
  | .hbm, ⟨31, _⟩ => ⟨S_, .f32⟩
  | .hbm, ⟨32, _⟩ => ⟨S33792x16, .f32⟩
  | .hbm, ⟨33, _⟩ => ⟨S33792x16x1, .f32⟩
  | .hbm, ⟨34, _⟩ => ⟨S_, .f32⟩
  | .hbm, ⟨35, _⟩ => ⟨S33792x16x1, .f32⟩
  | .hbm, ⟨36, _⟩ => ⟨S33792x16x1, .f32⟩
  | .hbm, ⟨37, _⟩ => ⟨S_, .f32⟩
  | .hbm, ⟨38, _⟩ => ⟨S33792x16x1, .f32⟩
  | .hbm, ⟨39, _⟩ => ⟨S33792x16x1, .f32⟩
  | .hbm, ⟨40, _⟩ => ⟨S33792x16x1, .f32⟩
  | .hbm, ⟨41, _⟩ => ⟨S33792x16x64, .f32⟩
  | .hbm, ⟨42, _⟩ => ⟨S33792x16x64, .f32⟩
  | .hbm, ⟨43, _⟩ => ⟨S1x1x64, .f32⟩
  | .hbm, ⟨44, _⟩ => ⟨S33792x16x64, .f32⟩
  | .hbm, ⟨45, _⟩ => ⟨S33792x16x64, .f32⟩
  | .hbm, ⟨46, _⟩ => ⟨S_, .f32⟩
  | .hbm, ⟨47, _⟩ => ⟨S33792x16x64, .f32⟩
  | .hbm, ⟨48, _⟩ => ⟨S33792x16x64, .f32⟩
  | .hbm, ⟨49, _⟩ => ⟨S33792x4x64, .f32⟩
  | .hbm, ⟨50, _⟩ => ⟨S33792x4x64, .f32⟩
  | .hbm, ⟨51, _⟩ => ⟨S_, .f32⟩
  | .hbm, ⟨52, _⟩ => ⟨S33792x4, .f32⟩
  | .hbm, ⟨53, _⟩ => ⟨S33792x4x1, .f32⟩
  | .hbm, ⟨54, _⟩ => ⟨S_, .f32⟩
  | .hbm, ⟨55, _⟩ => ⟨S33792x4x1, .f32⟩
  | .hbm, ⟨56, _⟩ => ⟨S33792x4x1, .f32⟩
  | .hbm, ⟨57, _⟩ => ⟨S_, .f32⟩
  | .hbm, ⟨58, _⟩ => ⟨S33792x4x1, .f32⟩
  | .hbm, ⟨59, _⟩ => ⟨S33792x4x1, .f32⟩
  | .hbm, ⟨60, _⟩ => ⟨S33792x4x1, .f32⟩
  | .hbm, ⟨61, _⟩ => ⟨S33792x4x64, .f32⟩
  | .hbm, ⟨62, _⟩ => ⟨S33792x4x64, .f32⟩
  | .hbm, ⟨63, _⟩ => ⟨S1x1x64, .f32⟩
  | .hbm, ⟨64, _⟩ => ⟨S33792x4x64, .f32⟩
  | .hbm, ⟨65, _⟩ => ⟨S33792x4x64, .f32⟩
  | .hbm, ⟨66, _⟩ => ⟨S_, .f32⟩
  | .hbm, ⟨67, _⟩ => ⟨S33792x512, .f32⟩
  | .hbm, ⟨68, _⟩ => ⟨S33792x512, .f32⟩
  | .hbm, ⟨69, _⟩ => ⟨S33792x64, .f32⟩
  | .hbm, ⟨70, _⟩ => ⟨S_, .f32⟩
  | .hbm, ⟨71, _⟩ => ⟨S33792, .f32⟩
  | .hbm, ⟨72, _⟩ => ⟨S33792x1, .f32⟩
  | .hbm, ⟨73, _⟩ => ⟨S_, .f32⟩
  | .hbm, ⟨74, _⟩ => ⟨S33792x1, .f32⟩
  | .hbm, ⟨75, _⟩ => ⟨S33792x1, .f32⟩
  | .hbm, ⟨76, _⟩ => ⟨S_, .f32⟩
  | .hbm, ⟨77, _⟩ => ⟨S33792x1, .f32⟩
  | .hbm, ⟨78, _⟩ => ⟨S33792x1, .f32⟩
  | .hbm, ⟨79, _⟩ => ⟨S33792x1, .f32⟩
  | .hbm, ⟨80, _⟩ => ⟨S33792x64, .f32⟩
  | .hbm, ⟨81, _⟩ => ⟨S33792x64, .f32⟩
  | .hbm, ⟨82, _⟩ => ⟨S1x64, .f32⟩
  | .hbm, ⟨83, _⟩ => ⟨S33792x64, .f32⟩
  | .hbm, ⟨84, _⟩ => ⟨S33792x64, .f32⟩
  | .hbm, ⟨85, _⟩ => ⟨S_, .f32⟩
  | .hbm, ⟨86, _⟩ => ⟨S33792x8, .f32⟩
  | .hbm, ⟨87, _⟩ => ⟨S33792x8, .f32⟩
  | .hbm, ⟨88, _⟩ => ⟨S264x128x4x4x64, .f32⟩
  | .hbm, ⟨89, _⟩ => ⟨S264x4x64x4x128, .f32⟩
  | .hbm, ⟨90, _⟩ => ⟨S264x4x64x512, .f32⟩
  | .hbm, ⟨91, _⟩ => ⟨S264x128x8x64, .f32⟩
  | .hbm, ⟨92, _⟩ => ⟨S264x64x8x128, .f32⟩
  | .hbm, ⟨93, _⟩ => ⟨S264x64x1024, .f32⟩
  | .hbm, ⟨94, _⟩ => ⟨S264x128x8, .f32⟩
  | .hbm, ⟨95, _⟩ => ⟨S264x8x128, .f32⟩
  | .hbm, ⟨96, _⟩ => ⟨S264x128x4x64, .f32⟩
  | .hbm, ⟨97, _⟩ => ⟨S264x4x64x128, .f32⟩
  | .hbm, ⟨98, _⟩ => ⟨S_, .f32⟩
  | .hbm, ⟨99, _⟩ => ⟨S264x4x1x128, .f32⟩
  | .hbm, ⟨100, _⟩ => ⟨S_, .f32⟩
  | .hbm, ⟨101, _⟩ => ⟨S264x4x15x128, .f32⟩
  | .hbm, ⟨102, _⟩ => ⟨S264x4x80x128, .f32⟩
  | .hbm, ⟨103, _⟩ => ⟨S33792x256, .f32⟩
  | .hbm, ⟨104, _⟩ => ⟨S_, .i32⟩
  | .hbm, ⟨105, _⟩ => ⟨S_, .f32⟩
  | .hbm, ⟨106, _⟩ => ⟨S33792x128, .f32⟩
  | .hbm, ⟨107, _⟩ => ⟨S264x4x64x512, .bf16⟩
  | .hbm, ⟨108, _⟩ => ⟨S264x64x1024, .bf16⟩
  | .hbm, ⟨109, _⟩ => ⟨S4x33792x64, .f32⟩
  | .hbm, ⟨110, _⟩ => ⟨S4x33792x64, .bf16⟩
  | .hbm, ⟨111, _⟩ => ⟨S264x4x80x128, .bf16⟩
  | .hbm, ⟨112, _⟩ => ⟨S33792x64, .bf16⟩
  | _, _ => ⟨S33792x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_2 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_5 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_6 : Ref sig .tc := ⟨.hbm, 51, rfl⟩
abbrev main_v38 : Ref sig .tc := ⟨.hbm, 52, rfl⟩
abbrev main_v39 : Ref sig .tc := ⟨.hbm, 53, rfl⟩
abbrev main_cst_7 : Ref sig .tc := ⟨.hbm, 54, rfl⟩
abbrev main_v40 : Ref sig .tc := ⟨.hbm, 55, rfl⟩
abbrev main_v41 : Ref sig .tc := ⟨.hbm, 56, rfl⟩
abbrev main_cst_8 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_cst_9 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_cst_10 : Ref sig .tc := ⟨.hbm, 70, rfl⟩
abbrev main_v53 : Ref sig .tc := ⟨.hbm, 71, rfl⟩
abbrev main_v54 : Ref sig .tc := ⟨.hbm, 72, rfl⟩
abbrev main_cst_11 : Ref sig .tc := ⟨.hbm, 73, rfl⟩
abbrev main_v55 : Ref sig .tc := ⟨.hbm, 74, rfl⟩
abbrev main_v56 : Ref sig .tc := ⟨.hbm, 75, rfl⟩
abbrev main_cst_12 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_cst_13 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_cst_14 : Ref sig .tc := ⟨.hbm, 98, rfl⟩
abbrev main_v77 : Ref sig .tc := ⟨.hbm, 99, rfl⟩
abbrev main_cst_15 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_c : Ref sig .tc := ⟨.hbm, 104, rfl⟩
abbrev main_call0_v0 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩

abbrev nD : Nat := 1
abbrev τ : Topo := Topo.v7x

variable {F : FTy → Type} [FloatOps F]
-- ==== Kernel5.lean ====
abbrev S33792x1024 : Shape := ⟨2, ![33792, 1024]⟩
abbrev S1024x1024 : Shape := ⟨2, ![1024, 1024]⟩
abbrev S512x1024 : Shape := ⟨2, ![512, 1024]⟩

abbrev nBuf : Space → Nat
  | .hbm => 5
  | .vmem => 7
  | .smem => 0
  | _ => 0

abbrev bufTy : (tb : Table) → Fin (tcTables nBuf tb) → BufTy
  | .hbm, ⟨0, _⟩ => ⟨S33792x1024, .f32⟩
  | .hbm, ⟨1, _⟩ => ⟨S33792x1024, .bf16⟩
  | .hbm, ⟨2, _⟩ => ⟨S1024x1024, .f32⟩
  | .hbm, ⟨3, _⟩ => ⟨S1024x1024, .bf16⟩
  | .hbm, ⟨4, _⟩ => ⟨S33792x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S512x1024, .f32⟩
  | .local _ .vmem, ⟨6, _⟩ => ⟨S512x1024, .f32⟩
  | _, _ => ⟨S33792x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![66], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference5Ideal.lean ====
abbrev S33792x1024 : Shape := ⟨2, ![33792, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S33792x1024, .f32⟩
  | .hbm, ⟨1, _⟩ => ⟨S33792x1024, .bf16⟩
  | .hbm, ⟨2, _⟩ => ⟨S1024x1024, .f32⟩
  | .hbm, ⟨3, _⟩ => ⟨S33792x1024, .f32⟩
  | .hbm, ⟨4, _⟩ => ⟨S33792x1024, .f32⟩
  | .hbm, ⟨5, _⟩ => ⟨S33792x1024, .f32⟩
  | _, _ => ⟨S33792x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel6.lean ====
abbrev S8x4112x1024 : Shape := ⟨3, ![8, 4112, 1024]⟩
abbrev S1024 : Shape := ⟨1, ![1024]⟩
abbrev S1024x5152 : Shape := ⟨2, ![1024, 5152]⟩
abbrev S4x3072 : Shape := ⟨2, ![4, 3072]⟩
abbrev S3072 : Shape := ⟨1, ![3072]⟩
abbrev S32 : Shape := ⟨1, ![32]⟩
abbrev S2048 : Shape := ⟨1, ![2048]⟩
abbrev S2048x1024 : Shape := ⟨2, ![2048, 1024]⟩
abbrev S_ : Shape := ⟨0, ![]⟩
abbrev S8x4224x1024 : Shape := ⟨3, ![8, 4224, 1024]⟩
abbrev S33792x1024 : Shape := ⟨2, ![33792, 1024]⟩
abbrev S1024x5120 : Shape := ⟨2, ![1024, 5120]⟩
abbrev S1024x32 : Shape := ⟨2, ![1024, 32]⟩
abbrev S1024x128 : Shape := ⟨2, ![1024, 128]⟩
abbrev S1024x2048 : Shape := ⟨2, ![1024, 2048]⟩
abbrev S1024x3072 : Shape := ⟨2, ![1024, 3072]⟩
abbrev S128x128 : Shape := ⟨2, ![128, 128]⟩
abbrev S1x1024 : Shape := ⟨2, ![1, 1024]⟩
abbrev S1x3072 : Shape := ⟨2, ![1, 3072]⟩
abbrev S128 : Shape := ⟨1, ![128]⟩
abbrev S1x128 : Shape := ⟨2, ![1, 128]⟩
abbrev S32x1 : Shape := ⟨2, ![32, 1]⟩
abbrev S1x2048 : Shape := ⟨2, ![1, 2048]⟩
abbrev S8x32x64x128 : Shape := ⟨4, ![8, 32, 64, 128]⟩
abbrev S8x8x3072 : Shape := ⟨3, ![8, 8, 3072]⟩
abbrev S128x1024 : Shape := ⟨2, ![128, 1024]⟩
abbrev S1x32x64x128 : Shape := ⟨4, ![1, 32, 64, 128]⟩
abbrev S1x8x3072 : Shape := ⟨3, ![1, 8, 3072]⟩
abbrev S136x3072 : Shape := ⟨2, ![136, 3072]⟩
abbrev S32x64x128 : Shape := ⟨3, ![32, 64, 128]⟩
abbrev S128x2048 : Shape := ⟨2, ![128, 2048]⟩
abbrev S2048x128 : Shape := ⟨2, ![2048, 128]⟩
abbrev S8x3072 : Shape := ⟨2, ![8, 3072]⟩
abbrev S128x1 : Shape := ⟨2, ![128, 1]⟩
abbrev S32x128 : Shape := ⟨2, ![32, 128]⟩
abbrev S128x3072 : Shape := ⟨2, ![128, 3072]⟩
abbrev S8x64x128 : Shape := ⟨3, ![8, 64, 128]⟩
abbrev S512x128 : Shape := ⟨2, ![512, 128]⟩
abbrev S64x128 : Shape := ⟨2, ![64, 128]⟩
abbrev S1x1 : Shape := ⟨2, ![1, 1]⟩
abbrev S1x64x128 : Shape := ⟨3, ![1, 64, 128]⟩
abbrev S128x512 : Shape := ⟨2, ![128, 512]⟩
abbrev S1x512 : Shape := ⟨2, ![1, 512]⟩

abbrev nBuf : Space → Nat
  | .hbm => 59
  | .vmem => 29
  | .smem => 0
  | _ => 0

abbrev bufTy : (tb : Table) → Fin (tcTables nBuf tb) → BufTy
  | .hbm, ⟨0, _⟩ => ⟨S8x4112x1024, .f32⟩
  | .hbm, ⟨1, _⟩ => ⟨S1024, .f32⟩
  | .hbm, ⟨2, _⟩ => ⟨S1024x5152, .f32⟩
  | .hbm, ⟨3, _⟩ => ⟨S4x3072, .f32⟩
  | .hbm, ⟨4, _⟩ => ⟨S3072, .f32⟩
  | .hbm, ⟨5, _⟩ => ⟨S32, .f32⟩
  | .hbm, ⟨6, _⟩ => ⟨S32, .f32⟩
  | .hbm, ⟨7, _⟩ => ⟨S32, .f32⟩
  | .hbm, ⟨8, _⟩ => ⟨S2048, .f32⟩
  | .hbm, ⟨9, _⟩ => ⟨S2048x1024, .f32⟩
  | .hbm, ⟨10, _⟩ => ⟨S_, .i32⟩
  | .hbm, ⟨11, _⟩ => ⟨S_, .f32⟩
  | .hbm, ⟨12, _⟩ => ⟨S8x4224x1024, .f32⟩
  | .hbm, ⟨13, _⟩ => ⟨S33792x1024, .f32⟩
  | .hbm, ⟨14, _⟩ => ⟨S1024x5120, .f32⟩
  | .hbm, ⟨15, _⟩ => ⟨S1024x5120, .bf16⟩
  | .hbm, ⟨16, _⟩ => ⟨S1024x32, .f32⟩
  | .hbm, ⟨17, _⟩ => ⟨S_, .i32⟩
  | .hbm, ⟨18, _⟩ => ⟨S_, .f32⟩
  | .hbm, ⟨19, _⟩ => ⟨S1024x128, .f32⟩
  | .hbm, ⟨20, _⟩ => ⟨S1024x128, .bf16⟩
  | .hbm, ⟨21, _⟩ => ⟨S1024x2048, .bf16⟩
  | .hbm, ⟨22, _⟩ => ⟨S1024x3072, .bf16⟩
  | .hbm, ⟨23, _⟩ => ⟨S2048x1024, .bf16⟩
  | .hbm, ⟨24, _⟩ => ⟨S32, .f32⟩
  | .hbm, ⟨25, _⟩ => ⟨S32, .f32⟩
  | .hbm, ⟨26, _⟩ => ⟨S_, .f32⟩
  | .hbm, ⟨27, _⟩ => ⟨S128x128, .f32⟩
  | .hbm, ⟨28, _⟩ => ⟨S128x128, .i32⟩
  | .hbm, ⟨29, _⟩ => ⟨S_, .i32⟩
  | .hbm, ⟨30, _⟩ => ⟨S128x128, .i32⟩
  | .hbm, ⟨31, _⟩ => ⟨S128x128, .i32⟩
  | .hbm, ⟨32, _⟩ => ⟨S128x128, .i32⟩
  | .hbm, ⟨33, _⟩ => ⟨S128x128, .i1⟩
  | .hbm, ⟨34, _⟩ => ⟨S_, .f32⟩
  | .hbm, ⟨35, _⟩ => ⟨S128x128, .f32⟩
  | .hbm, ⟨36, _⟩ => ⟨S128x128, .f32⟩
  | .hbm, ⟨37, _⟩ => ⟨S128x128, .bf16⟩
  | .hbm, ⟨38, _⟩ => ⟨S1x1024, .f32⟩
  | .hbm, ⟨39, _⟩ => ⟨S1x3072, .f32⟩
  | .hbm, ⟨40, _⟩ => ⟨S_, .i32⟩
  | .hbm, ⟨41, _⟩ => ⟨S_, .f32⟩
  | .hbm, ⟨42, _⟩ => ⟨S128, .f32⟩
  | .hbm, ⟨43, _⟩ => ⟨S1x128, .f32⟩
  | .hbm, ⟨44, _⟩ => ⟨S_, .i32⟩
  | .hbm, ⟨45, _⟩ => ⟨S_, .f32⟩
  | .hbm, ⟨46, _⟩ => ⟨S128, .f32⟩
  | .hbm, ⟨47, _⟩ => ⟨S1x128, .f32⟩
  | .hbm, ⟨48, _⟩ => ⟨S32x1, .f32⟩
  | .hbm, ⟨49, _⟩ => ⟨S32x1, .f32⟩
  | .hbm, ⟨50, _⟩ => ⟨S_, .i32⟩
  | .hbm, ⟨51, _⟩ => ⟨S_, .f32⟩
  | .hbm, ⟨52, _⟩ => ⟨S128, .f32⟩
  | .hbm, ⟨53, _⟩ => ⟨S1x128, .f32⟩
  | .hbm, ⟨54, _⟩ => ⟨S1x2048, .f32⟩
  | .hbm, ⟨55, _⟩ => ⟨S128x128, .bf16⟩
  | .hbm, ⟨56, _⟩ => ⟨S33792x1024, .f32⟩
  | .hbm, ⟨57, _⟩ => ⟨S8x32x64x128, .f32⟩
  | .hbm, ⟨58, _⟩ => ⟨S8x8x3072, .f32⟩
  | .local _ .vmem, ⟨0, _⟩ => ⟨S128x1024, .f32⟩
  | .local _ .vmem, ⟨1, _⟩ => ⟨S128x1024, .f32⟩
  | .local _ .vmem, ⟨2, _⟩ => ⟨S1x1024, .f32⟩
  | .local _ .vmem, ⟨3, _⟩ => ⟨S1024x2048, .bf16⟩
  | .local _ .vmem, ⟨4, _⟩ => ⟨S1024x3072, .bf16⟩
  | .local _ .vmem, ⟨5, _⟩ => ⟨S1024x128, .bf16⟩
  | .local _ .vmem, ⟨6, _⟩ => ⟨S2048x1024, .bf16⟩
  | .local _ .vmem, ⟨7, _⟩ => ⟨S4x3072, .f32⟩
  | .local _ .vmem, ⟨8, _⟩ => ⟨S1x3072, .f32⟩
  | .local _ .vmem, ⟨9, _⟩ => ⟨S1x128, .f32⟩
  | .local _ .vmem, ⟨10, _⟩ => ⟨S1x128, .f32⟩
  | .local _ .vmem, ⟨11, _⟩ => ⟨S32x1, .f32⟩
  | .local _ .vmem, ⟨12, _⟩ => ⟨S32x1, .f32⟩
  | .local _ .vmem, ⟨13, _⟩ => ⟨S1x128, .f32⟩
  | .local _ .vmem, ⟨14, _⟩ => ⟨S1x2048, .f32⟩
  | .local _ .vmem, ⟨15, _⟩ => ⟨S128x128, .bf16⟩
  | .local _ .vmem, ⟨16, _⟩ => ⟨S128x128, .bf16⟩
  | .local _ .vmem, ⟨17, _⟩ => ⟨S128x1024, .f32⟩
  | .local _ .vmem, ⟨18, _⟩ => ⟨S128x1024, .f32⟩
  | .local _ .vmem, ⟨19, _⟩ => ⟨S1x32x64x128, .f32⟩
  | .local _ .vmem, ⟨20, _⟩ => ⟨S1x32x64x128, .f32⟩
  | .local _ .vmem, ⟨21, _⟩ => ⟨S1x8x3072, .f32⟩
  | .local _ .vmem, ⟨22, _⟩ => ⟨S1x8x3072, .f32⟩
  | .local _ .vmem, ⟨23, _⟩ => ⟨S136x3072, .f32⟩
  | .local _ .vmem, ⟨24, _⟩ => ⟨S32x64x128, .f32⟩
  | .local _ .vmem, ⟨25, _⟩ => ⟨S128x2048, .f32⟩
  | .local _ .vmem, ⟨26, _⟩ => ⟨S2048x128, .f32⟩
  | .local _ .vmem, ⟨27, _⟩ => ⟨S2048x128, .f32⟩
  | .local _ .vmem, ⟨28, _⟩ => ⟨S128x2048, .f32⟩
  | _, _ => ⟨S8x4112x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_call0_v0 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_c_0 : Ref sig .tc := ⟨.hbm, 17, rfl⟩
abbrev main_call1_v0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst : Ref sig .tc := ⟨.hbm, 26, rfl⟩
abbrev main_v12 : Ref sig .tc := ⟨.hbm, 27, rfl⟩
abbrev main_call2_v0 : Ref sig .tc := ⟨.hbm, 28, rfl⟩
abbrev main_call2_c : Ref sig .tc := ⟨.hbm, 29, rfl⟩
abbrev main_call2_v1 : Ref sig .tc := ⟨.hbm, 30, rfl⟩
abbrev main_call2_v2 : Ref sig .tc := ⟨.hbm, 31, rfl⟩
abbrev main_call2_v3 : Ref sig .tc := ⟨.hbm, 32, rfl⟩
abbrev main_call2_v4 : Ref sig .tc := ⟨.hbm, 33, rfl⟩
abbrev main_call2_cst : Ref sig .tc := ⟨.hbm, 34, rfl⟩
abbrev main_call2_v5 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_c_1 : Ref sig .tc := ⟨.hbm, 40, rfl⟩
abbrev main_call3_v0 : Ref sig .tc := ⟨.hbm, 41, rfl⟩
abbrev main_v17 : Ref sig .tc := ⟨.hbm, 42, rfl⟩
abbrev main_v18 : Ref sig .tc := ⟨.hbm, 43, rfl⟩
abbrev main_c_2 : Ref sig .tc := ⟨.hbm, 44, rfl⟩
abbrev main_call4_v0 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_c_3 : Ref sig .tc := ⟨.hbm, 50, rfl⟩
abbrev main_call5_v0 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27_0 : Ref sig .tc := ⟨.hbm, 56, rfl⟩
abbrev main_v27_1 : Ref sig .tc := ⟨.hbm, 57, rfl⟩
abbrev main_v27_2 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg16_1 : Ref sig .tc := ⟨.vmem, 18, rfl⟩
abbrev cc0_stg17_0 : Ref sig .tc := ⟨.vmem, 19, rfl⟩
abbrev cc0_stg17_1 : Ref sig .tc := ⟨.vmem, 20, rfl⟩
abbrev cc0_stg18_0 : Ref sig .tc := ⟨.vmem, 21, rfl⟩
abbrev cc0_stg18_1 : Ref sig .tc := ⟨.vmem, 22, rfl⟩
abbrev cc0_scratch0 : Ref sig .tc := ⟨.vmem, 23, rfl⟩
abbrev cc0_scratch1 : Ref sig .tc := ⟨.vmem, 24, rfl⟩
abbrev cc0_scratch2 : Ref sig .tc := ⟨.vmem, 25, rfl⟩
abbrev cc0_scratch3 : Ref sig .tc := ⟨.vmem, 26, rfl⟩
abbrev cc0_scratch4 : Ref sig .tc := ⟨.vmem, 27, rfl⟩
abbrev cc0_scratch5 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem16_1 : DmaSem sig := 18
abbrev cc0_sem17_0 : DmaSem sig := 19
abbrev cc0_sem17_1 : DmaSem sig := 20
abbrev cc0_sem18_0 : DmaSem sig := 21
abbrev cc0_sem18_1 : DmaSem sig := 22

abbrev nD : Nat := 1
abbrev τ : Topo := Topo.v7x

variable {F : FTy → Type} [FloatOps F]

abbrev grid0 : Pipeline.Grid := ⟨2, ![8, 33], ![false, false]⟩

def k0_cond2 (i : grid0.Coords) : BitVec 1 :=
  let arg1 : BitVec 32 := BitVec.ofNat 32 (i 1).val
  let c32_i32 : BitVec 32 := 32#32
  let v1796 : BitVec 1 := Scalar.cmpi .eq arg1 c32_i32
  let v1797 : BitVec 32 := Scalar.extui v1796
  let c0_i32_517 : BitVec 32 := 0#32
  let v1798 : BitVec 1 := Scalar.cmpi .ne v1797 c0_i32_517
  v1798

def cc0_transform_0 (i : grid0.Coords) : Fin 2 → Nat :=
  let arg0 : BitVec 32 := BitVec.ofNat 32 (i 0).val
  let arg1 : BitVec 32 := BitVec.ofNat 32 (i 1).val
  let c33_i32 : BitVec 32 := 33#32
  let v0 : BitVec 32 := Scalar.muli arg0 c33_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c33_i32 : BitVec 32 := 33#32
  let v0 : BitVec 32 := Scalar.muli arg0 c33_i32
  let v1 : BitVec 32 := Scalar.addi v0 arg1
  let c0_i32 : BitVec 32 := 0#32
  let c0_i32_0 : BitVec 32 := 0#32
  ![v1.toNat, c0_i32.toNat]

def cc0_transform_17 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2048x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S4x3072 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x3072 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S32x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S32x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x2048 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S128x128 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S128x128 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 2 → Memref sig .tc .vmem S128x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x32x64x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, false]

abbrev stage0_18 : Fin 2 → Memref sig .tc .vmem S1x8x3072 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, false]
-- ==== Reference6Ideal.lean ====
abbrev S8x4112x1024 : Shape := ⟨3, ![8, 4112, 1024]⟩
abbrev S1024 : Shape := ⟨1, ![1024]⟩
abbrev S1024x5152 : Shape := ⟨2, ![1024, 5152]⟩
abbrev S4x3072 : Shape := ⟨2, ![4, 3072]⟩
abbrev S3072 : Shape := ⟨1, ![3072]⟩
abbrev S32 : Shape := ⟨1, ![32]⟩
abbrev S2048 : Shape := ⟨1, ![2048]⟩
abbrev S2048x1024 : Shape := ⟨2, ![2048, 1024]⟩
abbrev S_ : Shape := ⟨0, ![]⟩
abbrev S8x4112 : Shape := ⟨2, ![8, 4112]⟩
abbrev S8x4112x1 : Shape := ⟨3, ![8, 4112, 1]⟩
abbrev S1x1x1024 : Shape := ⟨3, ![1, 1, 1024]⟩
abbrev S8x4112x5152 : Shape := ⟨3, ![8, 4112, 5152]⟩
abbrev S8x4112x2048 : Shape := ⟨3, ![8, 4112, 2048]⟩
abbrev S8x4112x3072 : Shape := ⟨3, ![8, 4112, 3072]⟩
abbrev S8x4112x32 : Shape := ⟨3, ![8, 4112, 32]⟩
abbrev S8x4115x3072 : Shape := ⟨3, ![8, 4115, 3072]⟩
abbrev S1x3072 : Shape := ⟨2, ![1, 3072]⟩
abbrev S1x1x3072 : Shape := ⟨3, ![1, 1, 3072]⟩
abbrev S8x4112x4x8x64 : Shape := ⟨5, ![8, 4112, 4, 8, 64]⟩
abbrev S8x4112x512 : Shape := ⟨3, ![8, 4112, 512]⟩
abbrev S8x4112x4x128 : Shape := ⟨4, ![8, 4112, 4, 128]⟩
abbrev S1x1x32 : Shape := ⟨3, ![1, 1, 32]⟩
abbrev S8x4112x4x8 : Shape := ⟨4, ![8, 4112, 4, 8]⟩
abbrev S4x8 : Shape := ⟨2, ![4, 8]⟩
abbrev S1x1x4x8 : Shape := ⟨4, ![1, 1, 4, 8]⟩
abbrev S4112x4112 : Shape := ⟨2, ![4112, 4112]⟩
abbrev S8x4x8x4112 : Shape := ⟨4, ![8, 4, 8, 4112]⟩
abbrev S8x4112x1x4x8 : Shape := ⟨5, ![8, 4112, 1, 4, 8]⟩
abbrev S8x1x4112x4x8 : Shape := ⟨5, ![8, 1, 4112, 4, 8]⟩
abbrev S8x4112x4112x4x8 : Shape := ⟨5, ![8, 4112, 4112, 4, 8]⟩
abbrev S4112x4112x1x1 : Shape := ⟨4, ![4112, 4112, 1, 1]⟩
abbrev S1x4112x4112x1x1 : Shape := ⟨5, ![1, 4112, 4112, 1, 1]⟩
abbrev S8x4112x4x8x1 : Shape := ⟨5, ![8, 4112, 4, 8, 1]⟩
abbrev S8x4x4112x4112 : Shape := ⟨4, ![8, 4, 4112, 4112]⟩
abbrev S8x4112x4112x4 : Shape := ⟨4, ![8, 4112, 4112, 4]⟩
abbrev S8x4112x4112x4x1 : Shape := ⟨5, ![8, 4112, 4112, 4, 1]⟩
abbrev S8x4x8x64x4112 : Shape := ⟨5, ![8, 4, 8, 64, 4112]⟩
abbrev S8x1x4x8 : Shape := ⟨4, ![8, 1, 4, 8]⟩
abbrev S8x4x8x64x128 : Shape := ⟨5, ![8, 4, 8, 64, 128]⟩
abbrev S8x32x64x128 : Shape := ⟨4, ![8, 32, 64, 128]⟩
abbrev S4x8x1 : Shape := ⟨3, ![4, 8, 1]⟩
abbrev S1x1x4x8x1 : Shape := ⟨5, ![1, 1, 4, 8, 1]⟩
abbrev S8x4112x4x512 : Shape := ⟨4, ![8, 4112, 4, 512]⟩
abbrev S4x512 : Shape := ⟨2, ![4, 512]⟩
abbrev S8x4112x4 : Shape := ⟨3, ![8, 4112, 4]⟩
abbrev S8x4112x4x1 : Shape := ⟨4, ![8, 4112, 4, 1]⟩
abbrev S1x1x4x512 : Shape := ⟨4, ![1, 1, 4, 512]⟩
abbrev S8x4224x1024 : Shape := ⟨3, ![8, 4224, 1024]⟩
abbrev S33792x1024 : Shape := ⟨2, ![33792, 1024]⟩
abbrev S8x8x3072 : Shape := ⟨3, ![8, 8, 3072]⟩

abbrev nBuf : Space → Nat
  | .hbm => 189
  | .vmem => 0
  | .smem => 0
  | _ => 0

abbrev hbmTy0_0 (i : Nat) : BufTy := match i % 128 with
  | 0 => ⟨S8x4112x1024, .f32⟩
  | 1 => ⟨S1024, .f32⟩
  | 2 => ⟨S1024x5152, .f32⟩
  | 3 => ⟨S4x3072, .f32⟩
  | 4 => ⟨S3072, .f32⟩
  | 5 => ⟨S32, .f32⟩
  | 6 => ⟨S32, .f32⟩
  | 7 => ⟨S32, .f32⟩
  | 8 => ⟨S2048, .f32⟩
  | 9 => ⟨S2048x1024, .f32⟩
  | 10 => ⟨S8x4112x1024, .f32⟩
  | 11 => ⟨S_, .f32⟩
  | 12 => ⟨S8x4112, .f32⟩
  | 13 => ⟨S8x4112x1, .f32⟩
  | 14 => ⟨S_, .f32⟩
  | 15 => ⟨S8x4112x1, .f32⟩
  | 16 => ⟨S8x4112x1, .f32⟩
  | 17 => ⟨S_, .f32⟩
  | 18 => ⟨S8x4112x1, .f32⟩
  | 19 => ⟨S8x4112x1, .f32⟩
  | 20 => ⟨S8x4112x1, .f32⟩
  | 21 => ⟨S8x4112x1024, .f32⟩
  | 22 => ⟨S8x4112x1024, .f32⟩
  | 23 => ⟨S1x1x1024, .f32⟩
  | 24 => ⟨S8x4112x1024, .f32⟩
  | 25 => ⟨S8x4112x1024, .f32⟩
  | 26 => ⟨S8x4112x5152, .f32⟩
  | 27 => ⟨S8x4112x2048, .f32⟩
  | 28 => ⟨S8x4112x3072, .f32⟩
  | 29 => ⟨S8x4112x32, .f32⟩
  | 30 => ⟨S_, .i32⟩
  | 31 => ⟨S_, .f32⟩
  | 32 => ⟨S8x4115x3072, .f32⟩
  | 33 => ⟨S8x4112x3072, .f32⟩
  | 34 => ⟨S1x3072, .f32⟩
  | 35 => ⟨S3072, .f32⟩
  | 36 => ⟨S1x1x3072, .f32⟩
  | 37 => ⟨S8x4112x3072, .f32⟩
  | 38 => ⟨S8x4112x3072, .f32⟩
  | 39 => ⟨S_, .f32⟩
  | 40 => ⟨S8x4112x3072, .f32⟩
  | 41 => ⟨S8x4112x3072, .f32⟩
  | 42 => ⟨S8x4112x3072, .f32⟩
  | 43 => ⟨S1x3072, .f32⟩
  | 44 => ⟨S3072, .f32⟩
  | 45 => ⟨S1x1x3072, .f32⟩
  | 46 => ⟨S8x4112x3072, .f32⟩
  | 47 => ⟨S8x4112x3072, .f32⟩
  | 48 => ⟨S8x4112x3072, .f32⟩
  | 49 => ⟨S8x4112x3072, .f32⟩
  | 50 => ⟨S1x3072, .f32⟩
  | 51 => ⟨S3072, .f32⟩
  | 52 => ⟨S1x1x3072, .f32⟩
  | 53 => ⟨S8x4112x3072, .f32⟩
  | 54 => ⟨S8x4112x3072, .f32⟩
  | 55 => ⟨S8x4112x3072, .f32⟩
  | 56 => ⟨S8x4112x3072, .f32⟩
  | 57 => ⟨S1x3072, .f32⟩
  | 58 => ⟨S3072, .f32⟩
  | 59 => ⟨S1x1x3072, .f32⟩
  | 60 => ⟨S8x4112x3072, .f32⟩
  | 61 => ⟨S8x4112x3072, .f32⟩
  | 62 => ⟨S8x4112x3072, .f32⟩
  | 63 => ⟨S1x1x3072, .f32⟩
  | 64 => ⟨S8x4112x3072, .f32⟩
  | 65 => ⟨S8x4112x3072, .f32⟩
  | 66 => ⟨S8x4112x3072, .f32⟩
  | 67 => ⟨S8x4112x3072, .f32⟩
  | 68 => ⟨S_, .f32⟩
  | 69 => ⟨S8x4112x3072, .f32⟩
  | 70 => ⟨S8x4112x3072, .f32⟩
  | 71 => ⟨S_, .f32⟩
  | 72 => ⟨S8x4112x3072, .f32⟩
  | 73 => ⟨S8x4112x3072, .f32⟩
  | 74 => ⟨S8x4112x3072, .f32⟩
  | 75 => ⟨S8x4112x2048, .f32⟩
  | 76 => ⟨S8x4112x4x8x64, .f32⟩
  | 77 => ⟨S8x4112x512, .f32⟩
  | 78 => ⟨S8x4112x4x128, .f32⟩
  | 79 => ⟨S8x4112x512, .f32⟩
  | 80 => ⟨S8x4112x4x128, .f32⟩
  | 81 => ⟨S1x1x32, .f32⟩
  | 82 => ⟨S8x4112x32, .f32⟩
  | 83 => ⟨S8x4112x32, .f32⟩
  | 84 => ⟨S_, .f32⟩
  | 85 => ⟨S8x4112x32, .f32⟩
  | 86 => ⟨S8x4112x32, .f32⟩
  | 87 => ⟨S8x4112x32, .f32⟩
  | 88 => ⟨S8x4112x32, .f32⟩
  | 89 => ⟨S8x4112x32, .i1⟩
  | 90 => ⟨S8x4112x32, .f32⟩
  | 91 => ⟨S8x4112x32, .f32⟩
  | 92 => ⟨S8x4112x32, .f32⟩
  | 93 => ⟨S8x4112x32, .f32⟩
  | 94 => ⟨S8x4112x32, .f32⟩
  | 95 => ⟨S8x4112x32, .f32⟩
  | 96 => ⟨S8x4112x32, .f32⟩
  | 97 => ⟨S8x4112x32, .f32⟩
  | 98 => ⟨S8x4112x4x8, .f32⟩
  | 99 => ⟨S32, .f32⟩
  | 100 => ⟨S4x8, .f32⟩
  | 101 => ⟨S4x8, .f32⟩
  | 102 => ⟨S1x1x4x8, .f32⟩
  | 103 => ⟨S8x4112x4x8, .f32⟩
  | 104 => ⟨S8x4112x4x8, .f32⟩
  | 105 => ⟨S_, .f32⟩
  | 106 => ⟨S4112x4112, .f32⟩
  | 107 => ⟨S4112x4112, .i32⟩
  | 108 => ⟨S_, .i32⟩
  | 109 => ⟨S4112x4112, .i32⟩
  | 110 => ⟨S4112x4112, .i32⟩
  | 111 => ⟨S4112x4112, .i32⟩
  | 112 => ⟨S4112x4112, .i1⟩
  | 113 => ⟨S_, .f32⟩
  | 114 => ⟨S4112x4112, .f32⟩
  | 115 => ⟨S4112x4112, .f32⟩
  | 116 => ⟨S8x4x8x4112, .f32⟩
  | 117 => ⟨S8x4112x4x8, .f32⟩
  | 118 => ⟨S8x4112x1x4x8, .f32⟩
  | 119 => ⟨S8x1x4112x4x8, .f32⟩
  | 120 => ⟨S8x4112x4112x4x8, .f32⟩
  | 121 => ⟨S8x4112x4112x4x8, .f32⟩
  | 122 => ⟨S8x4112x4112x4x8, .f32⟩
  | 123 => ⟨S8x4112x4112x4x8, .f32⟩
  | 124 => ⟨S4112x4112x1x1, .f32⟩
  | 125 => ⟨S1x4112x4112x1x1, .f32⟩
  | 126 => ⟨S8x4112x4112x4x8, .f32⟩
  | 127 => ⟨S8x4112x4112x4x8, .f32⟩
  | _ => ⟨S8x4112x1024, .f32⟩

abbrev hbmTy0_1 (i : Nat) : BufTy := match i % 128 with
  | 0 => ⟨S8x4112x4x8x1, .f32⟩
  | 1 => ⟨S8x4112x4x8x64, .f32⟩
  | 2 => ⟨S8x4112x4x8x64, .f32⟩
  | 3 => ⟨S8x4x4112x4112, .f32⟩
  | 4 => ⟨S8x4112x4112x4, .f32⟩
  | 5 => ⟨S8x4112x4112x4x1, .f32⟩
  | 6 => ⟨S8x4112x4112x4x8, .f32⟩
  | 7 => ⟨S8x4112x4112x4x8, .f32⟩
  | 8 => ⟨S8x4x8x64x4112, .f32⟩
  | 9 => ⟨S8x4112x4x8x64, .f32⟩
  | 10 => ⟨S8x1x4x8, .f32⟩
  | 11 => ⟨S8x4112x4x8, .f32⟩
  | 12 => ⟨S8x4112x4x8, .f32⟩
  | 13 => ⟨S8x4112x4x8, .f32⟩
  | 14 => ⟨S8x4112x4x8x1, .f32⟩
  | 15 => ⟨S8x4112x4x8x64, .f32⟩
  | 16 => ⟨S8x4112x4x8x64, .f32⟩
  | 17 => ⟨S8x4x8x64x128, .f32⟩
  | 18 => ⟨S8x32x64x128, .f32⟩
  | 19 => ⟨S4x8x1, .f32⟩
  | 20 => ⟨S1x1x4x8x1, .f32⟩
  | 21 => ⟨S8x4112x4x8x64, .f32⟩
  | 22 => ⟨S8x4112x4x8x64, .f32⟩
  | 23 => ⟨S8x4112x4x8x64, .f32⟩
  | 24 => ⟨S8x4112x2048, .f32⟩
  | 25 => ⟨S8x4112x2048, .f32⟩
  | 26 => ⟨S8x4112x2048, .f32⟩
  | 27 => ⟨S_, .f32⟩
  | 28 => ⟨S8x4112x2048, .f32⟩
  | 29 => ⟨S8x4112x2048, .f32⟩
  | 30 => ⟨S_, .f32⟩
  | 31 => ⟨S8x4112x2048, .f32⟩
  | 32 => ⟨S8x4112x2048, .f32⟩
  | 33 => ⟨S8x4112x2048, .f32⟩
  | 34 => ⟨S8x4112x2048, .f32⟩
  | 35 => ⟨S8x4112x4x512, .f32⟩
  | 36 => ⟨S4x512, .f32⟩
  | 37 => ⟨S8x4112x4x512, .f32⟩
  | 38 => ⟨S_, .f32⟩
  | 39 => ⟨S8x4112x4, .f32⟩
  | 40 => ⟨S8x4112x4x1, .f32⟩
  | 41 => ⟨S_, .f32⟩
  | 42 => ⟨S8x4112x4x1, .f32⟩
  | 43 => ⟨S8x4112x4x1, .f32⟩
  | 44 => ⟨S_, .f32⟩
  | 45 => ⟨S8x4112x4x1, .f32⟩
  | 46 => ⟨S8x4112x4x1, .f32⟩
  | 47 => ⟨S8x4112x4x1, .f32⟩
  | 48 => ⟨S8x4112x4x512, .f32⟩
  | 49 => ⟨S8x4112x4x512, .f32⟩
  | 50 => ⟨S1x1x4x512, .f32⟩
  | 51 => ⟨S8x4112x4x512, .f32⟩
  | 52 => ⟨S8x4112x4x512, .f32⟩
  | 53 => ⟨S8x4112x2048, .f32⟩
  | 54 => ⟨S8x4112x1024, .f32⟩
  | 55 => ⟨S8x4112x1024, .f32⟩
  | 56 => ⟨S_, .i32⟩
  | 57 => ⟨S_, .f32⟩
  | 58 => ⟨S8x4224x1024, .f32⟩
  | 59 => ⟨S33792x1024, .f32⟩
  | 60 => ⟨S8x8x3072, .f32⟩
  | _ => ⟨S8x4112x1024, .f32⟩

abbrev hbmTy (i : Nat) : BufTy := match i / 128 with
  | 0 => hbmTy0_0 i
  | 1 => hbmTy0_1 i
  | _ => ⟨S8x4112x1024, .f32⟩

abbrev bufTy : (tb : Table) → Fin (tcTables nBuf tb) → BufTy
  | .hbm, ⟨i, _⟩ => hbmTy i
  | _, _ => ⟨S8x4112x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_c : Ref sig .tc := ⟨.hbm, 30, rfl⟩
abbrev main_call0_v0 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_2 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_call1_v0 : Ref sig .tc := ⟨.hbm, 66, rfl⟩
abbrev main_call1_v1 : Ref sig .tc := ⟨.hbm, 67, rfl⟩
abbrev main_call1_cst : Ref sig .tc := ⟨.hbm, 68, rfl⟩
abbrev main_call1_v2 : Ref sig .tc := ⟨.hbm, 69, rfl⟩
abbrev main_call1_v3 : Ref sig .tc := ⟨.hbm, 70, rfl⟩
abbrev main_call1_cst_0 : Ref sig .tc := ⟨.hbm, 71, rfl⟩
abbrev main_call1_v4 : Ref sig .tc := ⟨.hbm, 72, rfl⟩
abbrev main_call1_v5 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_call2_cst : Ref sig .tc := ⟨.hbm, 84, rfl⟩
abbrev main_call2_v0 : Ref sig .tc := ⟨.hbm, 85, rfl⟩
abbrev main_call2_v1 : Ref sig .tc := ⟨.hbm, 86, rfl⟩
abbrev main_call2_v2 : Ref sig .tc := ⟨.hbm, 87, rfl⟩
abbrev main_call2_v3 : Ref sig .tc := ⟨.hbm, 88, rfl⟩
abbrev main_call2_v4 : Ref sig .tc := ⟨.hbm, 89, rfl⟩
abbrev main_call2_v5 : Ref sig .tc := ⟨.hbm, 90, rfl⟩
abbrev main_call2_v6 : Ref sig .tc := ⟨.hbm, 91, rfl⟩
abbrev main_call2_v7 : Ref sig .tc := ⟨.hbm, 92, rfl⟩
abbrev main_call2_v8 : Ref sig .tc := ⟨.hbm, 93, rfl⟩
abbrev main_call2_v9 : Ref sig .tc := ⟨.hbm, 94, rfl⟩
abbrev main_call2_v10 : Ref sig .tc := ⟨.hbm, 95, rfl⟩
abbrev main_call2_v11 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_cst_3 : Ref sig .tc := ⟨.hbm, 105, rfl⟩
abbrev main_v68 : Ref sig .tc := ⟨.hbm, 106, rfl⟩
abbrev main_call3_v0 : Ref sig .tc := ⟨.hbm, 107, rfl⟩
abbrev main_call3_c : Ref sig .tc := ⟨.hbm, 108, rfl⟩
abbrev main_call3_v1 : Ref sig .tc := ⟨.hbm, 109, rfl⟩
abbrev main_call3_v2 : Ref sig .tc := ⟨.hbm, 110, rfl⟩
abbrev main_call3_v3 : Ref sig .tc := ⟨.hbm, 111, rfl⟩
abbrev main_call3_v4 : Ref sig .tc := ⟨.hbm, 112, rfl⟩
abbrev main_call3_cst : Ref sig .tc := ⟨.hbm, 113, rfl⟩
abbrev main_call3_v5 : Ref sig .tc := ⟨.hbm, 114, rfl⟩
abbrev main_v69 : Ref sig .tc := ⟨.hbm, 115, rfl⟩
abbrev main_v70 : Ref sig .tc := ⟨.hbm, 116, rfl⟩
abbrev main_v71 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_v80 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev main_v84 : Ref sig .tc := ⟨.hbm, 130, rfl⟩
abbrev main_v85 : Ref sig .tc := ⟨.hbm, 131, rfl⟩
abbrev main_v86 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_call4_v0 : Ref sig .tc := ⟨.hbm, 153, rfl⟩
abbrev main_call4_v1 : Ref sig .tc := ⟨.hbm, 154, rfl⟩
abbrev main_call4_cst : Ref sig .tc := ⟨.hbm, 155, rfl⟩
abbrev main_call4_v2 : Ref sig .tc := ⟨.hbm, 156, rfl⟩
abbrev main_call4_v3 : Ref sig .tc := ⟨.hbm, 157, rfl⟩
abbrev main_call4_cst_0 : Ref sig .tc := ⟨.hbm, 158, rfl⟩
abbrev main_call4_v4 : Ref sig .tc := ⟨.hbm, 159, rfl⟩
abbrev main_call4_v5 : Ref sig .tc := ⟨.hbm, 160, rfl⟩
abbrev main_v107 : Ref sig .tc := ⟨.hbm, 161, rfl⟩
abbrev main_v108 : Ref sig .tc := ⟨.hbm, 162, rfl⟩
abbrev main_v109 : Ref sig .tc := ⟨.hbm, 163, rfl⟩
abbrev main_v110 : Ref sig .tc := ⟨.hbm, 164, rfl⟩
abbrev main_v111 : Ref sig .tc := ⟨.hbm, 165, rfl⟩
abbrev main_cst_4 : Ref sig .tc := ⟨.hbm, 166, rfl⟩
abbrev main_v112 : Ref sig .tc := ⟨.hbm, 167, rfl⟩
abbrev main_v113 : Ref sig .tc := ⟨.hbm, 168, rfl⟩
abbrev main_cst_5 : Ref sig .tc := ⟨.hbm, 169, rfl⟩
abbrev main_v114 : Ref sig .tc := ⟨.hbm, 170, rfl⟩
abbrev main_v115 : Ref sig .tc := ⟨.hbm, 171, rfl⟩
abbrev main_cst_6 : Ref sig .tc := ⟨.hbm, 172, rfl⟩
abbrev main_v116 : Ref sig .tc := ⟨.hbm, 173, rfl⟩
abbrev main_v117 : Ref sig .tc := ⟨.hbm, 174, rfl⟩
abbrev main_v118 : Ref sig .tc := ⟨.hbm, 175, rfl⟩
abbrev main_v119 : Ref sig .tc := ⟨.hbm, 176, rfl⟩
abbrev main_v120 : Ref sig .tc := ⟨.hbm, 177, rfl⟩
abbrev main_v121 : Ref sig .tc := ⟨.hbm, 178, rfl⟩
abbrev main_v122 : Ref sig .tc := ⟨.hbm, 179, rfl⟩
abbrev main_v123 : Ref sig .tc := ⟨.hbm, 180, rfl⟩
abbrev main_v124 : Ref sig .tc := ⟨.hbm, 181, rfl⟩
abbrev main_v125 : Ref sig .tc := ⟨.hbm, 182, rfl⟩
abbrev main_v126 : Ref sig .tc := ⟨.hbm, 183, rfl⟩
abbrev main_c_7 : Ref sig .tc := ⟨.hbm, 184, rfl⟩
abbrev main_call5_v0 : Ref sig .tc := ⟨.hbm, 185, rfl⟩
abbrev main_v127 : Ref sig .tc := ⟨.hbm, 186, rfl⟩
abbrev main_v128 : Ref sig .tc := ⟨.hbm, 187, rfl⟩
abbrev main_v129 : Ref sig .tc := ⟨.hbm, 188, rfl⟩

abbrev nD : Nat := 1
abbrev τ : Topo := Topo.v7x

variable {F : FTy → Type} [FloatOps F]
-- ==== Proof.FfnOut.lean ====
module

public import proofs.«01_k».proof.Proof.Gen.Kernel2Ideal.Value
public import Idealize.ShloMosaic.Lib.Pipeline.ValueKit
public import Idealize.ShloMosaic.Lib.Pipeline.ReadBack

@[expose] public section

set_option maxRecDepth 16384

noncomputable section

namespace Cert.Kernel2Ideal.Ffn

open Cert.Kernel2Ideal Cert.Kernel2Ideal.Gen Idealize.ShloMosaic Idealize.ShloMosaic.TcCoe Idealize.SL.Sem
open Idealize.ShloMosaic.Pipeline (Dat)

variable (m : (ℓ : Loc nD τ sig) → Buf (Elt Ideal) ℓ)

/-- Eleven summands, first to last. -/
theorem sum_eleven (f : Fin 11 → EReal) : ∑ j, f j = f 0 + f 1 + f 2 + f 3 + f 4 + f 5 + f 6 + f 7 + f 8 + f 9 + f 10 := by
  simp only [Fin.sum_univ_castSucc, Fin.sum_univ_zero, zero_add]
  rfl

/-- A sum over the hidden width is the sum, first to last, of its eleven tiles of 256. -/
theorem sum_tiles (G : Fin 2816 → EReal) : ∑ k, G k = ∑ x : Fin 256, G ⟨x, by omega⟩ + ∑ x : Fin 256, G ⟨256 + x, by omega⟩ + ∑ x : Fin 256, G ⟨512 + x, by omega⟩ + ∑ x : Fin 256, G ⟨768 + x, by omega⟩ + ∑ x : Fin 256, G ⟨1024 + x, by omega⟩ + ∑ x : Fin 256, G ⟨1280 + x, by omega⟩ + ∑ x : Fin 256, G ⟨1536 + x, by omega⟩ + ∑ x : Fin 256, G ⟨1792 + x, by omega⟩ + ∑ x : Fin 256, G ⟨2048 + x, by omega⟩ + ∑ x : Fin 256, G ⟨2304 + x, by omega⟩ + ∑ x : Fin 256, G ⟨2560 + x, by omega⟩ := by
  rw [Fin.sum_univ_tiles 11 256 rfl G, sum_eleven]
  congr 1

/-- One hidden unit: the gated product of its two pre-activations. -/
def unit (a b : EReal) : EReal := a * Ideal.div 1 (1 + Ideal.exp (0 - a)) * b

/-- What the body computes of one element, from the normalised rows `X`, the input block `x` and the two weights. -/
def elem (x : FVec Ideal S1024x1024 .f32) (X : FVec Ideal S1024x1024 .bf16) (W : FVec Ideal S1024x5632 .bf16)
    (O : FVec Ideal S2816x1024 .bf16) (r cc : Fin 1024) : EReal :=
  x (ix2 r cc) + Ideal.ofBits FTy.f32 1056964608#32 * ∑ k : Fin 2816,
    unit (∑ d : Fin 1024, X (ix2 r d) * W (ix2 d ⟨k, by omega⟩)) (∑ d : Fin 1024, X (ix2 r d) * W (ix2 d ⟨2816 + k, by omega⟩))
      * O (ix2 k cc)

set_option maxHeartbeats 2000000 in
/-- The block that a grid point leaves: the eleven accumulated tiles are one sum over the whole hidden width. -/
theorem out_eq (c : Dev nD) (t : Fin cfg0.N) (r cc : Fin 1024) : outsAt0 (F := Ideal) m c t (ix2 r cc)
    = elem (iblk m c 0 t) (k0_pay1 (iblk m c 0 t) (iblk m c 1 t)) (iblk m c 2 t) (iblk m c 3 t) r cc := by
  unfold outsAt0
  frame_open
  simp (disch := decide) only [↓ View.readCov_skip, ↓ View.readCov_cons_toLoadRect, ↓ View.readCov_fill]
  frame_out
  generalize k0_pay1 (iblk m c 0 t) (iblk m c 1 t) = X
  generalize iblk m c 0 t = x
  generalize iblk m c 2 t = W
  generalize iblk m c 3 t = O
  unfold elem
  rw [sum_tiles]
  pointwise [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25]
  simp only [unit, ← Nat.add_assoc, Nat.reduceAdd]

end Cert.Kernel2Ideal.Ffn
-- ==== Proof.FfnRef.lean ====
module

public import proofs.«01_k».proof.Proof.Gen.Reference2Ideal.Run
public import proofs.«01_k».proof.Proof.FfnOut

@[expose] public section

set_option maxRecDepth 16384

noncomputable section

namespace Cert.Reference2Ideal.Ffn

open Cert.Reference2Ideal Cert.Reference2Ideal.Gen Idealize.ShloMosaic Idealize.ShloMosaic.TcCoe Idealize.SL.Sem

/-- The reference's result as one term of its four arguments. -/
def REF (x : FVec Ideal S33792x1024 .f32) (g : FVec Ideal S1024 .f32) (w : FVec Ideal S1024x5632 .f32)
    (o : FVec Ideal S2816x1024 .f32) : FVec Ideal S33792x1024 .f32 :=
  addf x (mulf (broadcastInDim S33792x1024 ![] bcast_S_S33792x1024 (constant S_ .f32 0x3F000000#32)) (Host.dotGeneral dot_S33792x2816_S2816x1024_S33792x1024_1_0_0_1_n_n none (mulf (mulf (extractStridedSlice S33792x2816 ![0, 0] (Host.dotGeneral dot_S33792x1024_S1024x5632_S33792x5632_1_0_0_1_n_n none (mulf (mulf x (broadcastInDim S33792x1024 ![0, 1] bcast_S33792x1_S33792x1024_0_1 (Host.rsqrt (addf (Host.divf (broadcastInDim S33792x1 ![0] bcast_S33792_S33792x1_0 (Host.reduceAdd (mulf x x) (constant S_ .f32 0x00000000#32) reducesTo_S33792x1024_S33792_d1 h_S_)) (broadcastInDim S33792x1 ![] bcast_S_S33792x1 (constant S_ .f32 0x44800000#32))) (broadcastInDim S33792x1 ![] bcast_S_S33792x1 (constant S_ .f32 0x358637BD#32)))))) (broadcastInDim S33792x1024 ![0, 1] bcast_S1x1024_S33792x1024_0_1 (broadcastInDim S1x1024 ![1] bcast_S1024_S1x1024_1 g))) w) slices_S33792x5632_S33792x2816_0_0) (Host.divf (broadcastInDim S33792x2816 ![] bcast_S_S33792x2816 (constant S_ .f32 0x3F800000#32)) (addf (broadcastInDim S33792x2816 ![] bcast_S_S33792x2816 (constant S_ .f32 0x3F800000#32)) (Host.exp (Host.negf (extractStridedSlice S33792x2816 ![0, 0] (Host.dotGeneral dot_S33792x1024_S1024x5632_S33792x5632_1_0_0_1_n_n none (mulf (mulf x (broadcastInDim S33792x1024 ![0, 1] bcast_S33792x1_S33792x1024_0_1 (Host.rsqrt (addf (Host.divf (broadcastInDim S33792x1 ![0] bcast_S33792_S33792x1_0 (Host.reduceAdd (mulf x x) (constant S_ .f32 0x00000000#32) reducesTo_S33792x1024_S33792_d1 h_S_)) (broadcastInDim S33792x1 ![] bcast_S_S33792x1 (constant S_ .f32 0x44800000#32))) (broadcastInDim S33792x1 ![] bcast_S_S33792x1 (constant S_ .f32 0x358637BD#32)))))) (broadcastInDim S33792x1024 ![0, 1] bcast_S1x1024_S33792x1024_0_1 (broadcastInDim S1x1024 ![1] bcast_S1024_S1x1024_1 g))) w) slices_S33792x5632_S33792x2816_0_0)))))) (extractStridedSlice S33792x2816 ![0, 2816] (Host.dotGeneral dot_S33792x1024_S1024x5632_S33792x5632_1_0_0_1_n_n none (mulf (mulf x (broadcastInDim S33792x1024 ![0, 1] bcast_S33792x1_S33792x1024_0_1 (Host.rsqrt (addf (Host.divf (broadcastInDim S33792x1 ![0] bcast_S33792_S33792x1_0 (Host.reduceAdd (mulf x x) (constant S_ .f32 0x00000000#32) reducesTo_S33792x1024_S33792_d1 h_S_)) (broadcastInDim S33792x1 ![] bcast_S_S33792x1 (constant S_ .f32 0x44800000#32))) (broadcastInDim S33792x1 ![] bcast_S_S33792x1 (constant S_ .f32 0x358637BD#32)))))) (broadcastInDim S33792x1024 ![0, 1] bcast_S1x1024_S33792x1024_0_1 (broadcastInDim S1x1024 ![1] bcast_S1024_S1x1024_1 g))) w) slices_S33792x5632_S33792x2816_0_2816)) o))

end Cert.Reference2Ideal.Ffn

namespace Cert.Kernel2Ideal.Ffn

open Cert.Kernel2Ideal Cert.Kernel2Ideal.Gen Idealize.ShloMosaic Idealize.ShloMosaic.TcCoe Idealize.SL.Sem
open Idealize.ShloMosaic.Pipeline (Dat)

variable (m : (ℓ : Loc nD τ sig) → Buf (Elt Ideal) ℓ)

/-- Which block of its array each window stages at a grid point. -/
theorem idx : ∀ t : Fin cfg0.N, win0_0.index t = ![t.val, 0] ∧ win0_1.index t = ![0, 0] ∧ win0_2.index t = ![0, 0]
    ∧ win0_3.index t = ![0, 0] ∧ win0_4.index t = ![t.val, 0] :=
  (by decide +kernel : ∀ t : Fin grid0.N, _)

set_option maxHeartbeats 1000000 in
/-- What a grid point leaves at an element of its block is the reference's term there. -/
theorem point (c : Dev nD) (t : Fin cfg0.N) (y : S1024x1024.Idx) : outsAt0 m c t y
    = Cert.Reference2Ideal.Ffn.REF (m ((c : Thread nD τ).loc main_arg0)) (m ((c : Thread nD τ).loc main_arg1))
      (m ((c : Thread nD τ).loc main_arg2)) (m ((c : Thread nD τ).loc main_arg3)) (((cfg0.win 4).blk t).view.emb y) := by
  idx_vars y
  rw [out_eq]
  pointwise [elem, unit, k0_pay1, Cert.Reference2Ideal.Ffn.REF]
  simp only [zero_sub, zero_add]
  blk_point [iblk, V, idx t]

/-- The result array after the run is the reference's term of the arguments. -/
theorem final (c : Dev nD) : (dats m 0 c).arrAt 4 cfg0.N
    = Cert.Reference2Ideal.Ffn.REF (m ((c : Thread nD τ).loc main_arg0)) (m ((c : Thread nD τ).loc main_arg1))
      (m ((c : Thread nD τ).loc main_arg2)) (m ((c : Thread nD τ).loc main_arg3)) := by
  refine (dats m 0 c).arrAt_eq_of_covers 4 _ (by decide +kernel) fun t _ y => ?_
  blk_simp
  rw [after0_4]
  exact point m c t y

end Cert.Kernel2Ideal.Ffn
-- ==== Proof.FfnClaim.lean ====
module

public import proofs.«01_k».proof.Defs
public import proofs.«01_k».proof.Proof.FfnRef

@[expose] public section

set_option maxRecDepth 16384

noncomputable section

namespace Cert.Kernel2Ideal.Ffn

open Idealize.ShloMosaic Idealize.SL.Sem

/-- The feed-forward call and its reference leave the same array, and neither changes its arguments. -/
theorem algebraic : Cert.algebraic_Kernel2Ideal_Reference2Ideal (hKernel2Ideal := Cert.Kernel2Ideal.Gen.facts)
    (hReference2Ideal := Cert.Reference2Ideal.Gen.facts) := by
  intro m g m' g' _ hargs
  refine ⟨fun c => (Cert.Kernel2Ideal.Gen.dats m 0 c).arrAt 4 Cert.Kernel2Ideal.cfg0.N,
    Cert.Kernel2Ideal.Value.run_blocks m g, ?_⟩
  refine (θ_run _ _ _).mono (fun r h c => ⟨?_, (h c).2⟩) (Cert.Reference2Ideal.Value.run m' g')
  obtain ⟨h0, h1, h2, h3⟩ := hargs c
  refine (h c).1.trans (Eq.trans ?_ (final m c).symm)
  rw [← h0, ← h1, ← h2, ← h3]
  rfl

end Cert.Kernel2Ideal.Ffn

end
-- ==== Proof.Reals.lean ====
module

public import Idealize.ShloMosaic.Lib.Pipeline.ValueKit
public import Idealize.ShloMosaic.Lib.Pipeline.ReadBack

@[expose] public section

noncomputable section

namespace Cert.Reals

open Idealize.ShloMosaic

/-- An extended real that is a real number. -/
def IsReal (x : EReal) : Prop := ∃ r : ℝ, x = (r : EReal)

theorem IsReal.coe (r : ℝ) : IsReal (r : EReal) := ⟨r, rfl⟩
theorem IsReal.zero : IsReal 0 := ⟨0, rfl⟩
theorem IsReal.one : IsReal 1 := ⟨1, rfl⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.sub {x y : EReal} (hx : IsReal x) (hy : IsReal y) : IsReal (x - y) := by
  obtain ⟨a, rfl⟩ := hx
  obtain ⟨b, rfl⟩ := hy
  exact ⟨a - b, (EReal.coe_sub a b).symm⟩

theorem IsReal.neg {x : EReal} (hx : IsReal x) : IsReal (-x) := by
  obtain ⟨a, rfl⟩ := hx
  exact ⟨-a, (EReal.coe_neg a).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.sum {ι : Type} (s : Finset ι) (f : ι → EReal) (h : ∀ k, IsReal (f k)) : IsReal (∑ k ∈ s, f k) := by
  classical
  induction s using Finset.induction_on with
  | empty => simpa using IsReal.zero
  | insert a s ha ih =>
    rw [Finset.sum_insert ha]
    exact (h a).add ih

theorem IsReal.exp {x : EReal} (hx : IsReal x) : IsReal (Ideal.exp x) := by
  obtain ⟨a, rfl⟩ := hx
  exact ⟨Real.exp a, by simp⟩

/-- A real number that lies strictly between the two infinities, and conversely. -/
theorem isReal_of_lt {x : EReal} (h : ⊥ < x) (h' : x < ⊤) : IsReal x := by
  induction x with
  | bot => exact absurd h (lt_irrefl _)
  | top => exact absurd h' (lt_irrefl _)
  | coe r => exact ⟨r, rfl⟩

/-- A real number minus itself is zero; of an infinity that is not so. -/
theorem IsReal.sub_self {x : EReal} (hx : IsReal x) : x - x = 0 := by
  obtain ⟨a, rfl⟩ := hx
  rw [← EReal.coe_sub, _root_.sub_self, EReal.coe_zero]

theorem ofBits_eps : Ideal.ofBits .f32 0x358637BD#32 = ((8796093 / 8796093022208 : ℝ) : EReal) := by
  simp [Ideal.ofBits, Ideal.ieee, -EReal.coe_mul]; norm_num

theorem ofBits_1024 : Ideal.ofBits .f32 0x44800000#32 = ((1024 : ℝ) : EReal) := by
  simp [Ideal.ofBits, Ideal.ieee, -EReal.coe_mul]; norm_num

theorem ofBits_64 : Ideal.ofBits .f32 0x42800000#32 = ((64 : ℝ) : EReal) := by
  simp [Ideal.ofBits, Ideal.ieee, -EReal.coe_mul]; norm_num

theorem ofBits_inv64 : Ideal.ofBits .f32 0x3C800000#32 = ((1 / 64 : ℝ) : EReal) := by
  simp [Ideal.ofBits, Ideal.ieee, -EReal.coe_mul]; norm_num

/-- The reciprocal root of a sum of a mean square and a positive real is a real number. -/
theorem IsReal.rsqrt {x : ℝ} (hx : 0 < x) : IsReal (Ideal.rsqrt (x : EReal)) := by
  refine ⟨(Real.sqrt x)⁻¹, ?_⟩
  simp [not_lt.mpr hx.le, hx.ne']

/-- A square is not negative. -/
theorem sq_nonneg (x : EReal) : 0 ≤ x * x := by
  induction x with
  | bot => simp
  | top => simp
  | coe r =>
    rw [← EReal.coe_mul]
    exact_mod_cast mul_self_nonneg r

/-- The root mean square of real numbers, raised by the small constant, has a real reciprocal. -/
theorem IsReal.rsqrt_mean {ι : Type} [Fintype ι] (f : ι → EReal) (h : ∀ k, IsReal (f k)) {n : ℝ} (hn : 0 < n) :
    IsReal (Ideal.rsqrt ((∑ k, f k * f k) * ((1 / n : ℝ) : EReal) + Ideal.ofBits .f32 0x358637BD#32)) := by
  obtain ⟨s, hs⟩ := IsReal.sum Finset.univ (fun k => f k * f k) fun k => (h k).mul (h k)
  have h0 : (0 : EReal) ≤ (s : EReal) := hs ▸ Finset.sum_nonneg fun k _ => sq_nonneg (f k)
  have h0' : 0 ≤ s := by exact_mod_cast h0
  rw [hs, ofBits_eps, ← EReal.coe_mul, ← EReal.coe_add]
  exact IsReal.rsqrt (by positivity)

/-- An element of a normalised row is a real number, whatever the row holds: with an infinity in the row the factor
    is zero. -/
theorem IsReal.rms {ι : Type} [Fintype ι] (x : ι → EReal) {n : ℝ} (hn : 0 < n) (i : ι) :
    IsReal (x i * Ideal.rsqrt (Ideal.div (∑ k, x k * x k) (n : EReal) + Ideal.ofBits .f32 0x358637BD#32)) := by
  rw [Ideal.div_coe hn.ne']
  by_cases h : ∀ k, IsReal (x k)
  · exact (h i).mul (IsReal.rsqrt_mean x h hn)
  · have hinf : ∃ k, x k * x k = ⊤ := by
      by_contra hc
      refine h fun k => ?_
      have hk : x k * x k ≠ ⊤ := fun e => hc ⟨k, e⟩
      generalize x k = y at hk
      induction y with
      | bot => exact absurd (by simp) hk
      | top => exact absurd (by simp) hk
      | coe r => exact ⟨r, rfl⟩
    obtain ⟨k, hk⟩ := hinf
    have hs : ∑ k, x k * x k = ⊤ := by
      refine top_le_iff.mp ?_
      rw [← hk]
      exact Finset.single_le_sum (f := fun k => x k * x k) (fun j _ => sq_nonneg (x j)) (Finset.mem_univ k)
    have hm : (⊤ : EReal) * ((1 / n : ℝ) : EReal) = ⊤ := EReal.top_mul_coe_of_pos (by positivity)
    rw [hs, hm, ofBits_eps, EReal.top_add_coe]
    simp [IsReal.zero]

/-- Splitting real numbers into a leading part and two remainders, which are zero, leaves a weighted sum as it was. -/
theorem split_sum {ι : Type} [Fintype ι] (x e : ι → EReal) (hx : ∀ k, IsReal (x k)) :
    ∑ k, x k * e k + ∑ k, (x k - x k) * e k + ∑ k, (x k - x k - (x k - x k)) * e k = ∑ k, x k * e k := by
  have h : ∀ k, x k - x k = 0 := fun k => (hx k).sub_self
  simp [h]

/-- A sum against the indicator of the positions `64 j, …, 64 j + 63` is the sum over that segment. -/
theorem segment_sum {N : ℕ} (n : ℕ) (hN : n * 64 = N) (f : Fin N → EReal) (j : ℕ) (hj : j < n) :
    ∑ k : Fin N, f k * (if k.val / 64 = j then 1 else 0) = ∑ d : Fin 64, f ⟨j * 64 + d.val, by omega⟩ := by
  rw [Fin.sum_univ_tiles n 64 hN, Finset.sum_eq_single (⟨j, hj⟩ : Fin n)]
  · refine Finset.sum_congr rfl fun d _ => ?_
    rw [if_pos (by dsimp only; omega), mul_one]
  · intro i _ hi
    refine Finset.sum_eq_zero fun d _ => ?_
    rw [if_neg, mul_zero]
    intro e
    exact hi (Fin.ext (by dsimp only at e ⊢; omega))
  · exact fun h => absurd (Finset.mem_univ _) h

/-- Beyond the last segment such a sum is empty. -/
theorem segment_sum_none {N : ℕ} (n : ℕ) (hN : n * 64 = N) (f : Fin N → EReal) (j : ℕ) (hj : n ≤ j) :
    ∑ k : Fin N, f k * (if k.val / 64 = j then 1 else 0) = 0 := by
  refine Finset.sum_eq_zero fun k _ => ?_
  rw [if_neg (by omega), mul_zero]

/-- A sum against the indicator of one position is the element there. -/
theorem pick_sum {N : ℕ} (f : Fin N → EReal) (j : ℕ) (hj : j < N) :
    ∑ k : Fin N, f k * (if j = k.val then 1 else 0) = f ⟨j, hj⟩ := by
  rw [Finset.sum_eq_single (⟨j, hj⟩ : Fin N)]
  · simp
  · intro i _ hi
    rw [if_neg, mul_zero]
    exact fun e => hi (Fin.ext e.symm)
  · exact fun h => absurd (Finset.mem_univ _) h

end Cert.Reals

end
-- ==== Proof.Segments.lean ====
module

public import proofs.«01_k».proof.Proof.Reals

@[expose] public section

noncomputable section

namespace Cert.Reals

open Idealize.ShloMosaic

/-- The host's floor division of a small index by 64, spelt with signs and remainders, is the quotient. -/
theorem floor_div_word : ∀ d : Fin 2048, Scalar.select
      (IntOp.andi
        (IntOp.cmpi CmpIPredicate.ne
          (if BitVec.ofNat 32 d.val = 0 then 0 else if (BitVec.ofNat 32 d.val).msb = true then -1 else 1)
          (if 64#32 = 0 then 0 else if (64#32).msb = true then (-1 : BitVec 32) else 1))
        (IntOp.cmpi CmpIPredicate.ne (IntOp.remsi ArithUnit.host (BitVec.ofNat 32 d.val) 64#32) 0#32))
      (IntOp.subi (IntOp.divsi ArithUnit.host (BitVec.ofNat 32 d.val) 64#32) 1#32)
      (IntOp.divsi ArithUnit.host (BitVec.ofNat 32 d.val) 64#32) = BitVec.ofNat 32 (d.val / 64) := by
  decide +kernel

/-- The same at a natural number. -/
theorem floor_div_nat (d : ℕ) (hd : d < 2048) : Scalar.select
      (IntOp.andi
        (IntOp.cmpi CmpIPredicate.ne
          (if BitVec.ofNat 32 d = 0 then 0 else if (BitVec.ofNat 32 d).msb = true then -1 else 1)
          (if 64#32 = 0 then 0 else if (64#32).msb = true then (-1 : BitVec 32) else 1))
        (IntOp.cmpi CmpIPredicate.ne (IntOp.remsi ArithUnit.host (BitVec.ofNat 32 d) 64#32) 0#32))
      (IntOp.subi (IntOp.divsi ArithUnit.host (BitVec.ofNat 32 d) 64#32) 1#32)
      (IntOp.divsi ArithUnit.host (BitVec.ofNat 32 d) 64#32) = BitVec.ofNat 32 (d / 64) :=
  floor_div_word ⟨d, hd⟩

/-- The comparison of two small indices, converted to a float, is the indicator of their equality. -/
theorem indicator_word (a b : ℕ) (ha : a < 4096) (hb : b < 4096) :
    (FloatOps.uitofp FTy.bf16 (IntOp.cmpi CmpIPredicate.eq (BitVec.ofNat 32 a) (BitVec.ofNat 32 b)) : Ideal .bf16)
      = (if a = b then (1 : EReal) else 0) := by
  have h : BitVec.ofNat 32 a = BitVec.ofNat 32 b ↔ a = b := by
    constructor
    · intro e
      have := congrArg BitVec.toNat e
      simp only [BitVec.toNat_ofNat] at this
      omega
    · exact fun e => e ▸ rfl
  by_cases e : a = b
  · subst e
    simp [IntOp.cmpi, FloatOps.uitofp]
  · simp [IntOp.cmpi, FloatOps.uitofp, h, e]

/-- The host's indicator of "the segment of `d` is `j`", element by element. -/
theorem segment_word (d j : ℕ) (hd : d < 2048) (hj : j < 4096) :
    (FloatOps.uitofp FTy.bf16 (IntOp.cmpi CmpIPredicate.eq (Scalar.select
      (IntOp.andi
        (IntOp.cmpi CmpIPredicate.ne
          (if BitVec.ofNat 32 d = 0 then 0 else if (BitVec.ofNat 32 d).msb = true then -1 else 1)
          (if 64#32 = 0 then 0 else if (64#32).msb = true then (-1 : BitVec 32) else 1))
        (IntOp.cmpi CmpIPredicate.ne (IntOp.remsi ArithUnit.host (BitVec.ofNat 32 d) 64#32) 0#32))
      (IntOp.subi (IntOp.divsi ArithUnit.host (BitVec.ofNat 32 d) 64#32) 1#32)
      (IntOp.divsi ArithUnit.host (BitVec.ofNat 32 d) 64#32)) (BitVec.ofNat 32 j)) : Ideal .bf16)
      = (if d / 64 = j then (1 : EReal) else 0) := by
  rw [floor_div_nat d hd]
  exact indicator_word _ _ (by omega) hj

/-- Two comparisons with the infinities, both true: the element is a real number. -/
theorem isReal_of_word {x : EReal} (h : IntOp.andi (BitVec.ofBool (decide (Ideal.ofBits FTy.f32 0xFF800000#32 < x)))
    (BitVec.ofBool (decide (x < Ideal.ofBits FTy.f32 0x7F800000#32))) = 1#1) : IsReal x := by
  have hb : Ideal.ofBits FTy.f32 0xFF800000#32 = ⊥ := by simp [Ideal.ofBits, Ideal.ieee]
  have ht : Ideal.ofBits FTy.f32 0x7F800000#32 = ⊤ := by simp [Ideal.ofBits, Ideal.ieee]
  rw [hb, ht] at h
  by_cases h1 : ⊥ < x
  · by_cases h2 : x < ⊤
    · exact isReal_of_lt h1 h2
    · exfalso
      simp only [h1, h2, decide_true, decide_false] at h
      exact absurd h (by decide)
  · exfalso
    simp only [h1, decide_false] at h
    rcases Classical.em (x < ⊤) with h2 | h2
    · simp only [h2, decide_true] at h
      exact absurd h (by decide)
    · simp only [h2, decide_false] at h
      exact absurd h (by decide)

end Cert.Reals

end
-- ==== Proof.AttnHost3.lean ====
module

public import proofs.«01_k».proof.Proof.Gen.Kernel3Ideal.Value
public import proofs.«01_k».proof.Proof.Segments
public import Idealize.ShloMosaic.Lib.Pipeline.ValueKit
public import Idealize.ShloMosaic.Lib.Pipeline.ReadBack

/-! The arrays that the host code prepares for the call, element by element: the weights with two groups of zero
columns, the segment indicators and their transposes, the repeated and the padded gains. -/

@[expose] public section

set_option maxRecDepth 16384

noncomputable section

namespace Cert.Kernel3Ideal.AttnIn

open Cert.Kernel3Ideal Cert.Kernel3Ideal.Gen Idealize.ShloMosaic Idealize.ShloMosaic.TcCoe Idealize.SL.Sem
open Idealize.ShloMosaic.Pipeline (Dat)

variable (m : (ℓ : Loc nD τ sig) → Buf (Elt Ideal) ℓ)

/-- The indicator of the query heads. -/
theorem V_gq (c : Dev nD) (d : Fin 1024) (j : Fin 128) :
    @Eq EReal ((V m c main_v15 : FVec Ideal S1024x128 .bf16) (ix2 d j))
      (if d.val / 64 = j.val then 1 else 0) := by
  simp only [V, List.flatten, List.append, hostOps0, hostOps0_1, hostOps0_2, hostOps0_3, hostOps0_4, hostOps0_5,
    hostOps0_6, hostOps0_7, hostOps0_8, hostOps0_9, hostOps0_10]
  after_results
  simp only [StableHlo.TRef.ofBuf_toBuf, StableHlo.TRef.ofBuf, StableHlo.TRef.toBuf, StableHlo.TRef.of, id, cast_eq]
  pointwise []
  exact Cert.Reals.segment_word d.val j.val (by omega) (by omega)

/-- The indicator of the query heads, transposed. -/
theorem V_eq (c : Dev nD) (j : Fin 128) (d : Fin 1024) :
    @Eq EReal ((V m c main_v16 : FVec Ideal S128x1024 .bf16) (ix2 j d))
      (if d.val / 64 = j.val then 1 else 0) := by
  simp only [V, List.flatten, List.append, hostOps0, hostOps0_1, hostOps0_2, hostOps0_3, hostOps0_4, hostOps0_5,
    hostOps0_6, hostOps0_7, hostOps0_8, hostOps0_9, hostOps0_10]
  after_results
  simp only [StableHlo.TRef.ofBuf_toBuf, StableHlo.TRef.ofBuf, StableHlo.TRef.toBuf, StableHlo.TRef.of, id, cast_eq]
  pointwise []
  exact Cert.Reals.segment_word d.val j.val (by omega) (by omega)

/-- The indicator of the key heads. -/
theorem V_gk (c : Dev nD) (d : Fin 256) (j : Fin 128) :
    @Eq EReal ((V m c main_v25 : FVec Ideal S256x128 .bf16) (ix2 d j))
      (if d.val / 64 = j.val then 1 else 0) := by
  simp only [V, List.flatten, List.append, hostOps0, hostOps0_1, hostOps0_2, hostOps0_3, hostOps0_4, hostOps0_5,
    hostOps0_6, hostOps0_7, hostOps0_8, hostOps0_9, hostOps0_10]
  after_results
  simp only [StableHlo.TRef.ofBuf_toBuf, StableHlo.TRef.ofBuf, StableHlo.TRef.toBuf, StableHlo.TRef.of, id, cast_eq]
  pointwise []
  exact Cert.Reals.segment_word d.val j.val (by omega) (by omega)

/-- The indicator of the key heads, transposed. -/
theorem V_ek (c : Dev nD) (j : Fin 128) (d : Fin 256) :
    @Eq EReal ((V m c main_v26 : FVec Ideal S128x256 .bf16) (ix2 j d))
      (if d.val / 64 = j.val then 1 else 0) := by
  simp only [V, List.flatten, List.append, hostOps0, hostOps0_1, hostOps0_2, hostOps0_3, hostOps0_4, hostOps0_5,
    hostOps0_6, hostOps0_7, hostOps0_8, hostOps0_9, hostOps0_10]
  after_results
  simp only [StableHlo.TRef.ofBuf_toBuf, StableHlo.TRef.ofBuf, StableHlo.TRef.toBuf, StableHlo.TRef.of, id, cast_eq]
  pointwise []
  exact Cert.Reals.segment_word d.val j.val (by omega) (by omega)

/-- The gain of the input norm. -/
theorem V_g (c : Dev nD) (z : Fin 1) (d : Fin 1024) :
    @Eq EReal ((V m c main_v27 : FVec Ideal S1x1024 .f32) (ix2 z d))
      ((m ((c : Thread nD τ).loc main_arg1) : FVec Ideal S1024 .f32) (ix1 d)) := by
  simp only [V, List.flatten, List.append, hostOps0, hostOps0_1, hostOps0_2, hostOps0_3, hostOps0_4, hostOps0_5,
    hostOps0_6, hostOps0_7, hostOps0_8, hostOps0_9, hostOps0_10]
  after_results
  simp only [StableHlo.TRef.ofBuf_toBuf, StableHlo.TRef.ofBuf, StableHlo.TRef.toBuf, StableHlo.TRef.of, id, cast_eq]
  pointwise []

/-- The gain of the query norm, once for each head. -/
theorem V_qg (c : Dev nD) (z : Fin 1) (d : Fin 1024) :
    @Eq EReal ((V m c main_v31 : FVec Ideal S1x1024 .f32) (ix2 z d))
      ((m ((c : Thread nD τ).loc main_arg3) : FVec Ideal S64 .f32) (ix1 ⟨d.val % 64, by omega⟩)) := by
  simp only [V, List.flatten, List.append, hostOps0, hostOps0_1, hostOps0_2, hostOps0_3, hostOps0_4, hostOps0_5,
    hostOps0_6, hostOps0_7, hostOps0_8, hostOps0_9, hostOps0_10]
  after_results
  simp only [StableHlo.TRef.ofBuf_toBuf, StableHlo.TRef.ofBuf, StableHlo.TRef.toBuf, StableHlo.TRef.of, id, cast_eq]
  pointwise []

/-- The gain of the key norm, once for each head. -/
theorem V_kg (c : Dev nD) (z : Fin 1) (d : Fin 256) :
    @Eq EReal ((V m c main_v35 : FVec Ideal S1x256 .f32) (ix2 z d))
      ((m ((c : Thread nD τ).loc main_arg4) : FVec Ideal S64 .f32) (ix1 ⟨d.val % 64, by omega⟩)) := by
  simp only [V, List.flatten, List.append, hostOps0, hostOps0_1, hostOps0_2, hostOps0_3, hostOps0_4, hostOps0_5,
    hostOps0_6, hostOps0_7, hostOps0_8, hostOps0_9, hostOps0_10]
  after_results
  simp only [StableHlo.TRef.ofBuf_toBuf, StableHlo.TRef.ofBuf, StableHlo.TRef.toBuf, StableHlo.TRef.of, id, cast_eq]
  pointwise []

/-- The gain of the index key norm, then zeros. -/
theorem V_kig (c : Dev nD) (z : Fin 1) (d : Fin 128) :
    @Eq EReal ((V m c main_v37 : FVec Ideal S1x128 .f32) (ix2 z d))
      (if h : d.val < 64 then ((m ((c : Thread nD τ).loc main_arg5) : FVec Ideal S64 .f32) (ix1 ⟨d.val, h⟩)) else 0) := by
  simp only [V, List.flatten, List.append, hostOps0, hostOps0_1, hostOps0_2, hostOps0_3, hostOps0_4, hostOps0_5,
    hostOps0_6, hostOps0_7, hostOps0_8, hostOps0_9, hostOps0_10]
  after_results
  simp only [StableHlo.TRef.ofBuf_toBuf, StableHlo.TRef.ofBuf, StableHlo.TRef.toBuf, StableHlo.TRef.of, id, cast_eq]
  pointwise []
  simp [FloatOps.sitofp]

/-- The weights: a first group of columns as given. -/
theorem V_w (c : Dev nD) (d : Fin 1024) (j : Fin 2304) (hj : j.val < 2112) :
    @Eq EReal ((V m c main_v6 : FVec Ideal S1024x2304 .bf16) (ix2 d j))
      ((m ((c : Thread nD τ).loc main_arg2) : FVec Ideal S1024x2120 .f32) (ix2 d ⟨j.val, by omega⟩)) := by
  simp only [V, List.flatten, List.append, hostOps0, hostOps0_1, hostOps0_2, hostOps0_3, hostOps0_4, hostOps0_5,
    hostOps0_6, hostOps0_7, hostOps0_8, hostOps0_9, hostOps0_10]
  after_results
  simp only [StableHlo.TRef.ofBuf_toBuf, StableHlo.TRef.ofBuf, StableHlo.TRef.toBuf, StableHlo.TRef.of, id, cast_eq]
  pointwise []
  after_results_loop
  simp only [StableHlo.TRef.ofBuf_toBuf, StableHlo.TRef.ofBuf, StableHlo.TRef.toBuf, StableHlo.TRef.of, id, cast_eq]
  pointwise []
  split_ifs <;> first
    | (exfalso; omega)
    | rfl
    | exact congrArg (fun k => (m ((c : Thread nD τ).loc main_arg2) : FVec Ideal S1024x2120 .f32) (ix2 d k)) (Fin.ext (by simp only; omega))
    | simp [FloatOps.sitofp]

/-- Then columns of zeros. -/
theorem V_w_zero (c : Dev nD) (d : Fin 1024) (j : Fin 2304) (hj : 2112 ≤ j.val) (hj2 : j.val < 2176) :
    @Eq EReal ((V m c main_v6 : FVec Ideal S1024x2304 .bf16) (ix2 d j))
      0 := by
  simp only [V, List.flatten, List.append, hostOps0, hostOps0_1, hostOps0_2, hostOps0_3, hostOps0_4, hostOps0_5,
    hostOps0_6, hostOps0_7, hostOps0_8, hostOps0_9, hostOps0_10]
  after_results
  simp only [StableHlo.TRef.ofBuf_toBuf, StableHlo.TRef.ofBuf, StableHlo.TRef.toBuf, StableHlo.TRef.of, id, cast_eq]
  pointwise []
  after_results_loop
  simp only [StableHlo.TRef.ofBuf_toBuf, StableHlo.TRef.ofBuf, StableHlo.TRef.toBuf, StableHlo.TRef.of, id, cast_eq]
  pointwise []
  split_ifs <;> first
    | (exfalso; omega)
    | rfl
    | exact congrArg (fun k => (m ((c : Thread nD τ).loc main_arg2) : FVec Ideal S1024x2120 .f32) (ix2 d k)) (Fin.ext (by simp only; omega))
    | simp [FloatOps.sitofp]

/-- Then the columns of the index weights. -/
theorem V_w_idx (c : Dev nD) (d : Fin 1024) (j : Fin 2304) (hj : 2176 ≤ j.val) (hj2 : j.val < 2184) :
    @Eq EReal ((V m c main_v6 : FVec Ideal S1024x2304 .bf16) (ix2 d j))
      ((m ((c : Thread nD τ).loc main_arg2) : FVec Ideal S1024x2120 .f32) (ix2 d ⟨j.val - 64, by omega⟩)) := by
  simp only [V, List.flatten, List.append, hostOps0, hostOps0_1, hostOps0_2, hostOps0_3, hostOps0_4, hostOps0_5,
    hostOps0_6, hostOps0_7, hostOps0_8, hostOps0_9, hostOps0_10]
  after_results
  simp only [StableHlo.TRef.ofBuf_toBuf, StableHlo.TRef.ofBuf, StableHlo.TRef.toBuf, StableHlo.TRef.of, id, cast_eq]
  pointwise []
  after_results_loop
  simp only [StableHlo.TRef.ofBuf_toBuf, StableHlo.TRef.ofBuf, StableHlo.TRef.toBuf, StableHlo.TRef.of, id, cast_eq]
  pointwise []
  split_ifs <;> first
    | (exfalso; omega)
    | rfl
    | exact congrArg (fun k => (m ((c : Thread nD τ).loc main_arg2) : FVec Ideal S1024x2120 .f32) (ix2 d k)) (Fin.ext (by simp only; omega))
    | simp [FloatOps.sitofp]

/-- Then zeros again. -/
theorem V_w_tail (c : Dev nD) (d : Fin 1024) (j : Fin 2304) (hj : 2184 ≤ j.val) :
    @Eq EReal ((V m c main_v6 : FVec Ideal S1024x2304 .bf16) (ix2 d j))
      0 := by
  simp only [V, List.flatten, List.append, hostOps0, hostOps0_1, hostOps0_2, hostOps0_3, hostOps0_4, hostOps0_5,
    hostOps0_6, hostOps0_7, hostOps0_8, hostOps0_9, hostOps0_10]
  after_results
  simp only [StableHlo.TRef.ofBuf_toBuf, StableHlo.TRef.ofBuf, StableHlo.TRef.toBuf, StableHlo.TRef.of, id, cast_eq]
  pointwise []
  after_results_loop
  simp only [StableHlo.TRef.ofBuf_toBuf, StableHlo.TRef.ofBuf, StableHlo.TRef.toBuf, StableHlo.TRef.of, id, cast_eq]
  pointwise []
  split_ifs <;> first
    | (exfalso; omega)
    | rfl
    | exact congrArg (fun k => (m ((c : Thread nD τ).loc main_arg2) : FVec Ideal S1024x2120 .f32) (ix2 d k)) (Fin.ext (by simp only; omega))
    | simp [FloatOps.sitofp]

end Cert.Kernel3Ideal.AttnIn

end
-- ==== Proof.AttnRow.lean ====
module

public import proofs.«01_k».proof.Proof.Reals

/-! One row of the input projections of attention, as formulas over the extended reals: the normalised row, a column of
its projection, and the norm over a segment of 64 columns taken by sums against indicators. -/

@[expose] public section

noncomputable section

namespace Cert.AttnRow

open Idealize.ShloMosaic Cert.Reals

/-- An element of a row, normalised by the row's root mean square and scaled by a gain. -/
def mixed (x g : Fin 1024 → EReal) (d : Fin 1024) : EReal :=
  x d * Ideal.rsqrt (Ideal.div (∑ k, x k * x k) (Ideal.ofBits .f32 0x44800000#32) + Ideal.ofBits .f32 0x358637BD#32) * g d

/-- The normalised row against one column of weights. -/
def proj (x g w : Fin 1024 → EReal) : EReal := ∑ d, mixed x g d * w d

/-- The reciprocal root mean square of 64 numbers. -/
def segInv (f : Fin 64 → EReal) : EReal :=
  Ideal.rsqrt (Ideal.div (∑ d, f d * f d) (Ideal.ofBits .f32 0x42800000#32) + Ideal.ofBits .f32 0x358637BD#32)

theorem mixed_real {x g : Fin 1024 → EReal} (hg : ∀ d, IsReal (g d)) (d : Fin 1024) : IsReal (mixed x g d) := by
  unfold mixed
  rw [ofBits_1024]
  exact (IsReal.rms x (by norm_num) d).mul (hg d)

/-- Whatever the row holds, its projection is a real number when the gain and the weights are. -/
theorem proj_real {x g w : Fin 1024 → EReal} (hg : ∀ d, IsReal (g d)) (hw : ∀ d, IsReal (w d)) : IsReal (proj x g w) :=
  IsReal.sum _ _ fun d => (mixed_real hg d).mul (hw d)

/-- A column of zeros projects to zero. -/
theorem proj_zero {x g w : Fin 1024 → EReal} (hw : ∀ d, w d = 0) : proj x g w = 0 := by
  unfold proj
  exact Finset.sum_eq_zero fun d _ => by rw [hw d, mul_zero]

/-- The mean square of a segment, as the kernel takes it: three sums against the segment's indicator, the second and
the third of the rounding errors (which are zero here), then a sixty-fourth of it. -/
def meanOf {N : ℕ} (f : Fin N → EReal) (e : Fin N → EReal) : EReal :=
  (∑ k, f k * f k * e k + ∑ k, (f k * f k - f k * f k) * e k
    + ∑ k, (f k * f k - f k * f k - (f k * f k - f k * f k)) * e k) * Ideal.ofBits .f32 0x3C800000#32

theorem meanOf_eq {N : ℕ} (n : ℕ) (hN : n * 64 = N) {f e : Fin N → EReal} (hf : ∀ k, IsReal (f k)) {j : ℕ} (hj : j < n)
    (he : ∀ k, e k = if k.val / 64 = j then 1 else 0) :
    meanOf f e = Ideal.div (∑ d : Fin 64, f ⟨j * 64 + d.val, by omega⟩ * f ⟨j * 64 + d.val, by omega⟩)
      (Ideal.ofBits .f32 0x42800000#32) := by
  unfold meanOf
  rw [split_sum (fun k => f k * f k) e fun k => (hf k).mul (hf k), ofBits_64, Ideal.div_coe (by norm_num), ofBits_inv64]
  congr 1
  simp only [he]
  exact segment_sum n hN (fun k => f k * f k) j hj

/-- The reciprocal root of any segment's mean square is a real number, of an empty segment too. -/
theorem rsqrt_meanOf_real {N : ℕ} (n : ℕ) (hN : n * 64 = N) {f e : Fin N → EReal} (hf : ∀ k, IsReal (f k)) {j : ℕ}
    (he : ∀ k, e k = if k.val / 64 = j then 1 else 0) :
    IsReal (Ideal.rsqrt (meanOf f e + Ideal.ofBits .f32 0x358637BD#32)) := by
  by_cases hj : j < n
  · rw [meanOf_eq n hN hf hj he, ofBits_64, Ideal.div_coe (by norm_num)]
    exact IsReal.rsqrt_mean _ (fun d => hf _) (by norm_num)
  · unfold meanOf
    rw [split_sum (fun k => f k * f k) e fun k => (hf k).mul (hf k)]
    simp only [he]
    rw [segment_sum_none n hN (fun k => f k * f k) j (by omega), zero_mul, zero_add, ofBits_eps]
    exact IsReal.rsqrt (by norm_num)

/-- The value of a segment copied to each of its columns: again three sums against an indicator. -/
theorem spread {t e : Fin 128 → EReal} (ht : ∀ k, IsReal (t k)) {q : ℕ} (hq : q < 128)
    (he : ∀ k, e k = if q = k.val then 1 else 0) :
    ∑ k, t k * e k + ∑ k, (t k - t k) * e k + ∑ k, (t k - t k - (t k - t k)) * e k = t ⟨q, hq⟩ := by
  rw [split_sum t e ht]
  simp only [he]
  exact pick_sum t q hq

/-- The norm over a segment, as the kernel takes it, is the segment's reciprocal root mean square. -/
theorem spread_segInv {N : ℕ} (n : ℕ) (hn : n ≤ 128) (hN : n * 64 = N) {f : Fin N → EReal} {e : Fin N → Fin 128 → EReal} {t e' : Fin 128 → EReal}
    (hf : ∀ k, IsReal (f k)) (he : ∀ k j, e k j = if k.val / 64 = j.val then 1 else 0) (c : Fin N)
    (ht : ∀ j, t j = Ideal.rsqrt (meanOf f (fun k => e k j) + Ideal.ofBits .f32 0x358637BD#32))
    (he' : ∀ j, e' j = if c.val / 64 = j.val then 1 else 0) :
    ∑ k, t k * e' k + ∑ k, (t k - t k) * e' k + ∑ k, (t k - t k - (t k - t k)) * e' k
      = segInv (fun d => f ⟨c.val / 64 * 64 + d.val, by omega⟩) := by
  rw [spread (fun j => by rw [ht j]; exact rsqrt_meanOf_real n hN hf fun k => he k j) (q := c.val / 64) (by omega) he', ht]
  rw [meanOf_eq n hN hf (j := c.val / 64) (by omega) fun k => he k _]
  rfl

/-- The mean square over 128 lanes of which the last 64 are zero. -/
theorem half_sum (f : Fin 128 → EReal) (hf : ∀ k : Fin 128, 64 ≤ k.val → f k = 0) :
    ∑ k, f k = ∑ d : Fin 64, f ⟨d.val, by omega⟩ := by
  rw [show (∑ k, f k) = ∑ k : Fin (64 + 64), f k from rfl, Fin.sum_univ_add]
  rw [Finset.sum_eq_zero (s := Finset.univ) (f := fun i : Fin 64 => f (Fin.natAdd 64 i)) fun i _ => hf _ (by simp), add_zero]
  rfl

end Cert.AttnRow

end
-- ==== Proof.AttnRef3.lean ====
module

public import proofs.«01_k».proof.Proof.Gen.Reference3Ideal.Run
public import proofs.«01_k».proof.Proof.AttnRow
public import Idealize.ShloMosaic.Lib.Pipeline.ValueKit
public import Idealize.ShloMosaic.Lib.Pipeline.ReadBack

/-! The reference of the input projections of attention: its results as terms of the projected rows, and what each of
them is at an element. -/

@[expose] public section

set_option maxRecDepth 16384

noncomputable section

namespace Cert.Reference3Ideal.AttnIn

open Cert.Reference3Ideal Cert.Reference3Ideal.Gen Idealize.ShloMosaic Idealize.ShloMosaic.TcCoe Idealize.SL.Sem
open Cert.AttnRow

/-- The normalised rows projected with the weights. -/
def H (a0 : FVec Ideal S32x1024 .f32) (a1 : FVec Ideal S1024 .f32) (a2 : FVec Ideal S1024x2120 .f32) :
    FVec Ideal S32x2120 .f32 :=
  (Host.dotGeneral (F := Ideal) dot_S32x1024_S1024x2120_S32x2120_1_0_0_1_n_n none (mulf (mulf a0 (broadcastInDim S32x1024 ![0, 1] bcast_S32x1_S32x1024_0_1 (Host.rsqrt (addf (Host.divf (broadcastInDim S32x1 ![0] bcast_S32_S32x1_0 (Host.reduceAdd (mulf a0 a0) (constant S_ .f32 0x00000000#32) reducesTo_S32x1024_S32_d1 h_S_)) (broadcastInDim S32x1 ![] bcast_S_S32x1 (constant S_ .f32 0x44800000#32))) (broadcastInDim S32x1 ![] bcast_S_S32x1 (constant S_ .f32 0x358637BD#32)))))) (broadcastInDim S32x1024 ![0, 1] bcast_S1x1024_S32x1024_0_1 (broadcastInDim S1x1024 ![1] bcast_S1024_S1x1024_1 a1))) a2)

theorem H_at (a0 : FVec Ideal S32x1024 .f32) (a1 : FVec Ideal S1024 .f32) (a2 : FVec Ideal S1024x2120 .f32) (r : Fin 32) (j : Fin 2120) :
    @Eq EReal (H a0 a1 a2 (ix2 r j)) (proj (fun d => a0 (ix2 r d)) (fun d => a1 (ix1 d)) (fun d => a2 (ix2 d j))) := by
  unfold proj mixed
  pointwise [H]

/-- Result `main_v68` of the projected rows. -/
def Q (h : FVec Ideal S32x2120 .f32) (g : FVec Ideal S64 .f32) : FVec Ideal S32x1024 .bf16 :=
  truncf .bf16 (shapeCast _ (mulf (mulf (mulf (shapeCast _ (extractStridedSlice S32x1024 ![0, 0] h slices_S32x2120_S32x1024_0_0) shapeCasts_S32x1024_S32x16x64) (broadcastInDim S32x16x64 ![0, 1, 2] bcast_S32x16x1_S32x16x64_0_1_2 (Host.rsqrt (addf (Host.divf (broadcastInDim S32x16x1 ![0, 1] bcast_S32x16_S32x16x1_0_1 (Host.reduceAdd (mulf (shapeCast _ (extractStridedSlice S32x1024 ![0, 0] h slices_S32x2120_S32x1024_0_0) shapeCasts_S32x1024_S32x16x64) (shapeCast _ (extractStridedSlice S32x1024 ![0, 0] h slices_S32x2120_S32x1024_0_0) shapeCasts_S32x1024_S32x16x64)) (constant S_ .f32 0x00000000#32) reducesTo_S32x16x64_S32x16_d2 h_S_)) (broadcastInDim S32x16x1 ![] bcast_S_S32x16x1 (constant S_ .f32 0x42800000#32))) (broadcastInDim S32x16x1 ![] bcast_S_S32x16x1 (constant S_ .f32 0x358637BD#32)))))) (broadcastInDim S32x16x64 ![0, 1, 2] bcast_S1x1x64_S32x16x64_0_1_2 (broadcastInDim S1x1x64 ![2] bcast_S64_S1x1x64_2 g))) (broadcastInDim S32x16x64 ![] bcast_S_S32x16x64 (constant S_ .f32 0x3E000000#32))) shapeCasts_S32x16x64_S32x1024) bitsLt_bf16_f32

/-- Result `main_v69` of the projected rows. -/
def K (h : FVec Ideal S32x2120 .f32) (g : FVec Ideal S64 .f32) : FVec Ideal S32x256 .f32 :=
  shapeCast _ (mulf (mulf (shapeCast _ (extractStridedSlice S32x256 ![0, 1024] h slices_S32x2120_S32x256_0_1024) shapeCasts_S32x256_S32x4x64) (broadcastInDim S32x4x64 ![0, 1, 2] bcast_S32x4x1_S32x4x64_0_1_2 (Host.rsqrt (addf (Host.divf (broadcastInDim S32x4x1 ![0, 1] bcast_S32x4_S32x4x1_0_1 (Host.reduceAdd (mulf (shapeCast _ (extractStridedSlice S32x256 ![0, 1024] h slices_S32x2120_S32x256_0_1024) shapeCasts_S32x256_S32x4x64) (shapeCast _ (extractStridedSlice S32x256 ![0, 1024] h slices_S32x2120_S32x256_0_1024) shapeCasts_S32x256_S32x4x64)) (constant S_ .f32 0x00000000#32) reducesTo_S32x4x64_S32x4_d2 h_S_)) (broadcastInDim S32x4x1 ![] bcast_S_S32x4x1 (constant S_ .f32 0x42800000#32))) (broadcastInDim S32x4x1 ![] bcast_S_S32x4x1 (constant S_ .f32 0x358637BD#32)))))) (broadcastInDim S32x4x64 ![0, 1, 2] bcast_S1x1x64_S32x4x64_0_1_2 (broadcastInDim S1x1x64 ![2] bcast_S64_S1x1x64_2 g))) shapeCasts_S32x4x64_S32x256

/-- Result `main_v16` of the projected rows. -/
def Vv (h : FVec Ideal S32x2120 .f32) : FVec Ideal S32x256 .f32 :=
  extractStridedSlice S32x256 ![0, 1280] h slices_S32x2120_S32x256_0_1280

/-- Result `main_v70` of the projected rows. -/
def Qi (h : FVec Ideal S32x2120 .f32) : FVec Ideal S32x512 .bf16 :=
  truncf .bf16 (mulf (extractStridedSlice S32x512 ![0, 1536] h slices_S32x2120_S32x512_0_1536) (broadcastInDim S32x512 ![] bcast_S_S32x512 (constant S_ .f32 0x3E000000#32))) bitsLt_bf16_f32

/-- Result `main_v71` of the projected rows. -/
def Ki (h : FVec Ideal S32x2120 .f32) (g : FVec Ideal S64 .f32) : FVec Ideal S32x128 .f32 :=
  pad S32x128 ![0, 0] ![0, 64] ![0, 0] (mulf (mulf (extractStridedSlice S32x64 ![0, 2048] h slices_S32x2120_S32x64_0_2048) (broadcastInDim S32x64 ![0, 1] bcast_S32x1_S32x64_0_1 (Host.rsqrt (addf (Host.divf (broadcastInDim S32x1 ![0] bcast_S32_S32x1_0 (Host.reduceAdd (mulf (extractStridedSlice S32x64 ![0, 2048] h slices_S32x2120_S32x64_0_2048) (extractStridedSlice S32x64 ![0, 2048] h slices_S32x2120_S32x64_0_2048)) (constant S_ .f32 0x00000000#32) reducesTo_S32x64_S32_d1 h_S_)) (broadcastInDim S32x1 ![] bcast_S_S32x1 (constant S_ .f32 0x42800000#32))) (broadcastInDim S32x1 ![] bcast_S_S32x1 (constant S_ .f32 0x358637BD#32)))))) (broadcastInDim S32x64 ![0, 1] bcast_S1x64_S32x64_0_1 (broadcastInDim S1x64 ![1] bcast_S64_S1x64_1 g))) (sitofp .f32 (constantI S_ 32 0#32)) pads_S32x64_S32x128_000_0640 h_S_

/-- Result `main_v72` of the projected rows. -/
def Wi (h : FVec Ideal S32x2120 .f32) : FVec Ideal S32x128 .f32 :=
  pad S32x128 ![0, 0] ![0, 120] ![0, 0] (mulf (extractStridedSlice S32x8 ![0, 2112] h slices_S32x2120_S32x8_0_2112) (broadcastInDim S32x8 ![] bcast_S_S32x8 (constant S_ .f32 0x3EB504F3#32))) (sitofp .f32 (constantI S_ 32 0#32)) pads_S32x8_S32x128_000_01200 h_S_

theorem Q_at (h : FVec Ideal S32x2120 .f32) (g : FVec Ideal S64 .f32) (r : Fin 32) (c : Fin 1024) :
    @Eq EReal (Q h g (ix2 r c))
      (h (ix2 r ⟨c.val, by omega⟩) * segInv (fun d => h (ix2 r ⟨c.val / 64 * 64 + d.val, by omega⟩)) * g (ix1 ⟨c.val % 64, by omega⟩)
        * Ideal.ofBits .f32 0x3E000000#32) := by
  unfold segInv
  pointwise [Q]

theorem Qi_at (h : FVec Ideal S32x2120 .f32) (r : Fin 32) (c : Fin 512) :
    @Eq EReal (Qi h (ix2 r c))
      (h (ix2 r ⟨1536 + c.val, by omega⟩) * Ideal.ofBits .f32 0x3E000000#32) := by
  skip
  pointwise [Qi]

theorem Wi_at (h : FVec Ideal S32x2120 .f32) (r : Fin 32) (c : Fin 128) :
    @Eq EReal (Wi h (ix2 r c))
      (if hc : c.val < 8 then h (ix2 r ⟨2112 + c.val, by omega⟩) * Ideal.ofBits .f32 0x3EB504F3#32 else 0) := by
  skip
  pointwise [Wi]
  simp [FloatOps.sitofp]

theorem K_at (h : FVec Ideal S32x2120 .f32) (g : FVec Ideal S64 .f32) (r : Fin 32) (c : Fin 256) :
    @Eq EReal (K h g (ix2 r c))
      (h (ix2 r ⟨1024 + c.val, by omega⟩) * segInv (fun d => h (ix2 r ⟨1024 + (c.val / 64 * 64 + d.val), by omega⟩)) * g (ix1 ⟨c.val % 64, by omega⟩)) := by
  unfold segInv
  pointwise [K]

theorem Vv_at (h : FVec Ideal S32x2120 .f32) (r : Fin 32) (c : Fin 256) :
    @Eq EReal (Vv h (ix2 r c))
      (h (ix2 r ⟨1280 + c.val, by omega⟩)) := by
  skip
  pointwise [Vv]

theorem Ki_at (h : FVec Ideal S32x2120 .f32) (g : FVec Ideal S64 .f32) (r : Fin 32) (c : Fin 128) :
    @Eq EReal (Ki h g (ix2 r c))
      (if hc : c.val < 64 then h (ix2 r ⟨2048 + c.val, by omega⟩) * segInv (fun d => h (ix2 r ⟨2048 + d.val, by omega⟩)) * g (ix1 ⟨c.val, by omega⟩) else 0) := by
  unfold segInv
  pointwise [Ki]
  simp [FloatOps.sitofp]

end Cert.Reference3Ideal.AttnIn

end
-- ==== Proof.AttnIn3.lean ====
module

public import proofs.«01_k».proof.Proof.AttnHost3
public import proofs.«01_k».proof.Proof.AttnRef3

/-! The input projections of attention for the sample rows: what the kernel's body computes at an element, in terms of
the reference's projected rows. -/

@[expose] public section

set_option maxRecDepth 16384

noncomputable section

namespace Cert.Kernel3Ideal.AttnIn

open Cert.Kernel3Ideal Cert.Kernel3Ideal.Gen Idealize.ShloMosaic Idealize.ShloMosaic.TcCoe Idealize.SL.Sem
open Idealize.ShloMosaic.Pipeline (Dat)
open Cert.AttnRow Cert.Reals

variable (m : (ℓ : Loc nD τ sig) → Buf (Elt Ideal) ℓ)

/-- Which block of its array each window stages at a grid point. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![t.val, 0]
    ∧ win0_11.index t = ![t.val, 0] ∧ win0_12.index t = ![t.val, 0] ∧ win0_13.index t = ![t.val, 0]
    ∧ win0_14.index t = ![t.val, 0] ∧ win0_15.index t = ![t.val, 0] :=
  (by decide +kernel : ∀ t : Fin grid0.N, _)

/-- The row of the array that row `r` of the block at point `t` is. -/
def row (t : Fin cfg0.N) (r : Fin 32) : Fin 32 := ⟨t.val * 32 + r.val, by have : t.val < 1 := t.isLt; omega⟩

theorem b0 (c : Dev nD) (t : Fin cfg0.N) (r : Fin 32) (d : Fin 1024) :
    @Eq EReal ((iblk m c 0 t : FVec Ideal S32x1024 .f32) (ix2 r d))
      ((m ((c : Thread nD τ).loc main_arg0) : FVec Ideal S32x1024 .f32) (ix2 (row t r) d)) := by
  unfold row
  blk_ext [iblk, V, idx t]

theorem b1 (c : Dev nD) (t : Fin cfg0.N) (d : Fin 1024) :
    @Eq EReal ((iblk m c 1 t : FVec Ideal S1x1024 .f32) (ix2 0 d))
      ((m ((c : Thread nD τ).loc main_arg1) : FVec Ideal S1024 .f32) (ix1 d)) :=
  Eq.trans (by blk_ext [iblk, idx t]) (V_g m c 0 d)

theorem b2 (c : Dev nD) (t : Fin cfg0.N) (d : Fin 1024) (j : Fin 2304) :
    @Eq EReal ((iblk m c 2 t : FVec Ideal S1024x2304 .bf16) (ix2 d j)) ((V m c main_v6 : FVec Ideal S1024x2304 .bf16) (ix2 d j)) := by
  blk_ext [iblk, idx t]

theorem b3 (c : Dev nD) (t : Fin cfg0.N) (d : Fin 1024) :
    @Eq EReal ((iblk m c 3 t : FVec Ideal S1x1024 .f32) (ix2 0 d))
      ((m ((c : Thread nD τ).loc main_arg3) : FVec Ideal S64 .f32) (ix1 ⟨d.val % 64, by omega⟩)) :=
  Eq.trans (by blk_ext [iblk, idx t]) (V_qg m c 0 d)

theorem b4 (c : Dev nD) (t : Fin cfg0.N) (d : Fin 256) :
    @Eq EReal ((iblk m c 4 t : FVec Ideal S1x256 .f32) (ix2 0 d))
      ((m ((c : Thread nD τ).loc main_arg4) : FVec Ideal S64 .f32) (ix1 ⟨d.val % 64, by omega⟩)) :=
  Eq.trans (by blk_ext [iblk, idx t]) (V_kg m c 0 d)

theorem b5 (c : Dev nD) (t : Fin cfg0.N) (d : Fin 128) :
    @Eq EReal ((iblk m c 5 t : FVec Ideal S1x128 .f32) (ix2 0 d))
      (if h : d.val < 64 then ((m ((c : Thread nD τ).loc main_arg5) : FVec Ideal S64 .f32) (ix1 ⟨d.val, h⟩)) else 0) :=
  Eq.trans (by blk_ext [iblk, idx t]) (V_kig m c 0 d)

theorem b6 (c : Dev nD) (t : Fin cfg0.N) (d : Fin 1024) (j : Fin 128) :
    @Eq EReal ((iblk m c 6 t : FVec Ideal S1024x128 .bf16) (ix2 d j)) (if d.val / 64 = j.val then 1 else 0) :=
  Eq.trans (by blk_ext [iblk, idx t]) (V_gq m c d j)

theorem b7 (c : Dev nD) (t : Fin cfg0.N) (j : Fin 128) (d : Fin 1024) :
    @Eq EReal ((iblk m c 7 t : FVec Ideal S128x1024 .bf16) (ix2 j d)) (if d.val / 64 = j.val then 1 else 0) :=
  Eq.trans (by blk_ext [iblk, idx t]) (V_eq m c j d)

theorem b8 (c : Dev nD) (t : Fin cfg0.N) (d : Fin 256) (j : Fin 128) :
    @Eq EReal ((iblk m c 8 t : FVec Ideal S256x128 .bf16) (ix2 d j)) (if d.val / 64 = j.val then 1 else 0) :=
  Eq.trans (by blk_ext [iblk, idx t]) (V_gk m c d j)

theorem b9 (c : Dev nD) (t : Fin cfg0.N) (j : Fin 128) (d : Fin 256) :
    @Eq EReal ((iblk m c 9 t : FVec Ideal S128x256 .bf16) (ix2 j d)) (if d.val / 64 = j.val then 1 else 0) :=
  Eq.trans (by blk_ext [iblk, idx t]) (V_ek m c j d)

/-- The reference's projected rows, of the arguments as the run begins. -/
def HH (c : Dev nD) : FVec Ideal Cert.Reference3Ideal.S32x2120 .f32 :=
  Cert.Reference3Ideal.AttnIn.H (m ((c : Thread nD τ).loc main_arg0)) (m ((c : Thread nD τ).loc main_arg1))
    (m ((c : Thread nD τ).loc main_arg2))

/-- The two arguments whose elements have to be real numbers: the gain of the norm and the weights. -/
def Hyp (c : Dev nD) : Prop :=
  (∀ d, IsReal ((m ((c : Thread nD τ).loc main_arg1) : FVec Ideal S1024 .f32) (ix1 d)))
    ∧ ∀ d j, IsReal ((m ((c : Thread nD τ).loc main_arg2) : FVec Ideal S1024x2120 .f32) (ix2 d j))

theorem HH_real {c : Dev nD} (hyp : Hyp m c) (r : Fin 32) (j : Fin 2120) : IsReal (HH m c (ix2 r j)) := by
  unfold HH
  rw [Cert.Reference3Ideal.AttnIn.H_at]
  exact proj_real hyp.1 fun d => hyp.2 d j

theorem pay_h (x : FVec Ideal S32x1024 .f32) (g : FVec Ideal S1x1024 .f32) (w : FVec Ideal S1024x2304 .bf16) (r : Fin 32) (j : Fin 2304) :
    @Eq EReal (k0_pay2 (F := Ideal) x g w (ix2 r j)) (proj (fun d => x (ix2 r d)) (fun d => g (ix2 0 d)) (fun d => w (ix2 d j))) := by
  unfold proj mixed
  pointwise [k0_pay2]

theorem hb_proj (c : Dev nD) (t : Fin cfg0.N) (r : Fin 32) (j : Fin 2304) :
    @Eq EReal (k0_pay2 (F := Ideal) (iblk m c 0 t) (iblk m c 1 t) (iblk m c 2 t) (ix2 r j)) (proj (fun d => (m ((c : Thread nD τ).loc main_arg0) : FVec Ideal S32x1024 .f32) (ix2 (row t r) d))
      (fun d => (m ((c : Thread nD τ).loc main_arg1) : FVec Ideal S1024 .f32) (ix1 d))
      (fun d => (V m c main_v6 : FVec Ideal S1024x2304 .bf16) (ix2 d j))) := by
  refine (pay_h _ _ _ r j).trans ?_
  simp only [b0, b1, b2]

/-- A column of the first group is the reference's column. -/
theorem hb_at (c : Dev nD) (t : Fin cfg0.N) (r : Fin 32) (j : Fin 2304) (hj : j.val < 2112) :
    @Eq EReal (k0_pay2 (F := Ideal) (iblk m c 0 t) (iblk m c 1 t) (iblk m c 2 t) (ix2 r j)) (HH m c (ix2 (row t r) ⟨j.val, by omega⟩)) := by
  refine (hb_proj m c t r j).trans ?_
  unfold HH
  rw [Cert.Reference3Ideal.AttnIn.H_at]
  simp only [fun d => V_w m c d j hj]

theorem hb_zero (c : Dev nD) (t : Fin cfg0.N) (r : Fin 32) (j : Fin 2304) (hj : 2112 ≤ j.val) (hj2 : j.val < 2176) :
    @Eq EReal (k0_pay2 (F := Ideal) (iblk m c 0 t) (iblk m c 1 t) (iblk m c 2 t) (ix2 r j)) 0 :=
  (hb_proj m c t r j).trans (proj_zero fun d => V_w_zero m c d j hj hj2)

theorem hb_idx (c : Dev nD) (t : Fin cfg0.N) (r : Fin 32) (j : Fin 2304) (hj : 2176 ≤ j.val) (hj2 : j.val < 2184) :
    @Eq EReal (k0_pay2 (F := Ideal) (iblk m c 0 t) (iblk m c 1 t) (iblk m c 2 t) (ix2 r j)) (HH m c (ix2 (row t r) ⟨j.val - 64, by omega⟩)) := by
  refine (hb_proj m c t r j).trans ?_
  unfold HH
  rw [Cert.Reference3Ideal.AttnIn.H_at]
  simp only [fun d => V_w_idx m c d j hj hj2]

theorem hb_tail (c : Dev nD) (t : Fin cfg0.N) (r : Fin 32) (j : Fin 2304) (hj : 2184 ≤ j.val) :
    @Eq EReal (k0_pay2 (F := Ideal) (iblk m c 0 t) (iblk m c 1 t) (iblk m c 2 t) (ix2 r j)) 0 :=
  (hb_proj m c t r j).trans (proj_zero fun d => V_w_tail m c d j hj)

theorem pay_q (x : FVec Ideal S32x1024 .f32) (g : FVec Ideal S1x1024 .f32) (w : FVec Ideal S1024x2304 .bf16)
    (gain : FVec Ideal S1x1024 .f32) (e : FVec Ideal S1024x128 .bf16) (e' : FVec Ideal S128x1024 .bf16) (r : Fin 32) (k : Fin 1024)
    (hf : ∀ j : Fin 1024, IsReal (k0_pay2 (F := Ideal) x g w (ix2 r ⟨j.val, by omega⟩)))
    (he : ∀ (d : Fin 1024) (j : Fin 128), e (ix2 d j) = (if d.val / 64 = j.val then 1 else 0 : EReal))
    (he' : ∀ (j : Fin 128) (d : Fin 1024), e' (ix2 j d) = (if d.val / 64 = j.val then 1 else 0 : EReal)) :
    @Eq EReal (k0_pay7 (F := Ideal) (k0_pay3 x g w) (k0_pay4 gain) (k0_pay5 x g w e) (k0_pay6 (F := Ideal)) e' (ix2 r k))
      (k0_pay2 (F := Ideal) x g w (ix2 r ⟨k.val, by omega⟩)
        * segInv (fun d => k0_pay2 (F := Ideal) x g w (ix2 r ⟨k.val / 64 * 64 + d.val, by omega⟩)) * gain (ix2 0 k)
        * Ideal.ofBits .f32 0x3E000000#32) := by
  have hs : ∀ j : Fin 128, @Eq EReal (k0_pay5 (F := Ideal) x g w e (ix2 r j))
      (meanOf (fun k : Fin 1024 => k0_pay2 (F := Ideal) x g w (ix2 r ⟨k.val, by omega⟩)) (fun k => e (ix2 k j))) := by
    intro j
    unfold meanOf
    pointwise [k0_pay5, k0_pay3]
  pointwise [k0_pay7, k0_pay4, k0_pay6, k0_pay3]
  rw [spread_segInv 16 (by omega) rfl hf he k (fun j => by rw [hs j]) (fun j => he' j k)]

theorem q_at {c : Dev nD} (hyp : Hyp m c) (t : Fin cfg0.N) (r : Fin 32) (k : Fin 1024) :
    @Eq EReal (k0_pay16 (F := Ideal) (k0_pay7 (k0_pay3 (iblk m c 0 t) (iblk m c 1 t) (iblk m c 2 t)) (k0_pay4 (iblk m c 3 t))
        (k0_pay5 (iblk m c 0 t) (iblk m c 1 t) (iblk m c 2 t) (iblk m c 6 t)) (k0_pay6 (F := Ideal)) (iblk m c 7 t)) (ix2 r k))
      (Cert.Reference3Ideal.AttnIn.Q (HH m c) (m ((c : Thread nD τ).loc main_arg3)) (ix2 (row t r) k)) := by
  rw [Cert.Reference3Ideal.AttnIn.Q_at]
  pointwise [k0_pay16]
  refine (pay_q _ _ _ _ _ _ r k (fun j => ?_) (b6 m c t) (b7 m c t)).trans ?_
  · rw [hb_at m c t r ⟨j.val, by omega⟩ (by simp only; omega)]
    exact HH_real m hyp _ _
  · rw [b3, hb_at m c t r ⟨k.val, by omega⟩ (by simp only; omega)]
    simp only [fun (d : Fin 64) => hb_at m c t r ⟨k.val / 64 * 64 + d.val, by omega⟩ (by simp only; omega)]

theorem pay_k (h : FVec Ideal S32x2304 .f32)
    (gain : FVec Ideal S1x256 .f32) (e : FVec Ideal S256x128 .bf16) (e' : FVec Ideal S128x256 .bf16) (r : Fin 32) (k : Fin 256)
    (hf : ∀ j : Fin 256, IsReal (h (ix2 r ⟨1024 + j.val, by omega⟩)))
    (he : ∀ (d : Fin 256) (j : Fin 128), e (ix2 d j) = (if d.val / 64 = j.val then 1 else 0 : EReal))
    (he' : ∀ (j : Fin 128) (d : Fin 256), e' (ix2 j d) = (if d.val / 64 = j.val then 1 else 0 : EReal)) :
    @Eq EReal (k0_pay11 (F := Ideal) (k0_pay8 h) (k0_pay9 gain) (k0_pay10 h e) e' (ix2 r k))
      (h (ix2 r ⟨1024 + k.val, by omega⟩)
        * segInv (fun d => h (ix2 r ⟨1024 + (k.val / 64 * 64 + d.val), by omega⟩)) * gain (ix2 0 k)) := by
  have hs : ∀ j : Fin 128, @Eq EReal (k0_pay10 (F := Ideal) h e (ix2 r j))
      (Ideal.rsqrt (meanOf (fun k : Fin 256 => h (ix2 r ⟨1024 + k.val, by omega⟩)) (fun k => e (ix2 k j))
        + Ideal.ofBits .f32 0x358637BD#32)) := by
    intro j
    unfold meanOf
    pointwise [k0_pay10, k0_pay8]
  pointwise [k0_pay11, k0_pay9, k0_pay8]
  rw [spread_segInv 4 (by omega) rfl hf he k (fun j => by rw [hs j]) (fun j => he' j k)]

theorem k_at {c : Dev nD} (hyp : Hyp m c) (t : Fin cfg0.N) (r : Fin 32) (k : Fin 256) :
    @Eq EReal (k0_pay11 (F := Ideal) (k0_pay8 (k0_pay2 (iblk m c 0 t) (iblk m c 1 t) (iblk m c 2 t))) (k0_pay9 (iblk m c 4 t))
        (k0_pay10 (k0_pay2 (iblk m c 0 t) (iblk m c 1 t) (iblk m c 2 t)) (iblk m c 8 t)) (iblk m c 9 t) (ix2 r k))
      (Cert.Reference3Ideal.AttnIn.K (HH m c) (m ((c : Thread nD τ).loc main_arg4)) (ix2 (row t r) k)) := by
  rw [Cert.Reference3Ideal.AttnIn.K_at]
  refine (pay_k _ _ _ _ r k (fun j => ?_) (b8 m c t) (b9 m c t)).trans ?_
  · rw [hb_at m c t r ⟨1024 + j.val, by omega⟩ (by simp only; omega)]
    exact HH_real m hyp _ _
  · rw [b4, hb_at m c t r ⟨1024 + k.val, by omega⟩ (by simp only; omega)]
    simp only [fun (d : Fin 64) => hb_at m c t r ⟨1024 + (k.val / 64 * 64 + d.val), by omega⟩ (by simp only; omega)]

theorem v_at (c : Dev nD) (t : Fin cfg0.N) (r : Fin 32) (k : Fin 256) :
    @Eq EReal (k0_pay12 (F := Ideal) (k0_pay2 (iblk m c 0 t) (iblk m c 1 t) (iblk m c 2 t)) (ix2 r k))
      (Cert.Reference3Ideal.AttnIn.Vv (HH m c) (ix2 (row t r) k)) := by
  rw [Cert.Reference3Ideal.AttnIn.Vv_at]
  pointwise [k0_pay12]
  rw [hb_at m c t r ⟨1280 + k.val, by omega⟩ (by simp only; omega)]

theorem qi_at (c : Dev nD) (t : Fin cfg0.N) (r : Fin 32) (k : Fin 512) :
    @Eq EReal (k0_pay1 (F := Ideal) (k0_pay13 (k0_pay2 (iblk m c 0 t) (iblk m c 1 t) (iblk m c 2 t))) (ix2 r k))
      (Cert.Reference3Ideal.AttnIn.Qi (HH m c) (ix2 (row t r) k)) := by
  rw [Cert.Reference3Ideal.AttnIn.Qi_at]
  pointwise [k0_pay1, k0_pay13]
  rw [hb_at m c t r ⟨1536 + k.val, by omega⟩ (by simp only; omega)]

theorem wi_at (c : Dev nD) (t : Fin cfg0.N) (r : Fin 32) (k : Fin 128) :
    @Eq EReal (k0_pay15 (F := Ideal) (k0_pay2 (iblk m c 0 t) (iblk m c 1 t) (iblk m c 2 t)) (ix2 r k))
      (Cert.Reference3Ideal.AttnIn.Wi (HH m c) (ix2 (row t r) k)) := by
  rw [Cert.Reference3Ideal.AttnIn.Wi_at]
  pointwise [k0_pay15]
  by_cases hk : k.val < 8
  · rw [dif_pos hk, hb_idx m c t r ⟨2176 + k.val, by omega⟩ (by simp only; omega) (by simp only; omega)]
    congr 3
    exact Fin.ext (by simp only; omega)
  · rw [dif_neg hk, hb_tail m c t r ⟨2176 + k.val, by omega⟩ (by simp only; omega), zero_mul]

theorem pay_ki (h : FVec Ideal S32x2304 .f32) (gain : FVec Ideal S1x128 .f32) (r : Fin 32) (k : Fin 128)
    (h0 : ∀ j : Fin 128, 64 ≤ j.val → h (ix2 r ⟨2048 + j.val, by omega⟩) = (0 : EReal)) :
    @Eq EReal (k0_pay14 (F := Ideal) h gain (ix2 r k))
      (h (ix2 r ⟨2048 + k.val, by omega⟩) * segInv (fun d => h (ix2 r ⟨2048 + d.val, by omega⟩)) * gain (ix2 0 k)) := by
  pointwise [k0_pay14]
  rw [half_sum _ fun j hj => by rw [h0 j hj, mul_zero]]
  unfold segInv
  rw [ofBits_64, Ideal.div_coe (by norm_num), ← ofBits_inv64]

theorem ki_at (c : Dev nD) (t : Fin cfg0.N) (r : Fin 32) (k : Fin 128) :
    @Eq EReal (k0_pay14 (F := Ideal) (k0_pay2 (iblk m c 0 t) (iblk m c 1 t) (iblk m c 2 t)) (iblk m c 5 t) (ix2 r k))
      (Cert.Reference3Ideal.AttnIn.Ki (HH m c) (m ((c : Thread nD τ).loc main_arg5)) (ix2 (row t r) k)) := by
  rw [Cert.Reference3Ideal.AttnIn.Ki_at]
  refine (pay_ki _ _ r k fun j hj => hb_zero m c t r _ (by simp only; omega) (by simp only; omega)).trans ?_
  rw [b5]
  simp only [fun (d : Fin 64) => hb_at m c t r ⟨2048 + d.val, by omega⟩ (by simp only; omega)]
  by_cases hk : k.val < 64
  · rw [dif_pos hk, dif_pos hk, hb_at m c t r ⟨2048 + k.val, by omega⟩ (by simp only; omega)]
  · rw [dif_neg hk, dif_neg hk, mul_zero]

end Cert.Kernel3Ideal.AttnIn

end
-- ==== Proof.AttnClaim3.lean ====
module

public import proofs.«01_k».proof.Defs
public import proofs.«01_k».proof.Proof.AttnIn3

/-! The input projections of attention: every result array of the kernel is the reference's. -/

@[expose] public section

set_option maxRecDepth 16384

noncomputable section

/-- The shape facts that the precondition states. -/
theorem Cert.Pre_finite3.facts : Cert.Pre_finite3.Facts := ⟨by decide, by decide⟩

namespace Cert.Kernel3Ideal.AttnIn

open Cert.Kernel3Ideal Cert.Kernel3Ideal.Gen Idealize.ShloMosaic Idealize.ShloMosaic.TcCoe Idealize.SL.Sem
open Idealize.ShloMosaic.Pipeline (Dat)
open Cert.Reals

variable (m : (ℓ : Loc nD τ sig) → Buf (Elt Ideal) ℓ)

/-- The precondition says that the gain and the weights hold real numbers. -/
theorem hyp_of_pre (h : Cert.Pre_Kernel3Ideal_finite3 (hPre_finite3 := Cert.Pre_finite3.facts) m) (c : Dev nD) : Hyp m c := by
  obtain ⟨h1, h2⟩ := h c
  constructor
  · intro d
    have e := congrFun h1 (ix1 d)
    revert e
    pointwise [Cert.Pre_finite3.fn]
    exact isReal_of_word
  · intro d j
    have e := congrFun h2 (ix2 d j)
    revert e
    pointwise [Cert.Pre_finite3.fn]
    exact isReal_of_word

theorem final10 {c : Dev nD} (hyp : Hyp m c) : (dats m 0 c).arrAt 10 cfg0.N
    = Cert.Reference3Ideal.AttnIn.Q (HH m c) (m ((c : Thread nD τ).loc main_arg3)) := by
  refine (dats m 0 c).arrAt_eq_of_covers 10 _ (by decide +kernel) fun t _ y => ?_
  blk_simp
  rw [after0_10]
  unfold_out out0_10
  frame_out
  idx_vars y
  refine (q_at m hyp t _ _).trans ?_
  unfold row
  blk_ext [idx t]

theorem final11 {c : Dev nD} (hyp : Hyp m c) : (dats m 0 c).arrAt 11 cfg0.N
    = Cert.Reference3Ideal.AttnIn.K (HH m c) (m ((c : Thread nD τ).loc main_arg4)) := by
  refine (dats m 0 c).arrAt_eq_of_covers 11 _ (by decide +kernel) fun t _ y => ?_
  blk_simp
  rw [after0_11]
  unfold_out out0_11
  frame_out
  idx_vars y
  refine (k_at m hyp t _ _).trans ?_
  unfold row
  blk_ext [idx t]

theorem final12 (c : Dev nD) : (dats m 0 c).arrAt 12 cfg0.N
    = Cert.Reference3Ideal.AttnIn.Vv (HH m c) := by
  refine (dats m 0 c).arrAt_eq_of_covers 12 _ (by decide +kernel) fun t _ y => ?_
  blk_simp
  rw [after0_12]
  unfold_out out0_12
  frame_out
  idx_vars y
  refine (v_at m _ t _ _).trans ?_
  unfold row
  blk_ext [idx t]

theorem final13 (c : Dev nD) : (dats m 0 c).arrAt 13 cfg0.N
    = Cert.Reference3Ideal.AttnIn.Qi (HH m c) := by
  refine (dats m 0 c).arrAt_eq_of_covers 13 _ (by decide +kernel) fun t _ y => ?_
  blk_simp
  rw [after0_13]
  unfold_out out0_13
  frame_out
  idx_vars y
  refine (qi_at m _ t _ _).trans ?_
  unfold row
  blk_ext [idx t]

theorem final14 (c : Dev nD) : (dats m 0 c).arrAt 14 cfg0.N
    = Cert.Reference3Ideal.AttnIn.Ki (HH m c) (m ((c : Thread nD τ).loc main_arg5)) := by
  refine (dats m 0 c).arrAt_eq_of_covers 14 _ (by decide +kernel) fun t _ y => ?_
  blk_simp
  rw [after0_14]
  unfold_out out0_14
  frame_out
  idx_vars y
  refine (ki_at m _ t _ _).trans ?_
  unfold row
  blk_ext [idx t]

theorem final15 (c : Dev nD) : (dats m 0 c).arrAt 15 cfg0.N
    = Cert.Reference3Ideal.AttnIn.Wi (HH m c) := by
  refine (dats m 0 c).arrAt_eq_of_covers 15 _ (by decide +kernel) fun t _ y => ?_
  blk_simp
  rw [after0_15]
  unfold_out out0_15
  frame_out
  idx_vars y
  refine (wi_at m _ t _ _).trans ?_
  unfold row
  blk_ext [idx t]

set_option maxHeartbeats 2000000 in
/-- The kernel and its reference leave the same 6 arrays, and neither changes its arguments. -/
theorem algebraic : Cert.algebraic_Kernel3Ideal_Reference3Ideal_pre_finite3 (hKernel3Ideal := Cert.Kernel3Ideal.Gen.facts)
    (hReference3Ideal := Cert.Reference3Ideal.Gen.facts) (hPre_finite3 := Cert.Pre_finite3.facts) := by
  intro m g m' g' hp hargs
  refine ⟨fun c => (Cert.Kernel3Ideal.Gen.dats m 0 c).arrAt 10 Cert.Kernel3Ideal.cfg0.N,
    fun c => (Cert.Kernel3Ideal.Gen.dats m 0 c).arrAt 11 Cert.Kernel3Ideal.cfg0.N,
    fun c => (Cert.Kernel3Ideal.Gen.dats m 0 c).arrAt 12 Cert.Kernel3Ideal.cfg0.N,
    fun c => (Cert.Kernel3Ideal.Gen.dats m 0 c).arrAt 13 Cert.Kernel3Ideal.cfg0.N,
    fun c => (Cert.Kernel3Ideal.Gen.dats m 0 c).arrAt 14 Cert.Kernel3Ideal.cfg0.N,
    fun c => (Cert.Kernel3Ideal.Gen.dats m 0 c).arrAt 15 Cert.Kernel3Ideal.cfg0.N,
    Cert.Kernel3Ideal.Value.run_blocks m g, ?_⟩
  refine (θ_run _ _ _).mono (fun r h c => ⟨?_, ?_, ?_, ?_, ?_, ?_, (h c).2.2.2.2.2.2⟩) (Cert.Reference3Ideal.Value.run m' g')
  all_goals obtain ⟨h0, h1, h2, h3, h4, h5⟩ := hargs c
  · refine (h c).1.trans (Eq.trans ?_ (final10 m (hyp_of_pre m hp c)).symm)
    refine Eq.trans (b := Cert.Reference3Ideal.AttnIn.Q (Cert.Reference3Ideal.AttnIn.H (m' ((c : Thread Cert.Reference3Ideal.nD Cert.Reference3Ideal.τ).loc Cert.Reference3Ideal.main_arg0)) (m' ((c : Thread Cert.Reference3Ideal.nD Cert.Reference3Ideal.τ).loc Cert.Reference3Ideal.main_arg1))
      (m' ((c : Thread Cert.Reference3Ideal.nD Cert.Reference3Ideal.τ).loc Cert.Reference3Ideal.main_arg2))) (m' ((c : Thread Cert.Reference3Ideal.nD Cert.Reference3Ideal.τ).loc Cert.Reference3Ideal.main_arg3))) rfl ?_
    rw [h0, h1, h2, h3]
    rfl
  · refine (h c).2.1.trans (Eq.trans ?_ (final11 m (hyp_of_pre m hp c)).symm)
    refine Eq.trans (b := Cert.Reference3Ideal.AttnIn.K (Cert.Reference3Ideal.AttnIn.H (m' ((c : Thread Cert.Reference3Ideal.nD Cert.Reference3Ideal.τ).loc Cert.Reference3Ideal.main_arg0)) (m' ((c : Thread Cert.Reference3Ideal.nD Cert.Reference3Ideal.τ).loc Cert.Reference3Ideal.main_arg1))
      (m' ((c : Thread Cert.Reference3Ideal.nD Cert.Reference3Ideal.τ).loc Cert.Reference3Ideal.main_arg2))) (m' ((c : Thread Cert.Reference3Ideal.nD Cert.Reference3Ideal.τ).loc Cert.Reference3Ideal.main_arg4))) rfl ?_
    rw [h0, h1, h2, h4]
    rfl
  · refine (h c).2.2.1.trans (Eq.trans ?_ (final12 m c).symm)
    refine Eq.trans (b := Cert.Reference3Ideal.AttnIn.Vv (Cert.Reference3Ideal.AttnIn.H (m' ((c : Thread Cert.Reference3Ideal.nD Cert.Reference3Ideal.τ).loc Cert.Reference3Ideal.main_arg0)) (m' ((c : Thread Cert.Reference3Ideal.nD Cert.Reference3Ideal.τ).loc Cert.Reference3Ideal.main_arg1))
      (m' ((c : Thread Cert.Reference3Ideal.nD Cert.Reference3Ideal.τ).loc Cert.Reference3Ideal.main_arg2)))) rfl ?_
    rw [h0, h1, h2]
    rfl
  · refine (h c).2.2.2.1.trans (Eq.trans ?_ (final13 m c).symm)
    refine Eq.trans (b := Cert.Reference3Ideal.AttnIn.Qi (Cert.Reference3Ideal.AttnIn.H (m' ((c : Thread Cert.Reference3Ideal.nD Cert.Reference3Ideal.τ).loc Cert.Reference3Ideal.main_arg0)) (m' ((c : Thread Cert.Reference3Ideal.nD Cert.Reference3Ideal.τ).loc Cert.Reference3Ideal.main_arg1))
      (m' ((c : Thread Cert.Reference3Ideal.nD Cert.Reference3Ideal.τ).loc Cert.Reference3Ideal.main_arg2)))) rfl ?_
    rw [h0, h1, h2]
    rfl
  · refine (h c).2.2.2.2.1.trans (Eq.trans ?_ (final14 m c).symm)
    refine Eq.trans (b := Cert.Reference3Ideal.AttnIn.Ki (Cert.Reference3Ideal.AttnIn.H (m' ((c : Thread Cert.Reference3Ideal.nD Cert.Reference3Ideal.τ).loc Cert.Reference3Ideal.main_arg0)) (m' ((c : Thread Cert.Reference3Ideal.nD Cert.Reference3Ideal.τ).loc Cert.Reference3Ideal.main_arg1))
      (m' ((c : Thread Cert.Reference3Ideal.nD Cert.Reference3Ideal.τ).loc Cert.Reference3Ideal.main_arg2))) (m' ((c : Thread Cert.Reference3Ideal.nD Cert.Reference3Ideal.τ).loc Cert.Reference3Ideal.main_arg5))) rfl ?_
    rw [h0, h1, h2, h5]
    rfl
  · refine (h c).2.2.2.2.2.1.trans (Eq.trans ?_ (final15 m c).symm)
    refine Eq.trans (b := Cert.Reference3Ideal.AttnIn.Wi (Cert.Reference3Ideal.AttnIn.H (m' ((c : Thread Cert.Reference3Ideal.nD Cert.Reference3Ideal.τ).loc Cert.Reference3Ideal.main_arg0)) (m' ((c : Thread Cert.Reference3Ideal.nD Cert.Reference3Ideal.τ).loc Cert.Reference3Ideal.main_arg1))
      (m' ((c : Thread Cert.Reference3Ideal.nD Cert.Reference3Ideal.τ).loc Cert.Reference3Ideal.main_arg2)))) rfl ?_
    rw [h0, h1, h2]
    rfl

end Cert.Kernel3Ideal.AttnIn

end
-- ==== Proof.AttnHost4.lean ====
module

public import proofs.«01_k».proof.Proof.Gen.Kernel4Ideal.Value
public import proofs.«01_k».proof.Proof.Segments
public import Idealize.ShloMosaic.Lib.Pipeline.ValueKit
public import Idealize.ShloMosaic.Lib.Pipeline.ReadBack

/-! The arrays that the host code prepares for the call, element by element: the weights with two groups of zero
columns, the segment indicators and their transposes, the repeated and the padded gains. -/

@[expose] public section

set_option maxRecDepth 16384

noncomputable section

namespace Cert.Kernel4Ideal.AttnIn

open Cert.Kernel4Ideal Cert.Kernel4Ideal.Gen Idealize.ShloMosaic Idealize.ShloMosaic.TcCoe Idealize.SL.Sem
open Idealize.ShloMosaic.Pipeline (Dat)

variable (m : (ℓ : Loc nD τ sig) → Buf (Elt Ideal) ℓ)

/-- The indicator of the query heads. -/
theorem V_gq (c : Dev nD) (d : Fin 1024) (j : Fin 128) :
    @Eq EReal ((V m c main_v15 : FVec Ideal S1024x128 .bf16) (ix2 d j))
      (if d.val / 64 = j.val then 1 else 0) := by
  simp only [V, List.flatten, List.append, hostOps0, hostOps0_1, hostOps0_2, hostOps0_3, hostOps0_4, hostOps0_5,
    hostOps0_6, hostOps0_7, hostOps0_8, hostOps0_9, hostOps0_10]
  after_results
  simp only [StableHlo.TRef.ofBuf_toBuf, StableHlo.TRef.ofBuf, StableHlo.TRef.toBuf, StableHlo.TRef.of, id, cast_eq]
  pointwise []
  exact Cert.Reals.segment_word d.val j.val (by omega) (by omega)

/-- The indicator of the query heads, transposed. -/
theorem V_eq (c : Dev nD) (j : Fin 128) (d : Fin 1024) :
    @Eq EReal ((V m c main_v16 : FVec Ideal S128x1024 .bf16) (ix2 j d))
      (if d.val / 64 = j.val then 1 else 0) := by
  simp only [V, List.flatten, List.append, hostOps0, hostOps0_1, hostOps0_2, hostOps0_3, hostOps0_4, hostOps0_5,
    hostOps0_6, hostOps0_7, hostOps0_8, hostOps0_9, hostOps0_10]
  after_results
  simp only [StableHlo.TRef.ofBuf_toBuf, StableHlo.TRef.ofBuf, StableHlo.TRef.toBuf, StableHlo.TRef.of, id, cast_eq]
  pointwise []
  exact Cert.Reals.segment_word d.val j.val (by omega) (by omega)

/-- The indicator of the key heads. -/
theorem V_gk (c : Dev nD) (d : Fin 256) (j : Fin 128) :
    @Eq EReal ((V m c main_v25 : FVec Ideal S256x128 .bf16) (ix2 d j))
      (if d.val / 64 = j.val then 1 else 0) := by
  simp only [V, List.flatten, List.append, hostOps0, hostOps0_1, hostOps0_2, hostOps0_3, hostOps0_4, hostOps0_5,
    hostOps0_6, hostOps0_7, hostOps0_8, hostOps0_9, hostOps0_10]
  after_results
  simp only [StableHlo.TRef.ofBuf_toBuf, StableHlo.TRef.ofBuf, StableHlo.TRef.toBuf, StableHlo.TRef.of, id, cast_eq]
  pointwise []
  exact Cert.Reals.segment_word d.val j.val (by omega) (by omega)

/-- The indicator of the key heads, transposed. -/
theorem V_ek (c : Dev nD) (j : Fin 128) (d : Fin 256) :
    @Eq EReal ((V m c main_v26 : FVec Ideal S128x256 .bf16) (ix2 j d))
      (if d.val / 64 = j.val then 1 else 0) := by
  simp only [V, List.flatten, List.append, hostOps0, hostOps0_1, hostOps0_2, hostOps0_3, hostOps0_4, hostOps0_5,
    hostOps0_6, hostOps0_7, hostOps0_8, hostOps0_9, hostOps0_10]
  after_results
  simp only [StableHlo.TRef.ofBuf_toBuf, StableHlo.TRef.ofBuf, StableHlo.TRef.toBuf, StableHlo.TRef.of, id, cast_eq]
  pointwise []
  exact Cert.Reals.segment_word d.val j.val (by omega) (by omega)

/-- The gain of the input norm. -/
theorem V_g (c : Dev nD) (z : Fin 1) (d : Fin 1024) :
    @Eq EReal ((V m c main_v27 : FVec Ideal S1x1024 .f32) (ix2 z d))
      ((m ((c : Thread nD τ).loc main_arg1) : FVec Ideal S1024 .f32) (ix1 d)) := by
  simp only [V, List.flatten, List.append, hostOps0, hostOps0_1, hostOps0_2, hostOps0_3, hostOps0_4, hostOps0_5,
    hostOps0_6, hostOps0_7, hostOps0_8, hostOps0_9, hostOps0_10]
  after_results
  simp only [StableHlo.TRef.ofBuf_toBuf, StableHlo.TRef.ofBuf, StableHlo.TRef.toBuf, StableHlo.TRef.of, id, cast_eq]
  pointwise []

/-- The gain of the query norm, once for each head. -/
theorem V_qg (c : Dev nD) (z : Fin 1) (d : Fin 1024) :
    @Eq EReal ((V m c main_v31 : FVec Ideal S1x1024 .f32) (ix2 z d))
      ((m ((c : Thread nD τ).loc main_arg3) : FVec Ideal S64 .f32) (ix1 ⟨d.val % 64, by omega⟩)) := by
  simp only [V, List.flatten, List.append, hostOps0, hostOps0_1, hostOps0_2, hostOps0_3, hostOps0_4, hostOps0_5,
    hostOps0_6, hostOps0_7, hostOps0_8, hostOps0_9, hostOps0_10]
  after_results
  simp only [StableHlo.TRef.ofBuf_toBuf, StableHlo.TRef.ofBuf, StableHlo.TRef.toBuf, StableHlo.TRef.of, id, cast_eq]
  pointwise []

/-- The gain of the key norm, once for each head. -/
theorem V_kg (c : Dev nD) (z : Fin 1) (d : Fin 256) :
    @Eq EReal ((V m c main_v35 : FVec Ideal S1x256 .f32) (ix2 z d))
      ((m ((c : Thread nD τ).loc main_arg4) : FVec Ideal S64 .f32) (ix1 ⟨d.val % 64, by omega⟩)) := by
  simp only [V, List.flatten, List.append, hostOps0, hostOps0_1, hostOps0_2, hostOps0_3, hostOps0_4, hostOps0_5,
    hostOps0_6, hostOps0_7, hostOps0_8, hostOps0_9, hostOps0_10]
  after_results
  simp only [StableHlo.TRef.ofBuf_toBuf, StableHlo.TRef.ofBuf, StableHlo.TRef.toBuf, StableHlo.TRef.of, id, cast_eq]
  pointwise []

/-- The gain of the index key norm, then zeros. -/
theorem V_kig (c : Dev nD) (z : Fin 1) (d : Fin 128) :
    @Eq EReal ((V m c main_v37 : FVec Ideal S1x128 .f32) (ix2 z d))
      (if h : d.val < 64 then ((m ((c : Thread nD τ).loc main_arg5) : FVec Ideal S64 .f32) (ix1 ⟨d.val, h⟩)) else 0) := by
  simp only [V, List.flatten, List.append, hostOps0, hostOps0_1, hostOps0_2, hostOps0_3, hostOps0_4, hostOps0_5,
    hostOps0_6, hostOps0_7, hostOps0_8, hostOps0_9, hostOps0_10]
  after_results
  simp only [StableHlo.TRef.ofBuf_toBuf, StableHlo.TRef.ofBuf, StableHlo.TRef.toBuf, StableHlo.TRef.of, id, cast_eq]
  pointwise []
  simp [FloatOps.sitofp]

/-- The weights: a first group of columns as given. -/
theorem V_w (c : Dev nD) (d : Fin 1024) (j : Fin 2304) (hj : j.val < 2112) :
    @Eq EReal ((V m c main_v6 : FVec Ideal S1024x2304 .bf16) (ix2 d j))
      ((m ((c : Thread nD τ).loc main_arg2) : FVec Ideal S1024x2120 .f32) (ix2 d ⟨j.val, by omega⟩)) := by
  simp only [V, List.flatten, List.append, hostOps0, hostOps0_1, hostOps0_2, hostOps0_3, hostOps0_4, hostOps0_5,
    hostOps0_6, hostOps0_7, hostOps0_8, hostOps0_9, hostOps0_10]
  after_results
  simp only [StableHlo.TRef.ofBuf_toBuf, StableHlo.TRef.ofBuf, StableHlo.TRef.toBuf, StableHlo.TRef.of, id, cast_eq]
  pointwise []
  after_results_loop
  simp only [StableHlo.TRef.ofBuf_toBuf, StableHlo.TRef.ofBuf, StableHlo.TRef.toBuf, StableHlo.TRef.of, id, cast_eq]
  pointwise []
  split_ifs <;> first
    | (exfalso; omega)
    | rfl
    | exact congrArg (fun k => (m ((c : Thread nD τ).loc main_arg2) : FVec Ideal S1024x2120 .f32) (ix2 d k)) (Fin.ext (by simp only; omega))
    | simp [FloatOps.sitofp]

/-- Then columns of zeros. -/
theorem V_w_zero (c : Dev nD) (d : Fin 1024) (j : Fin 2304) (hj : 2112 ≤ j.val) (hj2 : j.val < 2176) :
    @Eq EReal ((V m c main_v6 : FVec Ideal S1024x2304 .bf16) (ix2 d j))
      0 := by
  simp only [V, List.flatten, List.append, hostOps0, hostOps0_1, hostOps0_2, hostOps0_3, hostOps0_4, hostOps0_5,
    hostOps0_6, hostOps0_7, hostOps0_8, hostOps0_9, hostOps0_10]
  after_results
  simp only [StableHlo.TRef.ofBuf_toBuf, StableHlo.TRef.ofBuf, StableHlo.TRef.toBuf, StableHlo.TRef.of, id, cast_eq]
  pointwise []
  after_results_loop
  simp only [StableHlo.TRef.ofBuf_toBuf, StableHlo.TRef.ofBuf, StableHlo.TRef.toBuf, StableHlo.TRef.of, id, cast_eq]
  pointwise []
  split_ifs <;> first
    | (exfalso; omega)
    | rfl
    | exact congrArg (fun k => (m ((c : Thread nD τ).loc main_arg2) : FVec Ideal S1024x2120 .f32) (ix2 d k)) (Fin.ext (by simp only; omega))
    | simp [FloatOps.sitofp]

/-- Then the columns of the index weights. -/
theorem V_w_idx (c : Dev nD) (d : Fin 1024) (j : Fin 2304) (hj : 2176 ≤ j.val) (hj2 : j.val < 2184) :
    @Eq EReal ((V m c main_v6 : FVec Ideal S1024x2304 .bf16) (ix2 d j))
      ((m ((c : Thread nD τ).loc main_arg2) : FVec Ideal S1024x2120 .f32) (ix2 d ⟨j.val - 64, by omega⟩)) := by
  simp only [V, List.flatten, List.append, hostOps0, hostOps0_1, hostOps0_2, hostOps0_3, hostOps0_4, hostOps0_5,
    hostOps0_6, hostOps0_7, hostOps0_8, hostOps0_9, hostOps0_10]
  after_results
  simp only [StableHlo.TRef.ofBuf_toBuf, StableHlo.TRef.ofBuf, StableHlo.TRef.toBuf, StableHlo.TRef.of, id, cast_eq]
  pointwise []
  after_results_loop
  simp only [StableHlo.TRef.ofBuf_toBuf, StableHlo.TRef.ofBuf, StableHlo.TRef.toBuf, StableHlo.TRef.of, id, cast_eq]
  pointwise []
  split_ifs <;> first
    | (exfalso; omega)
    | rfl
    | exact congrArg (fun k => (m ((c : Thread nD τ).loc main_arg2) : FVec Ideal S1024x2120 .f32) (ix2 d k)) (Fin.ext (by simp only; omega))
    | simp [FloatOps.sitofp]

/-- Then zeros again. -/
theorem V_w_tail (c : Dev nD) (d : Fin 1024) (j : Fin 2304) (hj : 2184 ≤ j.val) :
    @Eq EReal ((V m c main_v6 : FVec Ideal S1024x2304 .bf16) (ix2 d j))
      0 := by
  simp only [V, List.flatten, List.append, hostOps0, hostOps0_1, hostOps0_2, hostOps0_3, hostOps0_4, hostOps0_5,
    hostOps0_6, hostOps0_7, hostOps0_8, hostOps0_9, hostOps0_10]
  after_results
  simp only [StableHlo.TRef.ofBuf_toBuf, StableHlo.TRef.ofBuf, StableHlo.TRef.toBuf, StableHlo.TRef.of, id, cast_eq]
  pointwise []
  after_results_loop
  simp only [StableHlo.TRef.ofBuf_toBuf, StableHlo.TRef.ofBuf, StableHlo.TRef.toBuf, StableHlo.TRef.of, id, cast_eq]
  pointwise []
  split_ifs <;> first
    | (exfalso; omega)
    | rfl
    | exact congrArg (fun k => (m ((c : Thread nD τ).loc main_arg2) : FVec Ideal S1024x2120 .f32) (ix2 d k)) (Fin.ext (by simp only; omega))
    | simp [FloatOps.sitofp]

end Cert.Kernel4Ideal.AttnIn

end
-- ==== Proof.AttnRef4.lean ====
module

public import proofs.«01_k».proof.Proof.Gen.Reference4Ideal.Run
public import proofs.«01_k».proof.Proof.AttnRow
public import Idealize.ShloMosaic.Lib.Pipeline.ValueKit
public import Idealize.ShloMosaic.Lib.Pipeline.ReadBack

/-! The reference of the input projections of attention: its results as terms of the projected rows, and what each of
them is at an element. -/

@[expose] public section

set_option maxRecDepth 16384

noncomputable section

namespace Cert.Reference4Ideal.AttnIn

open Cert.Reference4Ideal Cert.Reference4Ideal.Gen Idealize.ShloMosaic Idealize.ShloMosaic.TcCoe Idealize.SL.Sem
open Cert.AttnRow

/-- The normalised rows projected with the weights. -/
def H (a0 : FVec Ideal S33792x1024 .f32) (a1 : FVec Ideal S1024 .f32) (a2 : FVec Ideal S1024x2120 .f32) :
    FVec Ideal S33792x2120 .f32 :=
  (Host.dotGeneral (F := Ideal) dot_S33792x1024_S1024x2120_S33792x2120_1_0_0_1_n_n none (mulf (mulf a0 (broadcastInDim S33792x1024 ![0, 1] bcast_S33792x1_S33792x1024_0_1 (Host.rsqrt (addf (Host.divf (broadcastInDim S33792x1 ![0] bcast_S33792_S33792x1_0 (Host.reduceAdd (mulf a0 a0) (constant S_ .f32 0x00000000#32) reducesTo_S33792x1024_S33792_d1 h_S_)) (broadcastInDim S33792x1 ![] bcast_S_S33792x1 (constant S_ .f32 0x44800000#32))) (broadcastInDim S33792x1 ![] bcast_S_S33792x1 (constant S_ .f32 0x358637BD#32)))))) (broadcastInDim S33792x1024 ![0, 1] bcast_S1x1024_S33792x1024_0_1 (broadcastInDim S1x1024 ![1] bcast_S1024_S1x1024_1 a1))) a2)

theorem H_at (a0 : FVec Ideal S33792x1024 .f32) (a1 : FVec Ideal S1024 .f32) (a2 : FVec Ideal S1024x2120 .f32) (r : Fin 33792) (j : Fin 2120) :
    @Eq EReal (H a0 a1 a2 (ix2 r j)) (proj (fun d => a0 (ix2 r d)) (fun d => a1 (ix1 d)) (fun d => a2 (ix2 d j))) := by
  unfold proj mixed
  pointwise [H]

/-- The normalised and scaled query heads. -/
def Qf (h : FVec Ideal S33792x2120 .f32) (g : FVec Ideal S64 .f32) : FVec Ideal S33792x16x64 .f32 :=
  mulf (mulf (mulf (shapeCast _ (extractStridedSlice S33792x1024 ![0, 0] h slices_S33792x2120_S33792x1024_0_0) shapeCasts_S33792x1024_S33792x16x64) (broadcastInDim S33792x16x64 ![0, 1, 2] bcast_S33792x16x1_S33792x16x64_0_1_2 (Host.rsqrt (addf (Host.divf (broadcastInDim S33792x16x1 ![0, 1] bcast_S33792x16_S33792x16x1_0_1 (Host.reduceAdd (mulf (shapeCast _ (extractStridedSlice S33792x1024 ![0, 0] h slices_S33792x2120_S33792x1024_0_0) shapeCasts_S33792x1024_S33792x16x64) (shapeCast _ (extractStridedSlice S33792x1024 ![0, 0] h slices_S33792x2120_S33792x1024_0_0) shapeCasts_S33792x1024_S33792x16x64)) (constant S_ .f32 0x00000000#32) reducesTo_S33792x16x64_S33792x16_d2 h_S_)) (broadcastInDim S33792x16x1 ![] bcast_S_S33792x16x1 (constant S_ .f32 0x42800000#32))) (broadcastInDim S33792x16x1 ![] bcast_S_S33792x16x1 (constant S_ .f32 0x358637BD#32)))))) (broadcastInDim S33792x16x64 ![0, 1, 2] bcast_S1x1x64_S33792x16x64_0_1_2 (broadcastInDim S1x1x64 ![2] bcast_S64_S1x1x64_2 g))) (broadcastInDim S33792x16x64 ![] bcast_S_S33792x16x64 (constant S_ .f32 0x3E000000#32))

/-- The normalised key heads. -/
def Kf (h : FVec Ideal S33792x2120 .f32) (g : FVec Ideal S64 .f32) : FVec Ideal S33792x4x64 .f32 :=
  mulf (mulf (shapeCast _ (extractStridedSlice S33792x256 ![0, 1024] h slices_S33792x2120_S33792x256_0_1024) shapeCasts_S33792x256_S33792x4x64) (broadcastInDim S33792x4x64 ![0, 1, 2] bcast_S33792x4x1_S33792x4x64_0_1_2 (Host.rsqrt (addf (Host.divf (broadcastInDim S33792x4x1 ![0, 1] bcast_S33792x4_S33792x4x1_0_1 (Host.reduceAdd (mulf (shapeCast _ (extractStridedSlice S33792x256 ![0, 1024] h slices_S33792x2120_S33792x256_0_1024) shapeCasts_S33792x256_S33792x4x64) (shapeCast _ (extractStridedSlice S33792x256 ![0, 1024] h slices_S33792x2120_S33792x256_0_1024) shapeCasts_S33792x256_S33792x4x64)) (constant S_ .f32 0x00000000#32) reducesTo_S33792x4x64_S33792x4_d2 h_S_)) (broadcastInDim S33792x4x1 ![] bcast_S_S33792x4x1 (constant S_ .f32 0x42800000#32))) (broadcastInDim S33792x4x1 ![] bcast_S_S33792x4x1 (constant S_ .f32 0x358637BD#32)))))) (broadcastInDim S33792x4x64 ![0, 1, 2] bcast_S1x1x64_S33792x4x64_0_1_2 (broadcastInDim S1x1x64 ![2] bcast_S64_S1x1x64_2 g))

/-- The scaled index queries. -/
def Qif (h : FVec Ideal S33792x2120 .f32) : FVec Ideal S33792x512 .f32 :=
  mulf (extractStridedSlice S33792x512 ![0, 1536] h slices_S33792x2120_S33792x512_0_1536) (broadcastInDim S33792x512 ![] bcast_S_S33792x512 (constant S_ .f32 0x3E000000#32))

/-- The scaled index weights. -/
def Wf (h : FVec Ideal S33792x2120 .f32) : FVec Ideal S33792x8 .f32 :=
  mulf (extractStridedSlice S33792x8 ![0, 2112] h slices_S33792x2120_S33792x8_0_2112) (broadcastInDim S33792x8 ![] bcast_S_S33792x8 (constant S_ .f32 0x3EB504F3#32))

/-- The normalised index keys. -/
def Kif (h : FVec Ideal S33792x2120 .f32) (g : FVec Ideal S64 .f32) : FVec Ideal S33792x64 .f32 :=
  mulf (mulf (extractStridedSlice S33792x64 ![0, 2048] h slices_S33792x2120_S33792x64_0_2048) (broadcastInDim S33792x64 ![0, 1] bcast_S33792x1_S33792x64_0_1 (Host.rsqrt (addf (Host.divf (broadcastInDim S33792x1 ![0] bcast_S33792_S33792x1_0 (Host.reduceAdd (mulf (extractStridedSlice S33792x64 ![0, 2048] h slices_S33792x2120_S33792x64_0_2048) (extractStridedSlice S33792x64 ![0, 2048] h slices_S33792x2120_S33792x64_0_2048)) (constant S_ .f32 0x00000000#32) reducesTo_S33792x64_S33792_d1 h_S_)) (broadcastInDim S33792x1 ![] bcast_S_S33792x1 (constant S_ .f32 0x42800000#32))) (broadcastInDim S33792x1 ![] bcast_S_S33792x1 (constant S_ .f32 0x358637BD#32)))))) (broadcastInDim S33792x64 ![0, 1] bcast_S1x64_S33792x64_0_1 (broadcastInDim S1x64 ![1] bcast_S64_S1x64_1 g))

/-- Result `main_v80` of the projected rows. -/
def K (h : FVec Ideal S33792x2120 .f32) (g : FVec Ideal S64 .f32) : FVec Ideal S33792x256 .f32 :=
  shapeCast _ (Kf h g) shapeCasts_S33792x4x64_S33792x256

/-- Result `main_v16` of the projected rows. -/
def Vv (h : FVec Ideal S33792x2120 .f32) : FVec Ideal S33792x256 .f32 :=
  extractStridedSlice S33792x256 ![0, 1280] h slices_S33792x2120_S33792x256_0_1280

/-- Result `main_v81` of the projected rows. -/
def Ki (h : FVec Ideal S33792x2120 .f32) (g : FVec Ideal S64 .f32) : FVec Ideal S33792x128 .f32 :=
  pad S33792x128 ![0, 0] ![0, 64] ![0, 0] (Kif h g) (sitofp .f32 (constantI S_ 32 0#32)) pads_S33792x64_S33792x128_000_0640 h_S_

/-- Result `main_v82` of the projected rows. -/
def Qt (h : FVec Ideal S33792x2120 .f32) (g : FVec Ideal S64 .f32) : FVec Ideal S264x4x64x512 .bf16 :=
  truncf .bf16 (shapeCast _ (transpose S264x4x64x4x128 [0, 2, 4, 3, 1] (shapeCast _ (Qf h g) shapeCasts_S33792x16x64_S264x128x4x4x64) transposes_S264x128x4x4x64_S264x4x64x4x128_0_2_4_3_1) shapeCasts_S264x4x64x4x128_S264x4x64x512) bitsLt_bf16_f32

/-- Result `main_v83` of the projected rows. -/
def Qit (h : FVec Ideal S33792x2120 .f32) : FVec Ideal S264x64x1024 .bf16 :=
  truncf .bf16 (shapeCast _ (transpose S264x64x8x128 [0, 3, 2, 1] (shapeCast _ (Qif h) shapeCasts_S33792x512_S264x128x8x64) transposes_S264x128x8x64_S264x64x8x128_0_3_2_1) shapeCasts_S264x64x8x128_S264x64x1024) bitsLt_bf16_f32

/-- Result `main_v74` of the projected rows. -/
def Wt (h : FVec Ideal S33792x2120 .f32) : FVec Ideal S264x8x128 .f32 :=
  transpose S264x8x128 [0, 2, 1] (shapeCast _ (Wf h) shapeCasts_S33792x8_S264x128x8) transposes_S264x128x8_S264x8x128_0_2_1

/-- Result `main_v85` of the projected rows. -/
def Kg (h : FVec Ideal S33792x2120 .f32) (g : FVec Ideal S64 .f32) : FVec Ideal S4x33792x64 .bf16 :=
  truncf .bf16 (transpose S4x33792x64 [1, 0, 2] (Kf h g) transposes_S33792x4x64_S4x33792x64_1_0_2) bitsLt_bf16_f32

/-- Result `main_v86` of the projected rows. -/
def Vt (h : FVec Ideal S33792x2120 .f32) : FVec Ideal S264x4x80x128 .bf16 :=
  truncf .bf16 ((concatenate S264x4x80x128 2 [⟨S264x4x64x128, ((transpose S264x4x64x128 [0, 2, 3, 1] (shapeCast _ (extractStridedSlice S33792x256 ![0, 1280] h slices_S33792x2120_S33792x256_0_1280) shapeCasts_S33792x256_S264x128x4x64) transposes_S264x128x4x64_S264x4x64x128_0_2_3_1) : FVec Ideal S264x4x64x128 .f32)⟩, ⟨S264x4x1x128, ((broadcastInDim S264x4x1x128 ![] bcast_S_S264x4x1x128 (constant S_ .f32 0x3F800000#32)) : FVec Ideal S264x4x1x128 .f32)⟩, ⟨S264x4x15x128, ((broadcastInDim S264x4x15x128 ![] bcast_S_S264x4x15x128 (constant S_ .f32 0x00000000#32)) : FVec Ideal S264x4x15x128 .f32)⟩] concatenates_S264x4x64x128_S264x4x1x128_S264x4x15x128_S264x4x80x128_d2 : FVec Ideal S264x4x80x128 .f32)) bitsLt_bf16_f32

/-- Result `main_v87` of the projected rows. -/
def Kib (h : FVec Ideal S33792x2120 .f32) (g : FVec Ideal S64 .f32) : FVec Ideal S33792x64 .bf16 :=
  truncf .bf16 (Kif h g) bitsLt_bf16_f32

theorem Qf_at (h : FVec Ideal S33792x2120 .f32) (g : FVec Ideal S64 .f32) (r : Fin 33792) (n : Fin 16) (d : Fin 64) :
    @Eq EReal (Qf h g (ix3 r n d))
      (h (ix2 r ⟨n.val * 64 + d.val, by omega⟩) * segInv (fun e => h (ix2 r ⟨n.val * 64 + e.val, by omega⟩)) * g (ix1 d)
        * Ideal.ofBits .f32 0x3E000000#32) := by
  unfold segInv
  pointwise [Qf]

theorem Kf_at (h : FVec Ideal S33792x2120 .f32) (g : FVec Ideal S64 .f32) (r : Fin 33792) (n : Fin 4) (d : Fin 64) :
    @Eq EReal (Kf h g (ix3 r n d))
      (h (ix2 r ⟨1024 + (n.val * 64 + d.val), by omega⟩) * segInv (fun e => h (ix2 r ⟨1024 + (n.val * 64 + e.val), by omega⟩))
        * g (ix1 d)) := by
  unfold segInv
  pointwise [Kf]

theorem Qif_at (h : FVec Ideal S33792x2120 .f32) (r : Fin 33792) (c : Fin 512) :
    @Eq EReal (Qif h (ix2 r c)) (h (ix2 r ⟨1536 + c.val, by omega⟩) * Ideal.ofBits .f32 0x3E000000#32) := by
  pointwise [Qif]

theorem Wf_at (h : FVec Ideal S33792x2120 .f32) (r : Fin 33792) (c : Fin 8) :
    @Eq EReal (Wf h (ix2 r c)) (h (ix2 r ⟨2112 + c.val, by omega⟩) * Ideal.ofBits .f32 0x3EB504F3#32) := by
  pointwise [Wf]

theorem Kif_at (h : FVec Ideal S33792x2120 .f32) (g : FVec Ideal S64 .f32) (r : Fin 33792) (d : Fin 64) :
    @Eq EReal (Kif h g (ix2 r d))
      (h (ix2 r ⟨2048 + d.val, by omega⟩) * segInv (fun e => h (ix2 r ⟨2048 + e.val, by omega⟩)) * g (ix1 d)) := by
  unfold segInv
  pointwise [Kif]

theorem Qf_col (h : FVec Ideal S33792x2120 .f32) (g : FVec Ideal S64 .f32) (r : Fin 33792) (c : Fin 1024) :
    @Eq EReal (Qf h g (ix3 r ⟨c.val / 64, by omega⟩ ⟨c.val % 64, by omega⟩))
      (h (ix2 r ⟨c.val, by omega⟩) * segInv (fun d => h (ix2 r ⟨c.val / 64 * 64 + d.val, by omega⟩))
        * g (ix1 ⟨c.val % 64, by omega⟩) * Ideal.ofBits .f32 0x3E000000#32) := by
  have e : c.val / 64 * 64 + c.val % 64 = c.val := by omega
  rw [Qf_at]
  simp only [e]

theorem Kf_col (h : FVec Ideal S33792x2120 .f32) (g : FVec Ideal S64 .f32) (r : Fin 33792) (c : Fin 256) :
    @Eq EReal (Kf h g (ix3 r ⟨c.val / 64, by omega⟩ ⟨c.val % 64, by omega⟩))
      (h (ix2 r ⟨1024 + c.val, by omega⟩) * segInv (fun d => h (ix2 r ⟨1024 + (c.val / 64 * 64 + d.val), by omega⟩))
        * g (ix1 ⟨c.val % 64, by omega⟩)) := by
  have e : c.val / 64 * 64 + c.val % 64 = c.val := by omega
  rw [Kf_at]
  simp only [e]

theorem K_at (h : FVec Ideal S33792x2120 .f32) (g : FVec Ideal S64 .f32) (r : Fin 33792) (c : Fin 256) :
    @Eq EReal (K h g (ix2 r c)) (Kf h g (ix3 r ⟨c.val / 64, by omega⟩ ⟨c.val % 64, by omega⟩)) := by
  pointwise [K]

theorem Vv_at (h : FVec Ideal S33792x2120 .f32) (r : Fin 33792) (c : Fin 256) :
    @Eq EReal (Vv h (ix2 r c)) (h (ix2 r ⟨1280 + c.val, by omega⟩)) := by
  pointwise [Vv]

theorem Ki_at (h : FVec Ideal S33792x2120 .f32) (g : FVec Ideal S64 .f32) (r : Fin 33792) (c : Fin 128) :
    @Eq EReal (Ki h g (ix2 r c)) (if hc : c.val < 64 then Kif h g (ix2 r ⟨c.val, by omega⟩) else 0) := by
  pointwise [Ki]
  simp [FloatOps.sitofp]

theorem Qt_at (h : FVec Ideal S33792x2120 .f32) (g : FVec Ideal S64 .f32) (b : Fin 264) (n : Fin 4) (d : Fin 64) (l : Fin 512) :
    @Eq EReal (Qt h g (ix4 b n d l))
      (Qf h g (ix3 ⟨b.val * 128 + l.val % 128, by omega⟩ ⟨n.val * 4 + l.val / 128, by omega⟩ d)) := by
  pointwise [Qt]
  blk_ext

theorem Qit_at (h : FVec Ideal S33792x2120 .f32) (b : Fin 264) (d : Fin 64) (l : Fin 1024) :
    @Eq EReal (Qit h (ix3 b d l)) (Qif h (ix2 ⟨b.val * 128 + l.val % 128, by omega⟩ ⟨l.val / 128 * 64 + d.val, by omega⟩)) := by
  pointwise [Qit]
  blk_ext

theorem Wt_at (h : FVec Ideal S33792x2120 .f32) (b : Fin 264) (n : Fin 8) (l : Fin 128) :
    @Eq EReal (Wt h (ix3 b n l)) (Wf h (ix2 ⟨b.val * 128 + l.val, by omega⟩ n)) := by
  pointwise [Wt]

theorem Kg_at (h : FVec Ideal S33792x2120 .f32) (g : FVec Ideal S64 .f32) (n : Fin 4) (r : Fin 33792) (d : Fin 64) :
    @Eq EReal (Kg h g (ix3 n r d)) (Kf h g (ix3 r n d)) := by
  pointwise [Kg]

theorem Kib_at (h : FVec Ideal S33792x2120 .f32) (g : FVec Ideal S64 .f32) (r : Fin 33792) (d : Fin 64) : @Eq EReal (Kib h g (ix2 r d)) (Kif h g (ix2 r d)) := by
  pointwise [Kib]

theorem Vt_at (h : FVec Ideal S33792x2120 .f32) (b : Fin 264) (n : Fin 4) (d : Fin 80) (l : Fin 128) :
    @Eq EReal (Vt h (ix4 b n d l))
      (if hd : d.val < 64 then h (ix2 ⟨b.val * 128 + l.val, by omega⟩ ⟨1280 + (n.val * 64 + d.val), by omega⟩)
        else if d.val = 64 then Ideal.ofBits .f32 0x3F800000#32 else Ideal.ofBits .f32 0x00000000#32) := by
  pointwise [Vt]
  by_cases h1 : d.val < 64
  · rw [dif_pos h1, dif_pos h1]
  · rw [dif_neg h1, dif_neg h1]
    by_cases h2 : d.val = 64
    · rw [dif_pos (by omega), if_pos h2]
    · rw [dif_neg (by omega), if_neg h2]

end Cert.Reference4Ideal.AttnIn

end
-- ==== Proof.AttnIn4.lean ====
module

public import proofs.«01_k».proof.Proof.AttnHost4
public import proofs.«01_k».proof.Proof.AttnRef4

/-! The input projections of attention for the prompt rows: what the kernel's body computes at an element, in terms of
the reference's projected rows. -/

@[expose] public section

set_option maxRecDepth 16384

noncomputable section

namespace Cert.Kernel4Ideal.AttnIn

open Cert.Kernel4Ideal Cert.Kernel4Ideal.Gen Idealize.ShloMosaic Idealize.ShloMosaic.TcCoe Idealize.SL.Sem
open Idealize.ShloMosaic.Pipeline (Dat)
open Cert.AttnRow Cert.Reals

variable (m : (ℓ : Loc nD τ sig) → Buf (Elt Ideal) ℓ)

/-- Which block of its array each window stages at a grid point. -/
theorem idx : ∀ t : Fin cfg0.N, win0_0.index t = ![t.val, 0]
    ∧ win0_1.index t = ![0, 0]
    ∧ win0_2.index t = ![0, 0]
    ∧ win0_3.index t = ![0, 0]
    ∧ win0_4.index t = ![0, 0]
    ∧ win0_5.index t = ![0, 0]
    ∧ win0_6.index t = ![0, 0]
    ∧ win0_7.index t = ![0, 0]
    ∧ win0_8.index t = ![0, 0]
    ∧ win0_9.index t = ![0, 0]
    ∧ win0_10.index t = ![t.val, 0]
    ∧ win0_11.index t = ![t.val, 0]
    ∧ win0_12.index t = ![t.val, 0]
    ∧ win0_13.index t = ![t.val, 0, 0, 0]
    ∧ win0_14.index t = ![t.val, 0, 0]
    ∧ win0_15.index t = ![t.val, 0, 0]
    ∧ win0_16.index t = ![0, t.val, 0]
    ∧ win0_17.index t = ![t.val, 0, 0, 0]
    ∧ win0_18.index t = ![t.val, 0] :=
  (by decide +kernel : ∀ t : Fin grid0.N, _)

/-- The row of the array that row `r` of the block at point `t` is. -/
def row (t : Fin cfg0.N) (r : Fin 512) : Fin 33792 := ⟨t.val * 512 + r.val, by have : t.val < 66 := t.isLt; omega⟩

theorem b0 (c : Dev nD) (t : Fin cfg0.N) (r : Fin 512) (d : Fin 1024) :
    @Eq EReal ((iblk m c 0 t : FVec Ideal S512x1024 .f32) (ix2 r d))
      ((m ((c : Thread nD τ).loc main_arg0) : FVec Ideal S33792x1024 .f32) (ix2 (row t r) d)) := by
  unfold row
  blk_ext [iblk, V, idx t]

theorem b1 (c : Dev nD) (t : Fin cfg0.N) (d : Fin 1024) :
    @Eq EReal ((iblk m c 1 t : FVec Ideal S1x1024 .f32) (ix2 0 d))
      ((m ((c : Thread nD τ).loc main_arg1) : FVec Ideal S1024 .f32) (ix1 d)) :=
  Eq.trans (by blk_ext [iblk, idx t]) (V_g m c 0 d)

theorem b2 (c : Dev nD) (t : Fin cfg0.N) (d : Fin 1024) (j : Fin 2304) :
    @Eq EReal ((iblk m c 2 t : FVec Ideal S1024x2304 .bf16) (ix2 d j)) ((V m c main_v6 : FVec Ideal S1024x2304 .bf16) (ix2 d j)) := by
  blk_ext [iblk, idx t]

theorem b3 (c : Dev nD) (t : Fin cfg0.N) (d : Fin 1024) :
    @Eq EReal ((iblk m c 3 t : FVec Ideal S1x1024 .f32) (ix2 0 d))
      ((m ((c : Thread nD τ).loc main_arg3) : FVec Ideal S64 .f32) (ix1 ⟨d.val % 64, by omega⟩)) :=
  Eq.trans (by blk_ext [iblk, idx t]) (V_qg m c 0 d)

theorem b4 (c : Dev nD) (t : Fin cfg0.N) (d : Fin 256) :
    @Eq EReal ((iblk m c 4 t : FVec Ideal S1x256 .f32) (ix2 0 d))
      ((m ((c : Thread nD τ).loc main_arg4) : FVec Ideal S64 .f32) (ix1 ⟨d.val % 64, by omega⟩)) :=
  Eq.trans (by blk_ext [iblk, idx t]) (V_kg m c 0 d)

theorem b5 (c : Dev nD) (t : Fin cfg0.N) (d : Fin 128) :
    @Eq EReal ((iblk m c 5 t : FVec Ideal S1x128 .f32) (ix2 0 d))
      (if h : d.val < 64 then ((m ((c : Thread nD τ).loc main_arg5) : FVec Ideal S64 .f32) (ix1 ⟨d.val, h⟩)) else 0) :=
  Eq.trans (by blk_ext [iblk, idx t]) (V_kig m c 0 d)

theorem b6 (c : Dev nD) (t : Fin cfg0.N) (d : Fin 1024) (j : Fin 128) :
    @Eq EReal ((iblk m c 6 t : FVec Ideal S1024x128 .bf16) (ix2 d j)) (if d.val / 64 = j.val then 1 else 0) :=
  Eq.trans (by blk_ext [iblk, idx t]) (V_gq m c d j)

theorem b7 (c : Dev nD) (t : Fin cfg0.N) (j : Fin 128) (d : Fin 1024) :
    @Eq EReal ((iblk m c 7 t : FVec Ideal S128x1024 .bf16) (ix2 j d)) (if d.val / 64 = j.val then 1 else 0) :=
  Eq.trans (by blk_ext [iblk, idx t]) (V_eq m c j d)

theorem b8 (c : Dev nD) (t : Fin cfg0.N) (d : Fin 256) (j : Fin 128) :
    @Eq EReal ((iblk m c 8 t : FVec Ideal S256x128 .bf16) (ix2 d j)) (if d.val / 64 = j.val then 1 else 0) :=
  Eq.trans (by blk_ext [iblk, idx t]) (V_gk m c d j)

theorem b9 (c : Dev nD) (t : Fin cfg0.N) (j : Fin 128) (d : Fin 256) :
    @Eq EReal ((iblk m c 9 t : FVec Ideal S128x256 .bf16) (ix2 j d)) (if d.val / 64 = j.val then 1 else 0) :=
  Eq.trans (by blk_ext [iblk, idx t]) (V_ek m c j d)

/-- The reference's projected rows, of the arguments as the run begins. -/
def HH (c : Dev nD) : FVec Ideal Cert.Reference4Ideal.S33792x2120 .f32 :=
  Cert.Reference4Ideal.AttnIn.H (m ((c : Thread nD τ).loc main_arg0)) (m ((c : Thread nD τ).loc main_arg1))
    (m ((c : Thread nD τ).loc main_arg2))

/-- The two arguments whose elements have to be real numbers: the gain of the norm and the weights. -/
def Hyp (c : Dev nD) : Prop :=
  (∀ d, IsReal ((m ((c : Thread nD τ).loc main_arg1) : FVec Ideal S1024 .f32) (ix1 d)))
    ∧ ∀ d j, IsReal ((m ((c : Thread nD τ).loc main_arg2) : FVec Ideal S1024x2120 .f32) (ix2 d j))

theorem HH_real {c : Dev nD} (hyp : Hyp m c) (r : Fin 33792) (j : Fin 2120) : IsReal (HH m c (ix2 r j)) := by
  unfold HH
  rw [Cert.Reference4Ideal.AttnIn.H_at]
  exact proj_real hyp.1 fun d => hyp.2 d j

theorem pay_h (x : FVec Ideal S512x1024 .f32) (g : FVec Ideal S1x1024 .f32) (w : FVec Ideal S1024x2304 .bf16) (r : Fin 512) (j : Fin 2304) :
    @Eq EReal (k0_pay3 (F := Ideal) x g w (ix2 r j)) (proj (fun d => x (ix2 r d)) (fun d => g (ix2 0 d)) (fun d => w (ix2 d j))) := by
  unfold proj mixed
  pointwise [k0_pay3]

theorem hb_proj (c : Dev nD) (t : Fin cfg0.N) (r : Fin 512) (j : Fin 2304) :
    @Eq EReal (k0_pay3 (F := Ideal) (iblk m c 0 t) (iblk m c 1 t) (iblk m c 2 t) (ix2 r j)) (proj (fun d => (m ((c : Thread nD τ).loc main_arg0) : FVec Ideal S33792x1024 .f32) (ix2 (row t r) d))
      (fun d => (m ((c : Thread nD τ).loc main_arg1) : FVec Ideal S1024 .f32) (ix1 d))
      (fun d => (V m c main_v6 : FVec Ideal S1024x2304 .bf16) (ix2 d j))) := by
  refine (pay_h _ _ _ r j).trans ?_
  simp only [b0, b1, b2]

/-- A column of the first group is the reference's column. -/
theorem hb_at (c : Dev nD) (t : Fin cfg0.N) (r : Fin 512) (j : Fin 2304) (hj : j.val < 2112) :
    @Eq EReal (k0_pay3 (F := Ideal) (iblk m c 0 t) (iblk m c 1 t) (iblk m c 2 t) (ix2 r j)) (HH m c (ix2 (row t r) ⟨j.val, by omega⟩)) := by
  refine (hb_proj m c t r j).trans ?_
  unfold HH
  rw [Cert.Reference4Ideal.AttnIn.H_at]
  simp only [fun d => V_w m c d j hj]

theorem hb_zero (c : Dev nD) (t : Fin cfg0.N) (r : Fin 512) (j : Fin 2304) (hj : 2112 ≤ j.val) (hj2 : j.val < 2176) :
    @Eq EReal (k0_pay3 (F := Ideal) (iblk m c 0 t) (iblk m c 1 t) (iblk m c 2 t) (ix2 r j)) 0 :=
  (hb_proj m c t r j).trans (proj_zero fun d => V_w_zero m c d j hj hj2)

theorem hb_idx (c : Dev nD) (t : Fin cfg0.N) (r : Fin 512) (j : Fin 2304) (hj : 2176 ≤ j.val) (hj2 : j.val < 2184) :
    @Eq EReal (k0_pay3 (F := Ideal) (iblk m c 0 t) (iblk m c 1 t) (iblk m c 2 t) (ix2 r j)) (HH m c (ix2 (row t r) ⟨j.val - 64, by omega⟩)) := by
  refine (hb_proj m c t r j).trans ?_
  unfold HH
  rw [Cert.Reference4Ideal.AttnIn.H_at]
  simp only [fun d => V_w_idx m c d j hj hj2]

theorem hb_tail (c : Dev nD) (t : Fin cfg0.N) (r : Fin 512) (j : Fin 2304) (hj : 2184 ≤ j.val) :
    @Eq EReal (k0_pay3 (F := Ideal) (iblk m c 0 t) (iblk m c 1 t) (iblk m c 2 t) (ix2 r j)) 0 :=
  (hb_proj m c t r j).trans (proj_zero fun d => V_w_tail m c d j hj)

theorem pay_q (x : FVec Ideal S512x1024 .f32) (g : FVec Ideal S1x1024 .f32) (w : FVec Ideal S1024x2304 .bf16)
    (gain : FVec Ideal S1x1024 .f32) (e : FVec Ideal S1024x128 .bf16) (e' : FVec Ideal S128x1024 .bf16) (r : Fin 512) (k : Fin 1024)
    (hf : ∀ j : Fin 1024, IsReal (k0_pay3 (F := Ideal) x g w (ix2 r ⟨j.val, by omega⟩)))
    (he : ∀ (d : Fin 1024) (j : Fin 128), e (ix2 d j) = (if d.val / 64 = j.val then 1 else 0 : EReal))
    (he' : ∀ (j : Fin 128) (d : Fin 1024), e' (ix2 j d) = (if d.val / 64 = j.val then 1 else 0 : EReal)) :
    @Eq EReal (k0_pay8 (F := Ideal) (k0_pay4 x g w) (k0_pay5 gain) (k0_pay6 x g w e) (k0_pay7 (F := Ideal)) e' (ix2 r k))
      (k0_pay3 (F := Ideal) x g w (ix2 r ⟨k.val, by omega⟩)
        * segInv (fun d => k0_pay3 (F := Ideal) x g w (ix2 r ⟨k.val / 64 * 64 + d.val, by omega⟩)) * gain (ix2 0 k)
        * Ideal.ofBits .f32 0x3E000000#32) := by
  have hs : ∀ j : Fin 128, @Eq EReal (k0_pay6 (F := Ideal) x g w e (ix2 r j))
      (meanOf (fun k : Fin 1024 => k0_pay3 (F := Ideal) x g w (ix2 r ⟨k.val, by omega⟩)) (fun k => e (ix2 k j))) := by
    intro j
    unfold meanOf
    pointwise [k0_pay6, k0_pay4]
  pointwise [k0_pay8, k0_pay5, k0_pay7, k0_pay4]
  rw [spread_segInv 16 (by omega) rfl hf he k (fun j => by rw [hs j]) (fun j => he' j k)]

theorem q_at {c : Dev nD} (hyp : Hyp m c) (t : Fin cfg0.N) (r : Fin 512) (k : Fin 1024) :
    @Eq EReal (k0_pay8 (F := Ideal) (k0_pay4 (iblk m c 0 t) (iblk m c 1 t) (iblk m c 2 t)) (k0_pay5 (iblk m c 3 t))
        (k0_pay6 (iblk m c 0 t) (iblk m c 1 t) (iblk m c 2 t) (iblk m c 6 t)) (k0_pay7 (F := Ideal)) (iblk m c 7 t) (ix2 r k))
      (Cert.Reference4Ideal.AttnIn.Qf (HH m c) (m ((c : Thread nD τ).loc main_arg3)) (ix3 (row t r) ⟨k.val / 64, by omega⟩ ⟨k.val % 64, by omega⟩)) := by
  rw [Cert.Reference4Ideal.AttnIn.Qf_col]
  refine (pay_q _ _ _ _ _ _ r k (fun j => ?_) (b6 m c t) (b7 m c t)).trans ?_
  · rw [hb_at m c t r ⟨j.val, by omega⟩ (by simp only; omega)]
    exact HH_real m hyp _ _
  · rw [b3, hb_at m c t r ⟨k.val, by omega⟩ (by simp only; omega)]
    simp only [fun (d : Fin 64) => hb_at m c t r ⟨k.val / 64 * 64 + d.val, by omega⟩ (by simp only; omega)]

theorem pay_k (h : FVec Ideal S512x2304 .f32)
    (gain : FVec Ideal S1x256 .f32) (e : FVec Ideal S256x128 .bf16) (e' : FVec Ideal S128x256 .bf16) (r : Fin 512) (k : Fin 256)
    (hf : ∀ j : Fin 256, IsReal (h (ix2 r ⟨1024 + j.val, by omega⟩)))
    (he : ∀ (d : Fin 256) (j : Fin 128), e (ix2 d j) = (if d.val / 64 = j.val then 1 else 0 : EReal))
    (he' : ∀ (j : Fin 128) (d : Fin 256), e' (ix2 j d) = (if d.val / 64 = j.val then 1 else 0 : EReal)) :
    @Eq EReal (k0_pay12 (F := Ideal) (k0_pay9 h) (k0_pay10 gain) (k0_pay11 h e) e' (ix2 r k))
      (h (ix2 r ⟨1024 + k.val, by omega⟩)
        * segInv (fun d => h (ix2 r ⟨1024 + (k.val / 64 * 64 + d.val), by omega⟩)) * gain (ix2 0 k)) := by
  have hs : ∀ j : Fin 128, @Eq EReal (k0_pay11 (F := Ideal) h e (ix2 r j))
      (Ideal.rsqrt (meanOf (fun k : Fin 256 => h (ix2 r ⟨1024 + k.val, by omega⟩)) (fun k => e (ix2 k j))
        + Ideal.ofBits .f32 0x358637BD#32)) := by
    intro j
    unfold meanOf
    pointwise [k0_pay11, k0_pay9]
  pointwise [k0_pay12, k0_pay10, k0_pay9]
  rw [spread_segInv 4 (by omega) rfl hf he k (fun j => by rw [hs j]) (fun j => he' j k)]

theorem k_at {c : Dev nD} (hyp : Hyp m c) (t : Fin cfg0.N) (r : Fin 512) (k : Fin 256) :
    @Eq EReal (k0_pay12 (F := Ideal) (k0_pay9 (k0_pay3 (iblk m c 0 t) (iblk m c 1 t) (iblk m c 2 t))) (k0_pay10 (iblk m c 4 t))
        (k0_pay11 (k0_pay3 (iblk m c 0 t) (iblk m c 1 t) (iblk m c 2 t)) (iblk m c 8 t)) (iblk m c 9 t) (ix2 r k))
      (Cert.Reference4Ideal.AttnIn.Kf (HH m c) (m ((c : Thread nD τ).loc main_arg4)) (ix3 (row t r) ⟨k.val / 64, by omega⟩ ⟨k.val % 64, by omega⟩)) := by
  rw [Cert.Reference4Ideal.AttnIn.Kf_col]
  refine (pay_k _ _ _ _ r k (fun j => ?_) (b8 m c t) (b9 m c t)).trans ?_
  · rw [hb_at m c t r ⟨1024 + j.val, by omega⟩ (by simp only; omega)]
    exact HH_real m hyp _ _
  · rw [b4, hb_at m c t r ⟨1024 + k.val, by omega⟩ (by simp only; omega)]
    simp only [fun (d : Fin 64) => hb_at m c t r ⟨1024 + (k.val / 64 * 64 + d.val), by omega⟩ (by simp only; omega)]

theorem v_at (c : Dev nD) (t : Fin cfg0.N) (r : Fin 512) (k : Fin 256) :
    @Eq EReal (k0_pay13 (F := Ideal) (k0_pay3 (iblk m c 0 t) (iblk m c 1 t) (iblk m c 2 t)) (ix2 r k))
      (Cert.Reference4Ideal.AttnIn.Vv (HH m c) (ix2 (row t r) k)) := by
  rw [Cert.Reference4Ideal.AttnIn.Vv_at]
  pointwise [k0_pay13]
  rw [hb_at m c t r ⟨1280 + k.val, by omega⟩ (by simp only; omega)]

theorem qi_at (c : Dev nD) (t : Fin cfg0.N) (r : Fin 512) (k : Fin 512) :
    @Eq EReal (k0_pay14 (F := Ideal) (k0_pay3 (iblk m c 0 t) (iblk m c 1 t) (iblk m c 2 t)) (ix2 r k))
      (Cert.Reference4Ideal.AttnIn.Qif (HH m c) (ix2 (row t r) k)) := by
  rw [Cert.Reference4Ideal.AttnIn.Qif_at]
  pointwise [k0_pay14]
  rw [hb_at m c t r ⟨1536 + k.val, by omega⟩ (by simp only; omega)]

theorem wi_at (c : Dev nD) (t : Fin cfg0.N) (r : Fin 512) (k : Fin 8) :
    @Eq EReal (k0_pay16 (F := Ideal) (k0_pay3 (iblk m c 0 t) (iblk m c 1 t) (iblk m c 2 t)) (ix2 r ⟨k.val, by omega⟩))
      (Cert.Reference4Ideal.AttnIn.Wf (HH m c) (ix2 (row t r) k)) := by
  rw [Cert.Reference4Ideal.AttnIn.Wf_at]
  pointwise [k0_pay16]
  rw [hb_idx m c t r ⟨2176 + k.val, by omega⟩ (by simp only; omega) (by simp only; omega)]
  congr 3
  exact Fin.ext (by simp only; omega)

theorem pay_ki (h : FVec Ideal S512x2304 .f32) (gain : FVec Ideal S1x128 .f32) (r : Fin 512) (k : Fin 128)
    (h0 : ∀ j : Fin 128, 64 ≤ j.val → h (ix2 r ⟨2048 + j.val, by omega⟩) = (0 : EReal)) :
    @Eq EReal (k0_pay15 (F := Ideal) h gain (ix2 r k))
      (h (ix2 r ⟨2048 + k.val, by omega⟩) * segInv (fun d => h (ix2 r ⟨2048 + d.val, by omega⟩)) * gain (ix2 0 k)) := by
  pointwise [k0_pay15]
  rw [half_sum _ fun j hj => by rw [h0 j hj, mul_zero]]
  unfold segInv
  rw [ofBits_64, Ideal.div_coe (by norm_num), ← ofBits_inv64]

theorem ki_at (c : Dev nD) (t : Fin cfg0.N) (r : Fin 512) (k : Fin 128) :
    @Eq EReal (k0_pay15 (F := Ideal) (k0_pay3 (iblk m c 0 t) (iblk m c 1 t) (iblk m c 2 t)) (iblk m c 5 t) (ix2 r k))
      (if hk : k.val < 64 then
        Cert.Reference4Ideal.AttnIn.Kif (HH m c) (m ((c : Thread nD τ).loc main_arg5)) (ix2 (row t r) ⟨k.val, hk⟩) else 0) := by
  refine (pay_ki _ _ r k fun j hj => hb_zero m c t r _ (by simp only; omega) (by simp only; omega)).trans ?_
  rw [b5]
  simp only [fun (d : Fin 64) => hb_at m c t r ⟨2048 + d.val, by omega⟩ (by simp only; omega)]
  by_cases hk : k.val < 64
  · rw [dif_pos hk, dif_pos hk, hb_at m c t r ⟨2048 + k.val, by omega⟩ (by simp only; omega), Cert.Reference4Ideal.AttnIn.Kif_at]
  · rw [dif_neg hk, dif_neg hk, mul_zero]

end Cert.Kernel4Ideal.AttnIn

end
-- ==== Proof.AttnTiles4.lean ====
module

public import proofs.«01_k».proof.Proof.Gen.Kernel4Ideal.Value
public import Idealize.ShloMosaic.Lib.Pipeline.ValueKit
public import Idealize.ShloMosaic.Lib.Pipeline.ReadBack

/-! The kernel stores several of its results tile by tile, each tile a transposed piece of one array. Here every such
result is read at an element, as an element of the array it was cut from. -/

@[expose] public section

set_option maxRecDepth 16384

noncomputable section

namespace Cert.Kernel4Ideal.AttnIn

open Cert.Kernel4Ideal Cert.Kernel4Ideal.Gen Idealize.ShloMosaic Idealize.ShloMosaic.TcCoe Idealize.SL.Sem

theorem wt_tiles (x0 : Vec Ideal S512x1024 .f32) (x1 : Vec Ideal S1x1024 .f32) (x2 : Vec Ideal S1024x2304 .bf16) (x3 : Vec Ideal S1x1024 .f32) (x4 : Vec Ideal S1x256 .f32)
    (x5 : Vec Ideal S1x128 .f32) (x6 : Vec Ideal S1024x128 .bf16) (x7 : Vec Ideal S128x1024 .bf16) (x8 : Vec Ideal S256x128 .bf16) (x9 : Vec Ideal S128x256 .bf16)
    (p : Fin 4) (n : Fin 8) (l : Fin 128) :
    @Eq EReal (out0_15 (F := Ideal) x0 x1 x2 x3 x4 x5 x6 x7 x8 x9 (ix3 p n l))
      (k0_pay219 (F := Ideal) x0 x1 x2 x3 x4 x5 x6 x7 x8 x9 (ix2 ⟨p.val * 128 + l.val, by omega⟩ ⟨n.val, by omega⟩)) := by
  have e0 : (ix3 p n l 0).val = p.val := rfl
  have e1 : (ix3 p n l 1).val = n.val := rfl
  have e2 : (ix3 p n l 2).val = l.val := rfl
  unfold out0_15
  canon_tiles x h
  all_goals (open_payloads; pointwise; blk_ext)

theorem kg_tiles (x0 : Vec Ideal S512x1024 .f32) (x1 : Vec Ideal S1x1024 .f32) (x2 : Vec Ideal S1024x2304 .bf16) (x3 : Vec Ideal S1x1024 .f32) (x4 : Vec Ideal S1x256 .f32)
    (x5 : Vec Ideal S1x128 .f32) (x6 : Vec Ideal S1024x128 .bf16) (x7 : Vec Ideal S128x1024 .bf16) (x8 : Vec Ideal S256x128 .bf16) (x9 : Vec Ideal S128x256 .bf16)
    (n : Fin 4) (r : Fin 512) (d : Fin 64) :
    @Eq EReal (out0_16 (F := Ideal) x0 x1 x2 x3 x4 x5 x6 x7 x8 x9 (ix3 n r d))
      (k0_pay215 (F := Ideal) x0 x1 x2 x3 x4 x5 x6 x7 x8 x9 (ix2 r ⟨n.val * 64 + d.val, by omega⟩)) := by
  have e0 : (ix3 n r d 0).val = n.val := rfl
  have e1 : (ix3 n r d 1).val = r.val := rfl
  have e2 : (ix3 n r d 2).val = d.val := rfl
  unfold out0_16
  canon_tiles x h
  all_goals (open_payloads; pointwise; blk_ext)

theorem qit_tiles (x0 : Vec Ideal S512x1024 .f32) (x1 : Vec Ideal S1x1024 .f32) (x2 : Vec Ideal S1024x2304 .bf16) (x3 : Vec Ideal S1x1024 .f32) (x4 : Vec Ideal S1x256 .f32)
    (x5 : Vec Ideal S1x128 .f32) (x6 : Vec Ideal S1024x128 .bf16) (x7 : Vec Ideal S128x1024 .bf16) (x8 : Vec Ideal S256x128 .bf16) (x9 : Vec Ideal S128x256 .bf16)
    (p : Fin 4) (d : Fin 64) (l : Fin 1024) :
    @Eq EReal (out0_14 (F := Ideal) x0 x1 x2 x3 x4 x5 x6 x7 x8 x9 (ix3 p d l))
      (k0_pay217 (F := Ideal) x0 x1 x2 x3 x4 x5 x6 x7 x8 x9 (ix2 ⟨p.val * 128 + l.val % 128, by omega⟩ ⟨l.val / 128 * 64 + d.val, by omega⟩)) := by
  have e0 : (ix3 p d l 0).val = p.val := rfl
  have e1 : (ix3 p d l 1).val = d.val := rfl
  have e2 : (ix3 p d l 2).val = l.val := rfl
  unfold out0_14
  canon_tiles x h
  all_goals (open_payloads; pointwise; blk_ext)

theorem vt_tiles (x0 : Vec Ideal S512x1024 .f32) (x1 : Vec Ideal S1x1024 .f32) (x2 : Vec Ideal S1024x2304 .bf16) (x3 : Vec Ideal S1x1024 .f32) (x4 : Vec Ideal S1x256 .f32)
    (x5 : Vec Ideal S1x128 .f32) (x6 : Vec Ideal S1024x128 .bf16) (x7 : Vec Ideal S128x1024 .bf16) (x8 : Vec Ideal S256x128 .bf16) (x9 : Vec Ideal S128x256 .bf16)
    (p : Fin 4) (n : Fin 4) (d : Fin 80) (l : Fin 128) :
    @Eq EReal (out0_17 (F := Ideal) x0 x1 x2 x3 x4 x5 x6 x7 x8 x9 (ix4 p n d l))
      (if hd : d.val < 64 then k0_pay216 (F := Ideal) x0 x1 x2 x3 x4 x5 x6 x7 x8 x9 (ix2 ⟨p.val * 128 + l.val, by omega⟩ ⟨n.val * 64 + d.val, by omega⟩)
        else k0_pay22 (F := Ideal) (ix2 ⟨d.val - 64, by omega⟩ l)) := by
  have e0 : (ix4 p n d l 0).val = p.val := rfl
  have e1 : (ix4 p n d l 1).val = n.val := rfl
  have e2 : (ix4 p n d l 2).val = d.val := rfl
  have e3 : (ix4 p n d l 3).val = l.val := rfl
  unfold out0_17
  canon_tiles x h
  all_goals (open_payloads; pointwise; by_cases hd : d.val < 64 <;> [(rw [dif_pos (by omega), dif_pos hd]; blk_ext); (rw [dif_neg (by omega), dif_neg hd]; blk_ext)])

set_option maxHeartbeats 8000000 in
theorem qt_tiles (x0 : Vec Ideal S512x1024 .f32) (x1 : Vec Ideal S1x1024 .f32) (x2 : Vec Ideal S1024x2304 .bf16) (x3 : Vec Ideal S1x1024 .f32) (x4 : Vec Ideal S1x256 .f32)
    (x5 : Vec Ideal S1x128 .f32) (x6 : Vec Ideal S1024x128 .bf16) (x7 : Vec Ideal S128x1024 .bf16) (x8 : Vec Ideal S256x128 .bf16) (x9 : Vec Ideal S128x256 .bf16)
    (p : Fin 4) (n : Fin 4) (d : Fin 64) (l : Fin 512) :
    @Eq EReal (out0_13 (F := Ideal) x0 x1 x2 x3 x4 x5 x6 x7 x8 x9 (ix4 p n d l))
      (k0_pay211 (F := Ideal) x0 x1 x2 x3 x4 x5 x6 x7 x8 x9 (ix2 ⟨p.val * 128 + l.val % 128, by omega⟩ ⟨(n.val * 4 + l.val / 128) * 64 + d.val, by omega⟩)) := by
  have e0 : (ix4 p n d l 0).val = p.val := rfl
  have e1 : (ix4 p n d l 1).val = n.val := rfl
  have e2 : (ix4 p n d l 2).val = d.val := rfl
  have e3 : (ix4 p n d l 3).val = l.val := rfl
  unfold out0_13
  canon_tiles x h
  all_goals (open_payloads; pointwise; blk_ext)

end Cert.Kernel4Ideal.AttnIn

end
-- ==== Proof.AttnClaim4.lean ====
module

public import proofs.«01_k».proof.Defs
public import proofs.«01_k».proof.Proof.AttnIn4
public import proofs.«01_k».proof.Proof.AttnTiles4

/-! The input projections of attention: every result array of the kernel is the reference's. -/

@[expose] public section

set_option maxRecDepth 16384

noncomputable section

/-- The shape facts that the precondition states. -/
theorem Cert.Pre_finite4.facts : Cert.Pre_finite4.Facts := ⟨by decide, by decide⟩

namespace Cert.Kernel4Ideal.AttnIn

open Cert.Kernel4Ideal Cert.Kernel4Ideal.Gen Idealize.ShloMosaic Idealize.ShloMosaic.TcCoe Idealize.SL.Sem
open Idealize.ShloMosaic.Pipeline (Dat)
open Cert.Reals

variable (m : (ℓ : Loc nD τ sig) → Buf (Elt Ideal) ℓ)

/-- The precondition says that the gain and the weights hold real numbers. -/
theorem hyp_of_pre (h : Cert.Pre_Kernel4Ideal_finite4 (hPre_finite4 := Cert.Pre_finite4.facts) m) (c : Dev nD) : Hyp m c := by
  obtain ⟨h1, h2⟩ := h c
  constructor
  · intro d
    have e := congrFun h1 (ix1 d)
    revert e
    pointwise [Cert.Pre_finite4.fn]
    exact isReal_of_word
  · intro d j
    have e := congrFun h2 (ix2 d j)
    revert e
    pointwise [Cert.Pre_finite4.fn]
    exact isReal_of_word

/-- The rows that follow the transposed values: a row of ones, then zeros. -/
theorem ones_at (j : Fin 16) (l : Fin 128) (d : Fin 80) (hd : d.val = 64 + j.val) :
    @Eq EReal (k0_pay22 (F := Ideal) (ix2 j l))
      (if d.val = 64 then Ideal.ofBits .f32 0x3F800000#32 else Ideal.ofBits .f32 0x00000000#32) := by
  pointwise [k0_pay22]
  by_cases e : j.val = 0
  · rw [if_pos (by omega), e]
    simp [IntOp.cmpi, FloatOps.sitofp]
  · have h : BitVec.ofNat 32 j.val ≠ 0#32 := by
      intro h
      have := congrArg BitVec.toNat h
      simp only [BitVec.toNat_ofNat] at this
      omega
    rw [if_neg (by omega)]
    have hb : (BitVec.ofNat 32 j.val == 0#32) = false := beq_eq_false_iff_ne.mpr h
    simp [IntOp.cmpi, FloatOps.sitofp, hb]

theorem final10 {c : Dev nD} (hyp : Hyp m c) : (dats m 0 c).arrAt 10 cfg0.N
    = Cert.Reference4Ideal.AttnIn.K (HH m c) (m ((c : Thread nD τ).loc main_arg4)) := by
  refine (dats m 0 c).arrAt_eq_of_covers 10 _ (by decide +kernel) fun t _ y => ?_
  have ht : t.val < 66 := t.isLt
  blk_simp
  rw [after0_10]
  idx_vars y
  refine Eq.trans (b := Cert.Reference4Ideal.AttnIn.K (HH m c) (m ((c : Thread nD τ).loc main_arg4)) (ix2 (row t y0) y1)) ?_ (by unfold row; blk_ext [idx t])
  rw [Cert.Reference4Ideal.AttnIn.K_at]
  unfold_out out0_10
  frame_out
  exact k_at m hyp t _ _

theorem final11 (c : Dev nD) : (dats m 0 c).arrAt 11 cfg0.N
    = Cert.Reference4Ideal.AttnIn.Vv (HH m c) := by
  refine (dats m 0 c).arrAt_eq_of_covers 11 _ (by decide +kernel) fun t _ y => ?_
  have ht : t.val < 66 := t.isLt
  blk_simp
  rw [after0_11]
  idx_vars y
  refine Eq.trans (b := Cert.Reference4Ideal.AttnIn.Vv (HH m c) (ix2 (row t y0) y1)) ?_ (by unfold row; blk_ext [idx t])
  unfold_out out0_11
  frame_out
  exact v_at m c t _ _

theorem final12 (c : Dev nD) : (dats m 0 c).arrAt 12 cfg0.N
    = Cert.Reference4Ideal.AttnIn.Ki (HH m c) (m ((c : Thread nD τ).loc main_arg5)) := by
  refine (dats m 0 c).arrAt_eq_of_covers 12 _ (by decide +kernel) fun t _ y => ?_
  have ht : t.val < 66 := t.isLt
  blk_simp
  rw [after0_12]
  idx_vars y
  refine Eq.trans (b := Cert.Reference4Ideal.AttnIn.Ki (HH m c) (m ((c : Thread nD τ).loc main_arg5)) (ix2 (row t y0) y1)) ?_ (by unfold row; blk_ext [idx t])
  rw [Cert.Reference4Ideal.AttnIn.Ki_at]
  unfold_out out0_12
  frame_out
  exact ki_at m c t _ _

theorem final13 {c : Dev nD} (hyp : Hyp m c) : (dats m 0 c).arrAt 13 cfg0.N
    = Cert.Reference4Ideal.AttnIn.Qt (HH m c) (m ((c : Thread nD τ).loc main_arg3)) := by
  refine (dats m 0 c).arrAt_eq_of_covers 13 _ (by decide +kernel) fun t _ y => ?_
  have ht : t.val < 66 := t.isLt
  blk_simp
  rw [after0_13]
  idx_vars y
  refine Eq.trans (b := Cert.Reference4Ideal.AttnIn.Qt (HH m c) (m ((c : Thread nD τ).loc main_arg3)) (ix4 ⟨t.val * 4 + y0.val, by omega⟩ y1 y2 y3)) ?_ (by blk_ext [idx t])
  rw [Cert.Reference4Ideal.AttnIn.Qt_at]
  refine (qt_tiles _ _ _ _ _ _ _ _ _ _ y0 y1 y2 y3).trans ?_
  unfold k0_pay211
  frame_out
  refine (q_at m hyp t _ _).trans ?_
  unfold row
  blk_ext

theorem final14 (c : Dev nD) : (dats m 0 c).arrAt 14 cfg0.N
    = Cert.Reference4Ideal.AttnIn.Qit (HH m c) := by
  refine (dats m 0 c).arrAt_eq_of_covers 14 _ (by decide +kernel) fun t _ y => ?_
  have ht : t.val < 66 := t.isLt
  blk_simp
  rw [after0_14]
  idx_vars y
  refine Eq.trans (b := Cert.Reference4Ideal.AttnIn.Qit (HH m c) (ix3 ⟨t.val * 4 + y0.val, by omega⟩ y1 y2)) ?_ (by blk_ext [idx t])
  rw [Cert.Reference4Ideal.AttnIn.Qit_at]
  refine (qit_tiles _ _ _ _ _ _ _ _ _ _ y0 y1 y2).trans ?_
  unfold k0_pay217 k0_pay210
  frame_out
  refine (qi_at m c t _ _).trans ?_
  unfold row
  blk_ext

theorem final15 (c : Dev nD) : (dats m 0 c).arrAt 15 cfg0.N
    = Cert.Reference4Ideal.AttnIn.Wt (HH m c) := by
  refine (dats m 0 c).arrAt_eq_of_covers 15 _ (by decide +kernel) fun t _ y => ?_
  have ht : t.val < 66 := t.isLt
  blk_simp
  rw [after0_15]
  idx_vars y
  refine Eq.trans (b := Cert.Reference4Ideal.AttnIn.Wt (HH m c) (ix3 ⟨t.val * 4 + y0.val, by omega⟩ y1 y2)) ?_ (by blk_ext [idx t])
  rw [Cert.Reference4Ideal.AttnIn.Wt_at]
  refine (wt_tiles _ _ _ _ _ _ _ _ _ _ y0 y1 y2).trans ?_
  unfold k0_pay219 k0_pay210
  frame_out
  refine (wi_at m c t _ y1).trans ?_
  unfold row
  blk_ext

theorem final16 {c : Dev nD} (hyp : Hyp m c) : (dats m 0 c).arrAt 16 cfg0.N
    = Cert.Reference4Ideal.AttnIn.Kg (HH m c) (m ((c : Thread nD τ).loc main_arg4)) := by
  refine (dats m 0 c).arrAt_eq_of_covers 16 _ (by decide +kernel) fun t _ y => ?_
  have ht : t.val < 66 := t.isLt
  blk_simp
  rw [after0_16]
  idx_vars y
  refine Eq.trans (b := Cert.Reference4Ideal.AttnIn.Kg (HH m c) (m ((c : Thread nD τ).loc main_arg4)) (ix3 y0 (row t y1) y2)) ?_ (by unfold row; blk_ext [idx t])
  rw [Cert.Reference4Ideal.AttnIn.Kg_at]
  refine (kg_tiles _ _ _ _ _ _ _ _ _ _ y0 y1 y2).trans ?_
  unfold k0_pay215 k0_pay212 k0_pay213 k0_pay214 k0_pay210
  frame_out
  refine (k_at m hyp t _ _).trans ?_
  unfold row
  blk_ext

theorem final17 (c : Dev nD) : (dats m 0 c).arrAt 17 cfg0.N
    = Cert.Reference4Ideal.AttnIn.Vt (HH m c) := by
  refine (dats m 0 c).arrAt_eq_of_covers 17 _ (by decide +kernel) fun t _ y => ?_
  have ht : t.val < 66 := t.isLt
  blk_simp
  rw [after0_17]
  idx_vars y
  refine Eq.trans (b := Cert.Reference4Ideal.AttnIn.Vt (HH m c) (ix4 ⟨t.val * 4 + y0.val, by omega⟩ y1 y2 y3)) ?_ (by blk_ext [idx t])
  rw [Cert.Reference4Ideal.AttnIn.Vt_at]
  refine (vt_tiles _ _ _ _ _ _ _ _ _ _ y0 y1 y2 y3).trans ?_
  by_cases hd : y2.val < 64
  · rw [dif_pos hd, dif_pos hd]
    unfold k0_pay216 k0_pay210
    frame_out
    refine (v_at m c t _ _).trans ?_
    rw [Cert.Reference4Ideal.AttnIn.Vv_at]
    unfold row
    blk_ext
  · rw [dif_neg hd, dif_neg hd]
    exact ones_at ⟨y2.val - 64, by omega⟩ y3 y2 (by simp only; omega)

theorem final18 (c : Dev nD) : (dats m 0 c).arrAt 18 cfg0.N
    = Cert.Reference4Ideal.AttnIn.Kib (HH m c) (m ((c : Thread nD τ).loc main_arg5)) := by
  refine (dats m 0 c).arrAt_eq_of_covers 18 _ (by decide +kernel) fun t _ y => ?_
  have ht : t.val < 66 := t.isLt
  blk_simp
  rw [after0_18]
  idx_vars y
  refine Eq.trans (b := Cert.Reference4Ideal.AttnIn.Kib (HH m c) (m ((c : Thread nD τ).loc main_arg5)) (ix2 (row t y0) y1)) ?_ (by unfold row; blk_ext [idx t])
  rw [Cert.Reference4Ideal.AttnIn.Kib_at]
  unfold_out out0_18
  frame_out
  pointwise [k0_pay17]
  refine (ki_at m c t y0 ⟨y1.val, by omega⟩).trans ?_
  rw [dif_pos (by simp only; omega)]

set_option maxHeartbeats 4000000 in
/-- The kernel and its reference leave the same 9 arrays, and neither changes its arguments. -/
theorem algebraic : Cert.algebraic_Kernel4Ideal_Reference4Ideal_pre_finite4 (hKernel4Ideal := Cert.Kernel4Ideal.Gen.facts)
    (hReference4Ideal := Cert.Reference4Ideal.Gen.facts) (hPre_finite4 := Cert.Pre_finite4.facts) := by
  intro m g m' g' hp hargs
  refine ⟨fun c => (Cert.Kernel4Ideal.Gen.dats m 0 c).arrAt 10 Cert.Kernel4Ideal.cfg0.N,
    fun c => (Cert.Kernel4Ideal.Gen.dats m 0 c).arrAt 11 Cert.Kernel4Ideal.cfg0.N,
    fun c => (Cert.Kernel4Ideal.Gen.dats m 0 c).arrAt 12 Cert.Kernel4Ideal.cfg0.N,
    fun c => (Cert.Kernel4Ideal.Gen.dats m 0 c).arrAt 13 Cert.Kernel4Ideal.cfg0.N,
    fun c => (Cert.Kernel4Ideal.Gen.dats m 0 c).arrAt 14 Cert.Kernel4Ideal.cfg0.N,
    fun c => (Cert.Kernel4Ideal.Gen.dats m 0 c).arrAt 15 Cert.Kernel4Ideal.cfg0.N,
    fun c => (Cert.Kernel4Ideal.Gen.dats m 0 c).arrAt 16 Cert.Kernel4Ideal.cfg0.N,
    fun c => (Cert.Kernel4Ideal.Gen.dats m 0 c).arrAt 17 Cert.Kernel4Ideal.cfg0.N,
    fun c => (Cert.Kernel4Ideal.Gen.dats m 0 c).arrAt 18 Cert.Kernel4Ideal.cfg0.N,
    Cert.Kernel4Ideal.Value.run_blocks m g, ?_⟩
  refine (θ_run _ _ _).mono (fun r h c => ⟨?_, ?_, ?_, ?_, ?_, ?_, ?_, ?_, ?_, (h c).2.2.2.2.2.2.2.2.2⟩) (Cert.Reference4Ideal.Value.run m' g')
  all_goals obtain ⟨h0, h1, h2, h3, h4, h5⟩ := hargs c
  · refine (h c).1.trans (Eq.trans ?_ (final10 m (hyp_of_pre m hp c)).symm)
    refine Eq.trans (b := Cert.Reference4Ideal.AttnIn.K (Cert.Reference4Ideal.AttnIn.H (m' ((c : Thread Cert.Reference4Ideal.nD Cert.Reference4Ideal.τ).loc Cert.Reference4Ideal.main_arg0)) (m' ((c : Thread Cert.Reference4Ideal.nD Cert.Reference4Ideal.τ).loc Cert.Reference4Ideal.main_arg1))
      (m' ((c : Thread Cert.Reference4Ideal.nD Cert.Reference4Ideal.τ).loc Cert.Reference4Ideal.main_arg2))) (m' ((c : Thread Cert.Reference4Ideal.nD Cert.Reference4Ideal.τ).loc Cert.Reference4Ideal.main_arg4))) rfl ?_
    rw [h0, h1, h2, h4]
    rfl
  · refine (h c).2.1.trans (Eq.trans ?_ (final11 m c).symm)
    refine Eq.trans (b := Cert.Reference4Ideal.AttnIn.Vv (Cert.Reference4Ideal.AttnIn.H (m' ((c : Thread Cert.Reference4Ideal.nD Cert.Reference4Ideal.τ).loc Cert.Reference4Ideal.main_arg0)) (m' ((c : Thread Cert.Reference4Ideal.nD Cert.Reference4Ideal.τ).loc Cert.Reference4Ideal.main_arg1))
      (m' ((c : Thread Cert.Reference4Ideal.nD Cert.Reference4Ideal.τ).loc Cert.Reference4Ideal.main_arg2)))) rfl ?_
    rw [h0, h1, h2]
    rfl
  · refine (h c).2.2.1.trans (Eq.trans ?_ (final12 m c).symm)
    refine Eq.trans (b := Cert.Reference4Ideal.AttnIn.Ki (Cert.Reference4Ideal.AttnIn.H (m' ((c : Thread Cert.Reference4Ideal.nD Cert.Reference4Ideal.τ).loc Cert.Reference4Ideal.main_arg0)) (m' ((c : Thread Cert.Reference4Ideal.nD Cert.Reference4Ideal.τ).loc Cert.Reference4Ideal.main_arg1))
      (m' ((c : Thread Cert.Reference4Ideal.nD Cert.Reference4Ideal.τ).loc Cert.Reference4Ideal.main_arg2))) (m' ((c : Thread Cert.Reference4Ideal.nD Cert.Reference4Ideal.τ).loc Cert.Reference4Ideal.main_arg5))) rfl ?_
    rw [h0, h1, h2, h5]
    rfl
  · refine (h c).2.2.2.1.trans (Eq.trans ?_ (final13 m (hyp_of_pre m hp c)).symm)
    refine Eq.trans (b := Cert.Reference4Ideal.AttnIn.Qt (Cert.Reference4Ideal.AttnIn.H (m' ((c : Thread Cert.Reference4Ideal.nD Cert.Reference4Ideal.τ).loc Cert.Reference4Ideal.main_arg0)) (m' ((c : Thread Cert.Reference4Ideal.nD Cert.Reference4Ideal.τ).loc Cert.Reference4Ideal.main_arg1))
      (m' ((c : Thread Cert.Reference4Ideal.nD Cert.Reference4Ideal.τ).loc Cert.Reference4Ideal.main_arg2))) (m' ((c : Thread Cert.Reference4Ideal.nD Cert.Reference4Ideal.τ).loc Cert.Reference4Ideal.main_arg3))) rfl ?_
    rw [h0, h1, h2, h3]
    rfl
  · refine (h c).2.2.2.2.1.trans (Eq.trans ?_ (final14 m c).symm)
    refine Eq.trans (b := Cert.Reference4Ideal.AttnIn.Qit (Cert.Reference4Ideal.AttnIn.H (m' ((c : Thread Cert.Reference4Ideal.nD Cert.Reference4Ideal.τ).loc Cert.Reference4Ideal.main_arg0)) (m' ((c : Thread Cert.Reference4Ideal.nD Cert.Reference4Ideal.τ).loc Cert.Reference4Ideal.main_arg1))
      (m' ((c : Thread Cert.Reference4Ideal.nD Cert.Reference4Ideal.τ).loc Cert.Reference4Ideal.main_arg2)))) rfl ?_
    rw [h0, h1, h2]
    rfl
  · refine (h c).2.2.2.2.2.1.trans (Eq.trans ?_ (final15 m c).symm)
    refine Eq.trans (b := Cert.Reference4Ideal.AttnIn.Wt (Cert.Reference4Ideal.AttnIn.H (m' ((c : Thread Cert.Reference4Ideal.nD Cert.Reference4Ideal.τ).loc Cert.Reference4Ideal.main_arg0)) (m' ((c : Thread Cert.Reference4Ideal.nD Cert.Reference4Ideal.τ).loc Cert.Reference4Ideal.main_arg1))
      (m' ((c : Thread Cert.Reference4Ideal.nD Cert.Reference4Ideal.τ).loc Cert.Reference4Ideal.main_arg2)))) rfl ?_
    rw [h0, h1, h2]
    rfl
  · refine (h c).2.2.2.2.2.2.1.trans (Eq.trans ?_ (final16 m (hyp_of_pre m hp c)).symm)
    refine Eq.trans (b := Cert.Reference4Ideal.AttnIn.Kg (Cert.Reference4Ideal.AttnIn.H (m' ((c : Thread Cert.Reference4Ideal.nD Cert.Reference4Ideal.τ).loc Cert.Reference4Ideal.main_arg0)) (m' ((c : Thread Cert.Reference4Ideal.nD Cert.Reference4Ideal.τ).loc Cert.Reference4Ideal.main_arg1))
      (m' ((c : Thread Cert.Reference4Ideal.nD Cert.Reference4Ideal.τ).loc Cert.Reference4Ideal.main_arg2))) (m' ((c : Thread Cert.Reference4Ideal.nD Cert.Reference4Ideal.τ).loc Cert.Reference4Ideal.main_arg4))) rfl ?_
    rw [h0, h1, h2, h4]
    rfl
  · refine (h c).2.2.2.2.2.2.2.1.trans (Eq.trans ?_ (final17 m c).symm)
    refine Eq.trans (b := Cert.Reference4Ideal.AttnIn.Vt (Cert.Reference4Ideal.AttnIn.H (m' ((c : Thread Cert.Reference4Ideal.nD Cert.Reference4Ideal.τ).loc Cert.Reference4Ideal.main_arg0)) (m' ((c : Thread Cert.Reference4Ideal.nD Cert.Reference4Ideal.τ).loc Cert.Reference4Ideal.main_arg1))
      (m' ((c : Thread Cert.Reference4Ideal.nD Cert.Reference4Ideal.τ).loc Cert.Reference4Ideal.main_arg2)))) rfl ?_
    rw [h0, h1, h2]
    rfl
  · refine (h c).2.2.2.2.2.2.2.2.1.trans (Eq.trans ?_ (final18 m c).symm)
    refine Eq.trans (b := Cert.Reference4Ideal.AttnIn.Kib (Cert.Reference4Ideal.AttnIn.H (m' ((c : Thread Cert.Reference4Ideal.nD Cert.Reference4Ideal.τ).loc Cert.Reference4Ideal.main_arg0)) (m' ((c : Thread Cert.Reference4Ideal.nD Cert.Reference4Ideal.τ).loc Cert.Reference4Ideal.main_arg1))
      (m' ((c : Thread Cert.Reference4Ideal.nD Cert.Reference4Ideal.τ).loc Cert.Reference4Ideal.main_arg2))) (m' ((c : Thread Cert.Reference4Ideal.nD Cert.Reference4Ideal.τ).loc Cert.Reference4Ideal.main_arg5))) rfl ?_
    rw [h0, h1, h2, h5]
    rfl

end Cert.Kernel4Ideal.AttnIn

end
-- ==== Proof.SampleRow.lean ====
module

public import proofs.«01_k».proof.Proof.AttnRow

/-! The scalar functions of the state-space step, over the extended reals: the gated unit, the step size, the
convolution of four numbers, and the kernel's sums against a column of ones. -/

@[expose] public section

noncomputable section

namespace Cert.SampleRow

open Idealize.ShloMosaic Cert.Reals

theorem ofBits_one : Ideal.ofBits .f32 0x3F800000#32 = 1 := by
  simp [Ideal.ofBits, Ideal.ieee, -EReal.coe_mul]
  norm_num

theorem ofBits_one_bf16 : Ideal.ofBits .bf16 0x3F80#16 = 1 := by
  simp [Ideal.ofBits, Ideal.ieee, -EReal.coe_mul]
  norm_num

/-- A number times its logistic. -/
def silu (u : EReal) : EReal := u * Ideal.div 1 (1 + Ideal.exp (-u))

/-- The logarithm of one plus the exponential, as both programs take it. -/
def soft (t : EReal) : EReal := max t 0 + Ideal.log (1 + Ideal.exp (-max t (-t)))

/-- Four numbers against four weights, and a bias. -/
def conv (k w : Fin 4 → EReal) (b : EReal) : EReal := k 0 * w 0 + k 1 * w 1 + k 2 * w 2 + k 3 * w 3 + b

theorem silu_real {u : EReal} (hu : IsReal u) : IsReal (silu u) := by
  obtain ⟨a, rfl⟩ := hu
  unfold silu
  have h : (1 : EReal) + Ideal.exp (-(a : EReal)) = ((1 + Real.exp (-a) : ℝ) : EReal) := by
    rw [← EReal.coe_neg, Ideal.exp_coe, EReal.coe_add, EReal.coe_one]
  rw [h, Ideal.div_coe (by positivity)]
  exact (IsReal.coe a).mul (IsReal.one.mul (IsReal.coe _))

theorem soft_real {t : EReal} (ht : IsReal t) : IsReal (soft t) := by
  obtain ⟨a, rfl⟩ := ht
  unfold soft
  have h0 : max (a : EReal) 0 = ((max a 0 : ℝ) : EReal) := by
    rw [← EReal.coe_zero]; exact (EReal.coe_strictMono.monotone.map_max).symm
  have h1 : max (a : EReal) (-(a : EReal)) = ((max a (-a) : ℝ) : EReal) := by
    rw [← EReal.coe_neg]; exact (EReal.coe_strictMono.monotone.map_max).symm
  have h2 : (1 : EReal) + Ideal.exp (-((max a (-a) : ℝ) : EReal)) = ((1 + Real.exp (-(max a (-a))) : ℝ) : EReal) := by
    rw [← EReal.coe_neg, Ideal.exp_coe, EReal.coe_add, EReal.coe_one]
  rw [h0, h1, h2, Ideal.log_coe, if_neg (not_le.mpr (by positivity))]
  exact (IsReal.coe _).add (IsReal.coe _)

theorem conv_real {k w : Fin 4 → EReal} {b : EReal} (hk : ∀ i, IsReal (k i)) (hw : ∀ i, IsReal (w i)) (hb : IsReal b) :
    IsReal (conv k w b) :=
  (((((hk 0).mul (hw 0)).add ((hk 1).mul (hw 1))).add ((hk 2).mul (hw 2))).add ((hk 3).mul (hw 3))).add hb

/-- The kernel starts from the bias and the newest number; the sum is the same. -/
theorem conv_eq (k w : Fin 4 → EReal) (b : EReal) :
    b + w 3 * k 3 + w 0 * k 0 + w 1 * k 1 + w 2 * k 2 = conv k w b := by
  unfold conv
  rw [mul_comm (w 3), mul_comm (w 0), mul_comm (w 1), mul_comm (w 2)]
  ac_rfl

/-- A number followed by seven zeros, split in three and summed against ones, is the number. -/
theorem pad_col {t e : Fin 8 → EReal} {a : EReal} (ha : IsReal a) (ht : ∀ k, t k = if k.val = 0 then a else 0)
    (he : ∀ k, e k = 1) :
    ∑ k, t k * e k + ∑ k, (t k - t k) * e k + ∑ k, (t k - t k - (t k - t k)) * e k = a := by
  rw [split_sum t e fun k => by rw [ht k]; split_ifs; exacts [ha, IsReal.zero]]
  simp only [ht, he, mul_one]
  rw [Finset.sum_eq_single (0 : Fin 8)]
  · simp
  · intro i _ hi
    rw [if_neg]
    exact fun e => hi (Fin.ext e)
  · exact fun h => absurd (Finset.mem_univ _) h

end Cert.SampleRow

end
-- ==== Proof.SampleBlocks.lean ====
module

public import proofs.«01_k».proof.Proof.Gen.KernelIdeal.Value
public import proofs.«01_k».proof.Proof.SampleRow
public import proofs.«01_k».proof.Proof.Segments
public import Idealize.ShloMosaic.Lib.Pipeline.ValueKit
public import Idealize.ShloMosaic.Lib.Pipeline.ReadBack

/-! The blocks that the state-space step reads at a grid point, element by element, as entries of the arguments. -/

@[expose] public section

set_option maxRecDepth 16384

noncomputable section

namespace Cert.KernelIdeal.Sample

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

/-- Which block of its array each window stages at a grid point. -/
theorem idx : ∀ t : Fin cfg0.N, win0_0.index t = ![t.val, 0, 0] ∧ win0_1.index t = ![t.val, 0, 0] ∧ win0_2.index t = ![t.val, 0, 0]
    ∧ win0_3.index t = ![t.val, 0, 0] ∧ win0_4.index t = ![t.val, 0, 0, 0] ∧ win0_5.index t = ![0, 0] ∧ win0_6.index t = ![0, 0]
    ∧ win0_7.index t = ![0, 0] ∧ win0_8.index t = ![0, 0] ∧ win0_9.index t = ![0, 0] ∧ win0_10.index t = ![0, 0]
    ∧ win0_11.index t = ![0, 0] ∧ win0_12.index t = ![t.val, 0, 0] ∧ win0_13.index t = ![t.val, 0, 0, 0] :=
  (by decide +kernel : ∀ t : Fin grid0.N, _)

/-- The sample that a grid point handles. -/
def row (t : Fin cfg0.N) : Fin 32 := ⟨t.val, t.isLt⟩

theorem V_x (c : Dev nD) (b : Fin 32) (z : Fin 1) (j : Fin 3072) :
    @Eq EReal ((V m c main_v13 : FVec Ideal S32x1x3072 .f32) (ix3 b z j)) ((m ((c : Thread nD τ).loc main_arg1) : FVec Ideal S32x3072 .f32) (ix2 b j)) := by
  simp only [V, List.flatten, List.append, hostOps0, hostOps0_1, hostOps0_2, hostOps0_3, hostOps0_4, hostOps0_5,
    hostOps0_6, hostOps0_7, hostOps0_8, hostOps0_9, hostOps0_10]
  after_results
  simp only [StableHlo.TRef.ofBuf_toBuf, StableHlo.TRef.ofBuf, StableHlo.TRef.toBuf, StableHlo.TRef.of, id, cast_eq]
  pointwise []

theorem V_dt (c : Dev nD) (b : Fin 32) (z : Fin 1) (k : Fin 128) :
    @Eq EReal ((V m c main_v14 : FVec Ideal S32x1x128 .f32) (ix3 b z k))
      (if h : k.val < 32 then (m ((c : Thread nD τ).loc main_arg2) : FVec Ideal S32x32 .f32) (ix2 b ⟨k.val, h⟩) else 0) := by
  simp only [V, List.flatten, List.append, hostOps0, hostOps0_1, hostOps0_2, hostOps0_3, hostOps0_4, hostOps0_5,
    hostOps0_6, hostOps0_7, hostOps0_8, hostOps0_9, hostOps0_10]
  after_results
  simp only [StableHlo.TRef.ofBuf_toBuf, StableHlo.TRef.ofBuf, StableHlo.TRef.toBuf, StableHlo.TRef.of, id, cast_eq]
  pointwise []
  simp [FloatOps.sitofp]

theorem V_cb (c : Dev nD) (z : Fin 1) (j : Fin 3072) :
    @Eq EReal ((V m c main_v15 : FVec Ideal S1x3072 .f32) (ix2 z j)) ((m ((c : Thread nD τ).loc main_arg6) : FVec Ideal S3072 .f32) (ix1 j)) := by
  simp only [V, List.flatten, List.append, hostOps0, hostOps0_1, hostOps0_2, hostOps0_3, hostOps0_4, hostOps0_5,
    hostOps0_6, hostOps0_7, hostOps0_8, hostOps0_9, hostOps0_10]
  after_results
  simp only [StableHlo.TRef.ofBuf_toBuf, StableHlo.TRef.ofBuf, StableHlo.TRef.toBuf, StableHlo.TRef.of, id, cast_eq]
  pointwise []

theorem V_db (c : Dev nD) (z : Fin 1) (k : Fin 128) :
    @Eq EReal ((V m c main_v17 : FVec Ideal S1x128 .f32) (ix2 z k))
      (if h : k.val < 32 then (m ((c : Thread nD τ).loc main_arg7) : FVec Ideal S32 .f32) (ix1 ⟨k.val, h⟩) else 0) := by
  simp only [V, List.flatten, List.append, hostOps0, hostOps0_1, hostOps0_2, hostOps0_3, hostOps0_4, hostOps0_5,
    hostOps0_6, hostOps0_7, hostOps0_8, hostOps0_9, hostOps0_10]
  after_results
  simp only [StableHlo.TRef.ofBuf_toBuf, StableHlo.TRef.ofBuf, StableHlo.TRef.toBuf, StableHlo.TRef.of, id, cast_eq]
  pointwise []
  simp [FloatOps.sitofp]

theorem V_a (c : Dev nD) (z : Fin 1) (k : Fin 128) :
    @Eq EReal ((V m c main_v19 : FVec Ideal S1x128 .f32) (ix2 z k))
      (if h : k.val < 32 then -Ideal.exp ((m ((c : Thread nD τ).loc main_arg8) : FVec Ideal S32 .f32) (ix1 ⟨k.val, h⟩)) else 0) := by
  simp only [V, List.flatten, List.append, hostOps0, hostOps0_1, hostOps0_2, hostOps0_3, hostOps0_4, hostOps0_5,
    hostOps0_6, hostOps0_7, hostOps0_8, hostOps0_9, hostOps0_10]
  after_results
  simp only [StableHlo.TRef.ofBuf_toBuf, StableHlo.TRef.ofBuf, StableHlo.TRef.toBuf, StableHlo.TRef.of, id, cast_eq]
  pointwise []
  simp [FloatOps.sitofp]

theorem V_e (c : Dev nD) (k : Fin 128) (d : Fin 2048) :
    @Eq EReal ((V m c main_v11 : FVec Ideal S128x2048 .bf16) (ix2 k d)) (if d.val / 64 = k.val then 1 else 0) := by
  simp only [V, List.flatten, List.append, hostOps0, hostOps0_1, hostOps0_2, hostOps0_3, hostOps0_4, hostOps0_5,
    hostOps0_6, hostOps0_7, hostOps0_8, hostOps0_9, hostOps0_10]
  after_results
  simp only [StableHlo.TRef.ofBuf_toBuf, StableHlo.TRef.ofBuf, StableHlo.TRef.toBuf, StableHlo.TRef.of, id, cast_eq]
  pointwise []
  rw [show ∀ a b : BitVec 32, IntOp.cmpi .eq a b = IntOp.cmpi .eq b a from fun a b => by
    simp only [IntOp.cmpi, BEq.comm]]
  exact Cert.Reals.segment_word d.val k.val (by omega) (by omega)

theorem b1 (c : Dev nD) (t : Fin cfg0.N) (j : Fin 3072) :
    @Eq EReal ((iblk m c 1 t : FVec Ideal S1x1x3072 .f32) (ix3 0 0 j)) ((m ((c : Thread nD τ).loc main_arg1) : FVec Ideal S32x3072 .f32) (ix2 (row t) j)) := by
  unfold row
  exact Eq.trans (by blk_ext [iblk, idx t]) (V_x m c _ 0 j)

theorem b2 (c : Dev nD) (t : Fin cfg0.N) (k : Fin 128) :
    @Eq EReal ((iblk m c 2 t : FVec Ideal S1x1x128 .f32) (ix3 0 0 k))
      (if h : k.val < 32 then (m ((c : Thread nD τ).loc main_arg2) : FVec Ideal S32x32 .f32) (ix2 (row t) ⟨k.val, h⟩) else 0) := by
  unfold row
  exact Eq.trans (by blk_ext [iblk, idx t]) (V_dt m c _ 0 k)

theorem b3 (c : Dev nD) (t : Fin cfg0.N) (i : Fin 3) (j : Fin 3072) :
    @Eq EReal ((iblk m c 3 t : FVec Ideal S1x3x3072 .f32) (ix3 0 i j)) ((m ((c : Thread nD τ).loc main_arg3) : FVec Ideal S32x3x3072 .f32) (ix3 (row t) i j)) := by
  unfold row
  blk_ext [iblk, V, idx t]

theorem b4 (c : Dev nD) (t : Fin cfg0.N) (h : Fin 32) (p : Fin 64) (n : Fin 128) :
    @Eq EReal ((iblk m c 4 t : FVec Ideal S1x32x64x128 .f32) (ix4 0 h p n)) ((m ((c : Thread nD τ).loc main_arg4) : FVec Ideal S32x32x64x128 .f32) (ix4 (row t) h p n)) := by
  unfold row
  blk_ext [iblk, V, idx t]

theorem b5 (c : Dev nD) (t : Fin cfg0.N) (i : Fin 4) (j : Fin 3072) :
    @Eq EReal ((iblk m c 5 t : FVec Ideal S4x3072 .f32) (ix2 i j)) ((m ((c : Thread nD τ).loc main_arg5) : FVec Ideal S4x3072 .f32) (ix2 i j)) := by
  blk_ext [iblk, V, idx t]

theorem b6 (c : Dev nD) (t : Fin cfg0.N) (j : Fin 3072) :
    @Eq EReal ((iblk m c 6 t : FVec Ideal S1x3072 .f32) (ix2 0 j)) ((m ((c : Thread nD τ).loc main_arg6) : FVec Ideal S3072 .f32) (ix1 j)) :=
  Eq.trans (by blk_ext [iblk, idx t]) (V_cb m c 0 j)

theorem b7 (c : Dev nD) (t : Fin cfg0.N) (k : Fin 128) :
    @Eq EReal ((iblk m c 7 t : FVec Ideal S1x128 .f32) (ix2 0 k)) (if h : k.val < 32 then (m ((c : Thread nD τ).loc main_arg7) : FVec Ideal S32 .f32) (ix1 ⟨k.val, h⟩) else 0) :=
  Eq.trans (by blk_ext [iblk, idx t]) (V_db m c 0 k)

theorem b8 (c : Dev nD) (t : Fin cfg0.N) (k : Fin 128) :
    @Eq EReal ((iblk m c 8 t : FVec Ideal S1x128 .f32) (ix2 0 k))
      (if h : k.val < 32 then -Ideal.exp ((m ((c : Thread nD τ).loc main_arg8) : FVec Ideal S32 .f32) (ix1 ⟨k.val, h⟩)) else 0) :=
  Eq.trans (by blk_ext [iblk, idx t]) (V_a m c 0 k)

theorem b11 (c : Dev nD) (t : Fin cfg0.N) (k : Fin 128) (d : Fin 2048) :
    @Eq EReal ((iblk m c 11 t : FVec Ideal S128x2048 .bf16) (ix2 k d)) (if d.val / 64 = k.val then 1 else 0) :=
  Eq.trans (by blk_ext [iblk, idx t]) (V_e m c k d)

end Cert.KernelIdeal.Sample

end
-- ==== Proof.SampleRef.lean ====
module

public import proofs.«01_k».proof.Proof.Gen.ReferenceIdeal.Run
public import proofs.«01_k».proof.Proof.SampleRow
public import Idealize.ShloMosaic.Lib.Pipeline.ValueKit
public import Idealize.ShloMosaic.Lib.Pipeline.ReadBack

/-! The reference of the state-space step: the convolved inputs, the step sizes and the new state, as terms of the
arguments, and what each of them is at an element. -/

@[expose] public section

set_option maxRecDepth 16384

noncomputable section

namespace Cert.ReferenceIdeal.Sample

open Cert.ReferenceIdeal Cert.ReferenceIdeal.Gen Idealize.ShloMosaic Idealize.ShloMosaic.TcCoe Idealize.SL.Sem
open Cert.SampleRow

/-- The convolution before the gated unit. -/
def U (a1 : FVec Ideal S32x3072 .f32) (a3 : FVec Ideal S32x3x3072 .f32) (a5 : FVec Ideal S4x3072 .f32) (a6 : FVec Ideal S3072 .f32) :
    FVec Ideal S32x3072 .f32 :=
  (addf (addf (addf (addf (addf (broadcastInDim S32x3072 ![] bcast_S_S32x3072 (constant S_ .f32 0x00000000#32)) (mulf (shapeCast _ (extractStridedSlice S32x1x3072 ![0, 0, 0] (concatenate S32x4x3072 1 [⟨S32x3x3072, a3⟩, ⟨S32x1x3072, (broadcastInDim S32x1x3072 ![0, 2] bcast_S32x3072_S32x1x3072_0_2 a1)⟩] concatenates_S32x3x3072_S32x1x3072_S32x4x3072_d1) slices_S32x4x3072_S32x1x3072_0_0_0) shapeCasts_S32x1x3072_S32x3072) (broadcastInDim S32x3072 ![0, 1] bcast_S1x3072_S32x3072_0_1 (broadcastInDim S1x3072 ![1] bcast_S3072_S1x3072_1 (shapeCast _ (extractStridedSlice S1x3072 ![0, 0] a5 slices_S4x3072_S1x3072_0_0) shapeCasts_S1x3072_S3072))))) (mulf (shapeCast _ (extractStridedSlice S32x1x3072 ![0, 1, 0] (concatenate S32x4x3072 1 [⟨S32x3x3072, a3⟩, ⟨S32x1x3072, (broadcastInDim S32x1x3072 ![0, 2] bcast_S32x3072_S32x1x3072_0_2 a1)⟩] concatenates_S32x3x3072_S32x1x3072_S32x4x3072_d1) slices_S32x4x3072_S32x1x3072_0_1_0) shapeCasts_S32x1x3072_S32x3072) (broadcastInDim S32x3072 ![0, 1] bcast_S1x3072_S32x3072_0_1 (broadcastInDim S1x3072 ![1] bcast_S3072_S1x3072_1 (shapeCast _ (extractStridedSlice S1x3072 ![1, 0] a5 slices_S4x3072_S1x3072_1_0) shapeCasts_S1x3072_S3072))))) (mulf (shapeCast _ (extractStridedSlice S32x1x3072 ![0, 2, 0] (concatenate S32x4x3072 1 [⟨S32x3x3072, a3⟩, ⟨S32x1x3072, (broadcastInDim S32x1x3072 ![0, 2] bcast_S32x3072_S32x1x3072_0_2 a1)⟩] concatenates_S32x3x3072_S32x1x3072_S32x4x3072_d1) slices_S32x4x3072_S32x1x3072_0_2_0) shapeCasts_S32x1x3072_S32x3072) (broadcastInDim S32x3072 ![0, 1] bcast_S1x3072_S32x3072_0_1 (broadcastInDim S1x3072 ![1] bcast_S3072_S1x3072_1 (shapeCast _ (extractStridedSlice S1x3072 ![2, 0] a5 slices_S4x3072_S1x3072_2_0) shapeCasts_S1x3072_S3072))))) (mulf (shapeCast _ (extractStridedSlice S32x1x3072 ![0, 3, 0] (concatenate S32x4x3072 1 [⟨S32x3x3072, a3⟩, ⟨S32x1x3072, (broadcastInDim S32x1x3072 ![0, 2] bcast_S32x3072_S32x1x3072_0_2 a1)⟩] concatenates_S32x3x3072_S32x1x3072_S32x4x3072_d1) slices_S32x4x3072_S32x1x3072_0_3_0) shapeCasts_S32x1x3072_S32x3072) (broadcastInDim S32x3072 ![0, 1] bcast_S1x3072_S32x3072_0_1 (broadcastInDim S1x3072 ![1] bcast_S3072_S1x3072_1 (shapeCast _ (extractStridedSlice S1x3072 ![3, 0] a5 slices_S4x3072_S1x3072_3_0) shapeCasts_S1x3072_S3072))))) (broadcastInDim S32x3072 ![0, 1] bcast_S1x3072_S32x3072_0_1 (broadcastInDim S1x3072 ![1] bcast_S3072_S1x3072_1 a6)))

/-- The gated unit of the convolution. -/
def X (u : FVec Ideal S32x3072 .f32) : FVec Ideal S32x3072 .f32 :=
  (mulf u (Host.divf (broadcastInDim S32x3072 ![] bcast_S_S32x3072 (constant S_ .f32 0x3F800000#32)) (addf (broadcastInDim S32x3072 ![] bcast_S_S32x3072 (constant S_ .f32 0x3F800000#32)) (Host.exp (Host.negf u)))))

/-- The step sizes. -/
def Dt (a2 : FVec Ideal S32x32 .f32) (a7 : FVec Ideal S32 .f32) : FVec Ideal S32x32 .f32 :=
  (select (cmpf .une (subf (addf a2 (broadcastInDim S32x32 ![0, 1] bcast_S1x32_S32x32_0_1 (broadcastInDim S1x32 ![1] bcast_S32_S1x32_1 a7))) (broadcastInDim S32x32 ![] bcast_S_S32x32 (constant S_ .f32 0x00000000#32))) (subf (addf a2 (broadcastInDim S32x32 ![0, 1] bcast_S1x32_S32x32_0_1 (broadcastInDim S1x32 ![1] bcast_S32_S1x32_1 a7))) (broadcastInDim S32x32 ![] bcast_S_S32x32 (constant S_ .f32 0x00000000#32)))) (addf (addf a2 (broadcastInDim S32x32 ![0, 1] bcast_S1x32_S32x32_0_1 (broadcastInDim S1x32 ![1] bcast_S32_S1x32_1 a7))) (broadcastInDim S32x32 ![] bcast_S_S32x32 (constant S_ .f32 0x00000000#32))) (addf (maximumf (addf a2 (broadcastInDim S32x32 ![0, 1] bcast_S1x32_S32x32_0_1 (broadcastInDim S1x32 ![1] bcast_S32_S1x32_1 a7))) (broadcastInDim S32x32 ![] bcast_S_S32x32 (constant S_ .f32 0x00000000#32))) (Host.log1p (Host.exp (Host.negf (Host.absf (subf (addf a2 (broadcastInDim S32x32 ![0, 1] bcast_S1x32_S32x32_0_1 (broadcastInDim S1x32 ![1] bcast_S32_S1x32_1 a7))) (broadcastInDim S32x32 ![] bcast_S_S32x32 (constant S_ .f32 0x00000000#32)))))))))

/-- The new state. -/
def Hn (dt : FVec Ideal S32x32 .f32) (a8 : FVec Ideal S32 .f32) (a4 : FVec Ideal S32x32x64x128 .f32) (x : FVec Ideal S32x3072 .f32) :
    FVec Ideal S32x32x64x128 .f32 :=
  addf (mulf (broadcastInDim S32x32x64x128 ![0, 1, 2, 3] bcast_S32x32x1x1_S32x32x64x128_0_1_2_3 (broadcastInDim S32x32x1x1 ![0, 1] bcast_S32x32_S32x32x1x1_0_1 (Host.exp (mulf dt (broadcastInDim S32x32 ![0, 1] bcast_S1x32_S32x32_0_1 (broadcastInDim S1x32 ![1] bcast_S32_S1x32_1 (Host.negf (Host.exp a8)))))))) a4) (mulf (broadcastInDim S32x32x64x128 ![0, 1, 2, 3] bcast_S32x32x64x1_S32x32x64x128_0_1_2_3 (broadcastInDim S32x32x64x1 ![0, 1, 2] bcast_S32x32x64_S32x32x64x1_0_1_2 (mulf (shapeCast _ (extractStridedSlice S32x2048 ![0, 0] x slices_S32x3072_S32x2048_0_0) shapeCasts_S32x2048_S32x32x64) (broadcastInDim S32x32x64 ![0, 1, 2] bcast_S32x32x1_S32x32x64_0_1_2 (broadcastInDim S32x32x1 ![0, 1] bcast_S32x32_S32x32x1_0_1 dt))))) (broadcastInDim S32x32x64x128 ![0, 1, 2, 3] bcast_S32x32x1x128_S32x32x64x128_0_1_2_3 (broadcastInDim S32x32x1x128 ![0, 1, 3] bcast_S32x32x128_S32x32x1x128_0_1_3 (shapeCast _ (broadcastInDim S32x4x8x128 ![0, 1, 3] bcast_S32x4x128_S32x4x8x128_0_1_3 (shapeCast _ (extractStridedSlice S32x512 ![0, 2048] x slices_S32x3072_S32x512_0_2048) shapeCasts_S32x512_S32x4x128)) shapeCasts_S32x4x8x128_S32x32x128))))

theorem U_at (a1 : FVec Ideal S32x3072 .f32) (a3 : FVec Ideal S32x3x3072 .f32) (a5 : FVec Ideal S4x3072 .f32) (a6 : FVec Ideal S3072 .f32)
    (b : Fin 32) (j : Fin 3072) :
    @Eq EReal (U a1 a3 a5 a6 (ix2 b j))
      (conv ![a3 (ix3 b 0 j), a3 (ix3 b 1 j), a3 (ix3 b 2 j), a1 (ix2 b j)] (fun i => a5 (ix2 i j)) (a6 (ix1 j))) := by
  unfold conv
  pointwise [U]

theorem X_at (u : FVec Ideal S32x3072 .f32) (b : Fin 32) (j : Fin 3072) :
    @Eq EReal (X u (ix2 b j)) (silu (u (ix2 b j))) := by
  unfold silu
  pointwise [X]

theorem Dt_at (a2 : FVec Ideal S32x32 .f32) (a7 : FVec Ideal S32 .f32) (b : Fin 32) (h : Fin 32) :
    @Eq EReal (Dt a2 a7 (ix2 b h)) (soft (a2 (ix2 b h) + a7 (ix1 h))) := by
  unfold soft
  pointwise [Dt]
  simp [Scalar.select, Ideal.cmp, Ideal.log1p]
  rfl

theorem Hn_at (dt : FVec Ideal S32x32 .f32) (a8 : FVec Ideal S32 .f32) (a4 : FVec Ideal S32x32x64x128 .f32) (x : FVec Ideal S32x3072 .f32)
    (b : Fin 32) (h : Fin 32) (p : Fin 64) (n : Fin 128) :
    @Eq EReal (Hn dt a8 a4 x (ix4 b h p n))
      (Ideal.exp (dt (ix2 b h) * -Ideal.exp (a8 (ix1 h))) * a4 (ix4 b h p n)
        + x (ix2 b ⟨h.val * 64 + p.val, by omega⟩) * dt (ix2 b h) * x (ix2 b ⟨2048 + (h.val / 8 * 128 + n.val), by omega⟩)) := by
  pointwise [Hn]

end Cert.ReferenceIdeal.Sample

end
-- ==== Proof.SampleIn.lean ====
module

public import proofs.«01_k».proof.Proof.SampleBlocks
public import proofs.«01_k».proof.Proof.SampleRef

/-! The state-space step: what the kernel's body computes for the convolved inputs, the step sizes and the decays. -/

@[expose] public section

set_option maxRecDepth 16384

noncomputable section

namespace Cert.KernelIdeal.Sample

open Cert.KernelIdeal Cert.KernelIdeal.Gen Idealize.ShloMosaic Idealize.ShloMosaic.TcCoe Idealize.SL.Sem
open Idealize.ShloMosaic.Pipeline (Dat)
open Cert.SampleRow Cert.Reals Cert.AttnRow

theorem pay2_at (v0 : Vec Ideal S1x3072 .f32) (v2 : Vec Ideal S1x3072 .f32) (v3 : Vec Ideal S1x1x3072 .f32) (v7 : Vec Ideal S1x3072 .f32)
    (v8 : Vec Ideal S1x1x3072 .f32) (v12 : Vec Ideal S1x3072 .f32) (v13 : Vec Ideal S1x1x3072 .f32) (v17 : Vec Ideal S1x3072 .f32)
    (v18 : Vec Ideal S1x1x3072 .f32) (j : Fin 3072) :
    @Eq EReal (k0_pay2 v0 v2 v3 v7 v8 v12 v13 v17 v18 (ix2 0 j))
      (silu (conv ![v8 (ix3 0 0 j), v13 (ix3 0 0 j), v18 (ix3 0 0 j), v3 (ix3 0 0 j)]
        ![v7 (ix2 0 j), v12 (ix2 0 j), v17 (ix2 0 j), v2 (ix2 0 j)] (v0 (ix2 0 j)))) := by
  rw [← conv_eq]
  unfold silu
  pointwise [k0_pay2]
  simp [Matrix.cons_val]

theorem pay3_at (v30 : Vec Ideal S1x1x128 .f32) (v32 : Vec Ideal S1x128 .f32) (k : Fin 128) :
    @Eq EReal (k0_pay3 v30 v32 (ix2 0 k)) (soft (v30 (ix3 0 0 k) + v32 (ix2 0 k))) := by
  unfold soft
  pointwise [k0_pay3]
  rw [zero_sub]
  rfl

/-- The step sizes spread over the heads' columns. -/
theorem pay4_at (v30 : Vec Ideal S1x1x128 .f32) (v32 : Vec Ideal S1x128 .f32) (v47 : Vec Ideal S128x2048 .bf16) (d : Fin 2048)
    (hr : ∀ k : Fin 128, IsReal (soft (v30 (ix3 0 0 k) + v32 (ix2 0 k))))
    (he : ∀ k : Fin 128, @Eq EReal (v47 (ix2 k d)) (if d.val / 64 = k.val then 1 else 0)) :
    @Eq EReal (k0_pay4 v30 v32 v47 (ix2 0 d))
      (soft (v30 (ix3 0 0 ⟨d.val / 64, by omega⟩) + v32 (ix2 0 ⟨d.val / 64, by omega⟩))) := by
  pointwise [k0_pay4]
  simp only [pay3_at]
  exact spread hr (q := d.val / 64) (by omega) he

/-- The decays, spread over the heads' columns. -/
theorem pay11_at (v30 : Vec Ideal S1x1x128 .f32) (v32 : Vec Ideal S1x128 .f32) (v62 : Vec Ideal S1x128 .f32)
    (v67 : Vec Ideal S128x2048 .bf16) (d : Fin 2048)
    (hr : ∀ k : Fin 128, IsReal (soft (v30 (ix3 0 0 k) + v32 (ix2 0 k)) * v62 (ix2 0 k)))
    (he : ∀ k : Fin 128, @Eq EReal (v67 (ix2 k d)) (if d.val / 64 = k.val then 1 else 0)) :
    @Eq EReal (k0_pay11 (k0_pay6 v67) (k0_pay7 v30 v32 v62) (k0_pay9 v30 v32 v62) (k0_pay10 v30 v32 v62) (ix2 0 d))
      (Ideal.exp (soft (v30 (ix3 0 0 ⟨d.val / 64, by omega⟩) + v32 (ix2 0 ⟨d.val / 64, by omega⟩))
        * v62 (ix2 0 ⟨d.val / 64, by omega⟩))) := by
  pointwise [k0_pay11, k0_pay6, k0_pay7, k0_pay9, k0_pay10, k0_pay8, k0_pay5]
  simp only [pay3_at]
  exact congrArg Ideal.exp (spread hr (q := d.val / 64) (by omega) he)

/-- The new state of the first group of heads. -/
theorem g0_at (v103 : FVec Ideal S1x2048 .f32) (v29 : FVec Ideal S1x3072 .f32) (v68 : FVec Ideal S128x2048 .bf16)
    (v69 v72 : FVec Ideal S8x128 .bf16) (v74 : FVec Ideal S8x128 .f32) (v137 : Vec Ideal S1x8x64x128 .f32)
    (hh : Fin 8) (p : Fin 64) (n : Fin 128)
    (hd : ∀ d : Fin 2048, IsReal (k0_pay11 v68 v69 v72 v74 (ix2 0 d))) (hx : ∀ d : Fin 2048, IsReal (v103 (ix2 0 d))) :
    @Eq EReal (k0_pay25 v103 (k0_pay15 (F := Ideal)) (k0_pay16 v29) (k0_pay22 v68 v69 v72 v74) (k0_pay23 v68 v69 v72 v74) v137 (ix4 0 hh p n))
      (k0_pay11 v68 v69 v72 v74 (ix2 0 ⟨hh.val * 64 + p.val, by omega⟩) * v137 (ix4 0 hh p n)
        + v103 (ix2 0 ⟨hh.val * 64 + p.val, by omega⟩) * v29 (ix2 0 ⟨2048 + n.val, by omega⟩)) := by
  pointwise [k0_pay25, k0_pay24, k0_pay22, k0_pay23, k0_pay21, k0_pay20, k0_pay19, k0_pay18, k0_pay16, k0_pay15]
  simp [(hd ⟨hh.val * 64 + p.val, by omega⟩).sub_self, (hx ⟨hh.val * 64 + p.val, by omega⟩).sub_self]

/-- The new state of the second group of heads. -/
theorem g1_at (v103 : FVec Ideal S1x2048 .f32) (v29 : FVec Ideal S1x3072 .f32) (v82 : FVec Ideal S1x2048 .f32) (v137 : Vec Ideal S1x8x64x128 .f32)
    (hh : Fin 8) (p : Fin 64) (n : Fin 128)
    (hd : ∀ d : Fin 2048, IsReal (v82 (ix2 0 d))) (hx : ∀ d : Fin 2048, IsReal (v103 (ix2 0 d))) :
    @Eq EReal (k0_pay33 v103 (k0_pay15 (F := Ideal)) (k0_pay27 v29) (k0_pay30 v82) (k0_pay31 v82) v137 (ix4 0 hh p n))
      (v82 (ix2 0 ⟨512 + (hh.val * 64 + p.val), by omega⟩) * v137 (ix4 0 hh p n)
        + v103 (ix2 0 ⟨512 + (hh.val * 64 + p.val), by omega⟩) * v29 (ix2 0 ⟨2176 + n.val, by omega⟩)) := by
  pointwise [k0_pay33, k0_pay32, k0_pay27, k0_pay31, k0_pay30, k0_pay29, k0_pay15]
  simp [(hd ⟨512 + (hh.val * 64 + p.val), by omega⟩).sub_self, (hx ⟨512 + (hh.val * 64 + p.val), by omega⟩).sub_self]

/-- The new state of the third group of heads. -/
theorem g2_at (v103 : FVec Ideal S1x2048 .f32) (v29 : FVec Ideal S1x3072 .f32) (v82 : FVec Ideal S1x2048 .f32) (v137 : Vec Ideal S1x8x64x128 .f32)
    (hh : Fin 8) (p : Fin 64) (n : Fin 128)
    (hd : ∀ d : Fin 2048, IsReal (v82 (ix2 0 d))) (hx : ∀ d : Fin 2048, IsReal (v103 (ix2 0 d))) :
    @Eq EReal (k0_pay38 (k0_pay37 v29 v82 v103 (k0_pay15 (F := Ideal)) v137) (ix4 0 hh p n))
      (v82 (ix2 0 ⟨1024 + (hh.val * 64 + p.val), by omega⟩) * v137 (ix4 0 hh p n)
        + v103 (ix2 0 ⟨1024 + (hh.val * 64 + p.val), by omega⟩) * v29 (ix2 0 ⟨2304 + n.val, by omega⟩)) := by
  pointwise [k0_pay38, k0_pay37, k0_pay36, k0_pay15]
  simp [(hd ⟨1024 + (hh.val * 64 + p.val), by omega⟩).sub_self, (hx ⟨1024 + (hh.val * 64 + p.val), by omega⟩).sub_self]

/-- The new state of the fourth group of heads. -/
theorem g3_at (v103 : FVec Ideal S1x2048 .f32) (v29 : FVec Ideal S1x3072 .f32) (v82 : FVec Ideal S1x2048 .f32) (v137 : Vec Ideal S1x8x64x128 .f32)
    (hh : Fin 8) (p : Fin 64) (n : Fin 128)
    (hd : ∀ d : Fin 2048, IsReal (v82 (ix2 0 d))) (hx : ∀ d : Fin 2048, IsReal (v103 (ix2 0 d))) :
    @Eq EReal (k0_pay45 (k0_pay41 v82 (k0_pay15 (F := Ideal)) v137) (k0_pay42 v103 (k0_pay15 (F := Ideal))) (k0_pay43 v29) (ix4 0 hh p n))
      (v82 (ix2 0 ⟨1536 + (hh.val * 64 + p.val), by omega⟩) * v137 (ix4 0 hh p n)
        + v103 (ix2 0 ⟨1536 + (hh.val * 64 + p.val), by omega⟩) * v29 (ix2 0 ⟨2432 + n.val, by omega⟩)) := by
  pointwise [k0_pay45, k0_pay44, k0_pay43, k0_pay42, k0_pay41, k0_pay15]
  simp [(hd ⟨1536 + (hh.val * 64 + p.val), by omega⟩).sub_self, (hx ⟨1536 + (hh.val * 64 + p.val), by omega⟩).sub_self]

/-- The four stores of new states, head by head. -/
theorem stores (v29 : FVec Ideal S1x3072 .f32) (v103 v82 : FVec Ideal S1x2048 .f32) (v68 : FVec Ideal S128x2048 .bf16)
    (v69 v72 : FVec Ideal S8x128 .bf16) (v74 : FVec Ideal S8x128 .f32) (s : Vec Ideal S1x32x64x128 .f32)
    (h : Fin 32) (p : Fin 64) (n : Fin 128) (e : k0_pay11 v68 v69 v72 v74 = v82)
    (hd : ∀ d : Fin 2048, IsReal (v82 (ix2 0 d))) (hx : ∀ d : Fin 2048, IsReal (v103 (ix2 0 d))) :
    @Eq EReal ((View.canon [⟨r0_15, k0_pay45 (k0_pay41 v82 (k0_pay15 (F := Ideal)) (View.ld s r0_15)) (k0_pay42 v103 (k0_pay15 (F := Ideal))) (k0_pay43 v29)⟩,
        ⟨r0_14, k0_pay38 (k0_pay37 v29 v82 v103 (k0_pay15 (F := Ideal)) (View.ld s r0_14))⟩,
        ⟨r0_13, k0_pay33 v103 (k0_pay15 (F := Ideal)) (k0_pay27 v29) (k0_pay30 v82) (k0_pay31 v82) (View.ld s r0_13)⟩,
        ⟨r0_12, k0_pay25 v103 (k0_pay15 (F := Ideal)) (k0_pay16 v29) (k0_pay22 v68 v69 v72 v74) (k0_pay23 v68 v69 v72 v74) (View.ld s r0_12)⟩] :
          Vec Ideal S1x32x64x128 .f32) (ix4 0 h p n))
      (v82 (ix2 0 ⟨h.val * 64 + p.val, by omega⟩) * s (ix4 0 h p n)
        + v103 (ix2 0 ⟨h.val * 64 + p.val, by omega⟩) * v29 (ix2 0 ⟨2048 + (h.val / 8 * 128 + n.val), by omega⟩)) := by
  have e0 : (ix4 (0 : Fin 1) h p n 0).val = (0 : Fin 1).val := rfl
  have e1 : (ix4 (0 : Fin 1) h p n 1).val = h.val := rfl
  have e2 : (ix4 (0 : Fin 1) h p n 2).val = p.val := rfl
  have e3 : (ix4 (0 : Fin 1) h p n 3).val = n.val := rfl
  canon_tiles y hy
  all_goals
    idx_vars y
    obtain rfl : y0 = 0 := Subsingleton.elim _ _
  · refine (g3_at _ _ _ _ y1 y2 y3 hd hx).trans ?_
    refine congrArg₂ (· + ·) (congrArg₂ (· * ·) ?_ ?_) (congrArg₂ (· * ·) ?_ ?_)
    · blk_ext
    · refine View.ld_unit_apply_of s _ _ _ _ (ix4 0 h p n) fun a => ?_
      fin_cases a
      · exact hy0.trans (Nat.zero_add _).symm
      · first | exact hy1 | exact hy1.trans (Nat.zero_add _).symm
      · exact hy2.trans (Nat.zero_add _).symm
      · exact hy3.trans (Nat.zero_add _).symm
    · blk_ext
    · blk_ext
  · refine (g2_at _ _ _ _ y1 y2 y3 hd hx).trans ?_
    refine congrArg₂ (· + ·) (congrArg₂ (· * ·) ?_ ?_) (congrArg₂ (· * ·) ?_ ?_)
    · blk_ext
    · refine View.ld_unit_apply_of s _ _ _ _ (ix4 0 h p n) fun a => ?_
      fin_cases a
      · exact hy0.trans (Nat.zero_add _).symm
      · first | exact hy1 | exact hy1.trans (Nat.zero_add _).symm
      · exact hy2.trans (Nat.zero_add _).symm
      · exact hy3.trans (Nat.zero_add _).symm
    · blk_ext
    · blk_ext
  · refine (g1_at _ _ _ _ y1 y2 y3 hd hx).trans ?_
    refine congrArg₂ (· + ·) (congrArg₂ (· * ·) ?_ ?_) (congrArg₂ (· * ·) ?_ ?_)
    · blk_ext
    · refine View.ld_unit_apply_of s _ _ _ _ (ix4 0 h p n) fun a => ?_
      fin_cases a
      · exact hy0.trans (Nat.zero_add _).symm
      · first | exact hy1 | exact hy1.trans (Nat.zero_add _).symm
      · exact hy2.trans (Nat.zero_add _).symm
      · exact hy3.trans (Nat.zero_add _).symm
    · blk_ext
    · blk_ext
  · refine (g0_at _ _ _ _ _ _ _ y1 y2 y3 (e ▸ hd) hx).trans ?_
    rw [e]
    refine congrArg₂ (· + ·) (congrArg₂ (· * ·) ?_ ?_) (congrArg₂ (· * ·) ?_ ?_)
    · blk_ext
    · refine View.ld_unit_apply_of s _ _ _ _ (ix4 0 h p n) fun a => ?_
      fin_cases a
      · exact hy0.trans (Nat.zero_add _).symm
      · first | exact hy1 | exact hy1.trans (Nat.zero_add _).symm
      · exact hy2.trans (Nat.zero_add _).symm
      · exact hy3.trans (Nat.zero_add _).symm
    · blk_ext
    · blk_ext

/-- The block of new states of one sample. -/
theorem tiles (x0 : Vec Ideal S1x1x2048 .f32) (x1 : Vec Ideal S1x1x3072 .f32) (x2 : Vec Ideal S1x1x128 .f32) (x3 : Vec Ideal S1x3x3072 .f32) (x4 : Vec Ideal S1x32x64x128 .f32) (x5 : Vec Ideal S4x3072 .f32) (x6 : Vec Ideal S1x3072 .f32) (x7 : Vec Ideal S1x128 .f32) (x8 : Vec Ideal S1x128 .f32) (x9 : Vec Ideal S1x128 .f32) (x10 : Vec Ideal S1x2048 .f32) (x11 : Vec Ideal S128x2048 .bf16)
    (h : Fin 32) (p : Fin 64) (n : Fin 128)
    (hd : ∀ d : Fin 2048, IsReal (k0_pay77 x0 x1 x2 x3 x4 x5 x6 x7 x8 x9 x10 x11 (ix2 0 d))) (hx : ∀ d : Fin 2048, IsReal (k0_pay80 x0 x1 x2 x3 x4 x5 x6 x7 x8 x9 x10 x11 (ix2 0 d))) :
    @Eq EReal (out0_13 (F := Ideal) x0 x1 x2 x3 x4 x5 x6 x7 x8 x9 x10 x11 (ix4 0 h p n))
      (k0_pay77 x0 x1 x2 x3 x4 x5 x6 x7 x8 x9 x10 x11 (ix2 0 ⟨h.val * 64 + p.val, by omega⟩) * x4 (ix4 0 h p n)
        + k0_pay80 x0 x1 x2 x3 x4 x5 x6 x7 x8 x9 x10 x11 (ix2 0 ⟨h.val * 64 + p.val, by omega⟩)
          * k0_pay72 x0 x1 x2 x3 x4 x5 x6 x7 x8 x9 x10 x11 (ix2 0 ⟨2048 + (h.val / 8 * 128 + n.val), by omega⟩)) := by
  unfold out0_13 k0_pay94 k0_pay93 k0_pay92 k0_pay88 k0_pay87 k0_pay86 k0_pay84 k0_pay83 k0_pay82 k0_pay81
  exact stores _ _ _ (k0_pay73 x0 x1 x2 x3 x4 x5 x6 x7 x8 x9 x10 x11) (k0_pay74 x0 x1 x2 x3 x4 x5 x6 x7 x8 x9 x10 x11) (k0_pay75 x0 x1 x2 x3 x4 x5 x6 x7 x8 x9 x10 x11) (k0_pay76 x0 x1 x2 x3 x4 x5 x6 x7 x8 x9 x10 x11) x4 h p n (by unfold k0_pay77; rfl) hd hx

/-! The loads of whole arrays and of single rows. -/

theorem ld0 (x : Vec Ideal S1x3072 .f32) (j : Fin 3072) : @Eq EReal (View.ld x r0_0 (ix2 0 j)) (x (ix2 0 j)) :=
  View.ld_unit_apply_of x _ _ _ _ (ix2 0 j) fun a => by
    fin_cases a <;> first | rfl | exact (Nat.zero_add _).symm

theorem ld1 (x : Vec Ideal S4x3072 .f32) (j : Fin 3072) : @Eq EReal (View.ld x r0_1 (ix2 0 j)) (x (ix2 3 j)) :=
  View.ld_unit_apply_of x _ _ _ _ (ix2 3 j) fun a => by
    fin_cases a <;> first | rfl | exact (Nat.zero_add _).symm

theorem ld2 (x : Vec Ideal S1x1x3072 .f32) (j : Fin 3072) : @Eq EReal (View.ld x r0_2 (ix3 0 0 j)) (x (ix3 0 0 j)) :=
  View.ld_unit_apply_of x _ _ _ _ (ix3 0 0 j) fun a => by
    fin_cases a <;> first | rfl | exact (Nat.zero_add _).symm

theorem ld3 (x : Vec Ideal S4x3072 .f32) (j : Fin 3072) : @Eq EReal (View.ld x r0_3 (ix2 0 j)) (x (ix2 0 j)) :=
  View.ld_unit_apply_of x _ _ _ _ (ix2 0 j) fun a => by
    fin_cases a <;> first | rfl | exact (Nat.zero_add _).symm

theorem ld5 (x : Vec Ideal S4x3072 .f32) (j : Fin 3072) : @Eq EReal (View.ld x r0_5 (ix2 0 j)) (x (ix2 1 j)) :=
  View.ld_unit_apply_of x _ _ _ _ (ix2 1 j) fun a => by
    fin_cases a <;> first | rfl | exact (Nat.zero_add _).symm

theorem ld7 (x : Vec Ideal S4x3072 .f32) (j : Fin 3072) : @Eq EReal (View.ld x r0_7 (ix2 0 j)) (x (ix2 2 j)) :=
  View.ld_unit_apply_of x _ _ _ _ (ix2 2 j) fun a => by
    fin_cases a <;> first | rfl | exact (Nat.zero_add _).symm

theorem ld4 (x : Vec Ideal S1x3x3072 .f32) (j : Fin 3072) : @Eq EReal (View.ld x r0_4 (ix3 0 0 j)) (x (ix3 0 0 j)) :=
  View.ld_unit_apply_of x _ _ _ _ (ix3 0 0 j) fun a => by
    fin_cases a <;> first | rfl | exact (Nat.zero_add _).symm

theorem ld6 (x : Vec Ideal S1x3x3072 .f32) (j : Fin 3072) : @Eq EReal (View.ld x r0_6 (ix3 0 0 j)) (x (ix3 0 1 j)) :=
  View.ld_unit_apply_of x _ _ _ _ (ix3 0 1 j) fun a => by
    fin_cases a <;> first | rfl | exact (Nat.zero_add _).symm

theorem ld8 (x : Vec Ideal S1x3x3072 .f32) (j : Fin 3072) : @Eq EReal (View.ld x r0_8 (ix3 0 0 j)) (x (ix3 0 2 j)) :=
  View.ld_unit_apply_of x _ _ _ _ (ix3 0 2 j) fun a => by
    fin_cases a <;> first | rfl | exact (Nat.zero_add _).symm

theorem ld9 (x : Vec Ideal S1x1x128 .f32) (k : Fin 128) : @Eq EReal (View.ld x r0_9 (ix3 0 0 k)) (x (ix3 0 0 k)) :=
  View.ld_unit_apply_of x _ _ _ _ (ix3 0 0 k) fun a => by
    fin_cases a <;> first | rfl | exact (Nat.zero_add _).symm

theorem ld10 (x : Vec Ideal S1x128 .f32) (k : Fin 128) : @Eq EReal (View.ld x r0_10 (ix2 0 k)) (x (ix2 0 k)) :=
  View.ld_unit_apply_of x _ _ _ _ (ix2 0 k) fun a => by
    fin_cases a <;> first | rfl | exact (Nat.zero_add _).symm

theorem ld11 (x : Vec Ideal S128x2048 .bf16) (k : Fin 128) (d : Fin 2048) : @Eq EReal (View.ld x r0_11 (ix2 k d)) (x (ix2 k d)) :=
  View.ld_unit_apply_of x _ _ _ _ (ix2 k d) fun a => by
    fin_cases a <;> first | rfl | exact (Nat.zero_add _).symm

/-- The convolved inputs, from the blocks. -/
theorem pay72_at (x0 : Vec Ideal S1x1x2048 .f32) (x1 : Vec Ideal S1x1x3072 .f32) (x2 : Vec Ideal S1x1x128 .f32) (x3 : Vec Ideal S1x3x3072 .f32) (x4 : Vec Ideal S1x32x64x128 .f32) (x5 : Vec Ideal S4x3072 .f32) (x6 : Vec Ideal S1x3072 .f32) (x7 : Vec Ideal S1x128 .f32) (x8 : Vec Ideal S1x128 .f32) (x9 : Vec Ideal S1x128 .f32) (x10 : Vec Ideal S1x2048 .f32) (x11 : Vec Ideal S128x2048 .bf16) (j : Fin 3072) :
    @Eq EReal (k0_pay72 x0 x1 x2 x3 x4 x5 x6 x7 x8 x9 x10 x11 (ix2 0 j))
      (silu (conv ![x3 (ix3 0 0 j), x3 (ix3 0 1 j), x3 (ix3 0 2 j), x1 (ix3 0 0 j)] (fun i => x5 (ix2 i j)) (x6 (ix2 0 j)))) := by
  unfold k0_pay72
  rw [pay2_at, ld0, ld1, ld2, ld3, ld4, ld5, ld6, ld7, ld8]
  rfl

/-- The step sizes, from the blocks. -/
theorem step_at (x2 : Vec Ideal S1x1x128 .f32) (x7 : Vec Ideal S1x128 .f32) (x11 : Vec Ideal S128x2048 .bf16) (d : Fin 2048)
    (hr : ∀ k : Fin 128, IsReal (soft (x2 (ix3 0 0 k) + x7 (ix2 0 k))))
    (he : ∀ k : Fin 128, @Eq EReal (x11 (ix2 k d)) (if d.val / 64 = k.val then 1 else 0)) :
    @Eq EReal (k0_pay4 (View.ld x2 r0_9) (View.ld x7 r0_10) (View.ld x11 r0_11) (ix2 0 d))
      (soft (x2 (ix3 0 0 ⟨d.val / 64, by omega⟩) + x7 (ix2 0 ⟨d.val / 64, by omega⟩))) := by
  refine (pay4_at _ _ _ d (fun k => ?_) (fun k => ?_)).trans ?_
  · rw [ld9, ld10]; exact hr k
  · rw [ld11]; exact he k
  · rw [ld9, ld10]

/-- The decays, from the blocks. -/
theorem pay77_at (x0 : Vec Ideal S1x1x2048 .f32) (x1 : Vec Ideal S1x1x3072 .f32) (x2 : Vec Ideal S1x1x128 .f32) (x3 : Vec Ideal S1x3x3072 .f32) (x4 : Vec Ideal S1x32x64x128 .f32) (x5 : Vec Ideal S4x3072 .f32) (x6 : Vec Ideal S1x3072 .f32) (x7 : Vec Ideal S1x128 .f32) (x8 : Vec Ideal S1x128 .f32) (x9 : Vec Ideal S1x128 .f32) (x10 : Vec Ideal S1x2048 .f32) (x11 : Vec Ideal S128x2048 .bf16) (d : Fin 2048)
    (hr : ∀ k : Fin 128, IsReal (soft (x2 (ix3 0 0 k) + x7 (ix2 0 k)) * x8 (ix2 0 k)))
    (he : ∀ k : Fin 128, @Eq EReal (x11 (ix2 k d)) (if d.val / 64 = k.val then 1 else 0)) :
    @Eq EReal (k0_pay77 x0 x1 x2 x3 x4 x5 x6 x7 x8 x9 x10 x11 (ix2 0 d))
      (Ideal.exp (soft (x2 (ix3 0 0 ⟨d.val / 64, by omega⟩) + x7 (ix2 0 ⟨d.val / 64, by omega⟩))
        * x8 (ix2 0 ⟨d.val / 64, by omega⟩))) := by
  unfold k0_pay77 k0_pay73 k0_pay74 k0_pay75 k0_pay76
  refine (pay11_at _ _ _ _ d (fun k => ?_) (fun k => ?_)).trans ?_
  · rw [ld9, ld10, ld10]; exact hr k
  · rw [ld11]; exact he k
  · rw [ld9, ld10, ld10]

/-- The inputs times the step sizes, from the blocks. -/
theorem pay80_at (x0 : Vec Ideal S1x1x2048 .f32) (x1 : Vec Ideal S1x1x3072 .f32) (x2 : Vec Ideal S1x1x128 .f32) (x3 : Vec Ideal S1x3x3072 .f32) (x4 : Vec Ideal S1x32x64x128 .f32) (x5 : Vec Ideal S4x3072 .f32) (x6 : Vec Ideal S1x3072 .f32) (x7 : Vec Ideal S1x128 .f32) (x8 : Vec Ideal S1x128 .f32) (x9 : Vec Ideal S1x128 .f32) (x10 : Vec Ideal S1x2048 .f32) (x11 : Vec Ideal S128x2048 .bf16) (d : Fin 2048) :
    @Eq EReal (k0_pay80 x0 x1 x2 x3 x4 x5 x6 x7 x8 x9 x10 x11 (ix2 0 d))
      (k0_pay72 x0 x1 x2 x3 x4 x5 x6 x7 x8 x9 x10 x11 (ix2 0 ⟨d.val, by omega⟩)
        * k0_pay4 (View.ld x2 r0_9) (View.ld x7 r0_10) (View.ld x11 r0_11) (ix2 0 d)) := by
  unfold k0_pay80
  generalize k0_pay72 x0 x1 x2 x3 x4 x5 x6 x7 x8 x9 x10 x11 = u
  pointwise [k0_pay14, k0_pay13]

end Cert.KernelIdeal.Sample

end
-- ==== Proof.SampleOut.lean ====
module

public import proofs.«01_k».proof.Proof.SampleIn

/-! The state-space step: the state that the kernel leaves in memory is the reference's new state. -/

@[expose] public section

set_option maxRecDepth 16384

noncomputable section

namespace Cert.KernelIdeal.Sample

open Cert.KernelIdeal Cert.KernelIdeal.Gen Idealize.ShloMosaic Idealize.ShloMosaic.TcCoe Idealize.SL.Sem
open Idealize.ShloMosaic.Pipeline (Dat)
open Cert.SampleRow Cert.Reals Cert.AttnRow

variable (m : (ℓ : Loc nD τ sig) → Buf (Elt Ideal) ℓ)

/-- What the claim assumes: the entries that the kernel splits into parts are numbers. -/
structure Hyp (c : Dev nD) : Prop where
  x : ∀ b j, IsReal ((m ((c : Thread nD τ).loc main_arg1) : FVec Ideal S32x3072 .f32) (ix2 b j))
  dt : ∀ b h, IsReal ((m ((c : Thread nD τ).loc main_arg2) : FVec Ideal S32x32 .f32) (ix2 b h))
  st : ∀ b i j, IsReal ((m ((c : Thread nD τ).loc main_arg3) : FVec Ideal S32x3x3072 .f32) (ix3 b i j))
  w : ∀ i j, IsReal ((m ((c : Thread nD τ).loc main_arg5) : FVec Ideal S4x3072 .f32) (ix2 i j))
  cb : ∀ j, IsReal ((m ((c : Thread nD τ).loc main_arg6) : FVec Ideal S3072 .f32) (ix1 j))
  db : ∀ h, IsReal ((m ((c : Thread nD τ).loc main_arg7) : FVec Ideal S32 .f32) (ix1 h))
  a : ∀ h, IsReal ((m ((c : Thread nD τ).loc main_arg8) : FVec Ideal S32 .f32) (ix1 h))
  dk : ∀ h, IsReal ((m ((c : Thread nD τ).loc main_arg9) : FVec Ideal S32 .f32) (ix1 h))

/-- The reference's convolved inputs. -/
def XX (c : Dev nD) : FVec Ideal S32x3072 .f32 :=
  Cert.ReferenceIdeal.Sample.X (Cert.ReferenceIdeal.Sample.U (m ((c : Thread nD τ).loc main_arg1)) (m ((c : Thread nD τ).loc main_arg3)) (m ((c : Thread nD τ).loc main_arg5)) (m ((c : Thread nD τ).loc main_arg6)))

/-- The reference's step sizes. -/
def DD (c : Dev nD) : FVec Ideal S32x32 .f32 := Cert.ReferenceIdeal.Sample.Dt (m ((c : Thread nD τ).loc main_arg2)) (m ((c : Thread nD τ).loc main_arg7))

theorem XX_real {c : Dev nD} (hyp : Hyp m c) (b : Fin 32) (j : Fin 3072) : IsReal (XX m c (ix2 b j)) := by
  unfold XX
  rw [Cert.ReferenceIdeal.Sample.X_at, Cert.ReferenceIdeal.Sample.U_at]
  refine silu_real (conv_real (fun i => ?_) (fun i => hyp.w i j) (hyp.cb j))
  fin_cases i
  exacts [hyp.st b 0 j, hyp.st b 1 j, hyp.st b 2 j, hyp.x b j]

theorem DD_real {c : Dev nD} (hyp : Hyp m c) (b : Fin 32) (h : Fin 32) : IsReal (DD m c (ix2 b h)) := by
  unfold DD
  rw [Cert.ReferenceIdeal.Sample.Dt_at]
  exact soft_real ((hyp.dt b h).add (hyp.db h))

theorem x_at (c : Dev nD) (t : Fin cfg0.N) (j : Fin 3072) :
    @Eq EReal (k0_pay72 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 0 j)) (XX m c (ix2 (row t) j)) := by
  unfold XX
  rw [Cert.ReferenceIdeal.Sample.X_at, Cert.ReferenceIdeal.Sample.U_at]
  refine (pay72_at _ _ _ _ _ _ _ _ _ _ _ _ j).trans ?_
  rw [b3 m c t 0 j, b3 m c t 1 j, b3 m c t 2 j, b1 m c t j, b6 m c t j]
  simp only [b5 m c t _ j]

/-- The raw step sizes with their bias: the reference's on the heads, and zero in the lanes after them. -/
theorem raw_at (c : Dev nD) (t : Fin cfg0.N) (k : Fin 128) :
    @Eq EReal (@HAdd.hAdd EReal EReal EReal _ ((iblk m c 2 t : FVec Ideal S1x1x128 .f32) (ix3 0 0 k)) ((iblk m c 7 t : FVec Ideal S1x128 .f32) (ix2 0 k)))
      (if h : k.val < 32 then @HAdd.hAdd EReal EReal EReal _ ((m ((c : Thread nD τ).loc main_arg2) : FVec Ideal S32x32 .f32) (ix2 (row t) ⟨k.val, h⟩))
        ((m ((c : Thread nD τ).loc main_arg7) : FVec Ideal S32 .f32) (ix1 ⟨k.val, h⟩)) else 0) := by
  rw [b2 m c t k, b7 m c t k]
  split_ifs
  · rfl
  · exact add_zero 0

theorem soft_raw {c : Dev nD} (hyp : Hyp m c) (t : Fin cfg0.N) (k : Fin 128) :
    IsReal (soft (@HAdd.hAdd EReal EReal EReal _ ((iblk m c 2 t : FVec Ideal S1x1x128 .f32) (ix3 0 0 k)) ((iblk m c 7 t : FVec Ideal S1x128 .f32) (ix2 0 k)))) := by
  refine soft_real ?_
  rw [raw_at]
  split_ifs with h
  · exact (hyp.dt _ _).add (hyp.db _)
  · exact IsReal.zero

/-- The step sizes, spread over the heads' columns. -/
theorem dt_at {c : Dev nD} (hyp : Hyp m c) (t : Fin cfg0.N) (d : Fin 2048) :
    @Eq EReal (k0_pay4 (F := Ideal) (View.ld (iblk m c 2 t) r0_9) (View.ld (iblk m c 7 t) r0_10) (View.ld (iblk m c 11 t) r0_11) (ix2 0 d))
      (DD m c (ix2 (row t) ⟨d.val / 64, by omega⟩)) := by
  unfold DD
  rw [Cert.ReferenceIdeal.Sample.Dt_at]
  refine (step_at _ _ _ d (soft_raw m hyp t) (fun k => b11 m c t k d)).trans (congrArg soft ?_)
  exact (raw_at m c t ⟨d.val / 64, by omega⟩).trans (dif_pos (show d.val / 64 < 32 by omega))

/-- The decays, spread over the heads' columns. -/
theorem da_at {c : Dev nD} (hyp : Hyp m c) (t : Fin cfg0.N) (d : Fin 2048) :
    @Eq EReal (k0_pay77 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 0 d))
      (Ideal.exp (DD m c (ix2 (row t) ⟨d.val / 64, by omega⟩)
        * -Ideal.exp ((m ((c : Thread nD τ).loc main_arg8) : FVec Ideal S32 .f32) (ix1 ⟨d.val / 64, by omega⟩)))) := by
  unfold DD
  rw [Cert.ReferenceIdeal.Sample.Dt_at]
  refine (pay77_at _ _ _ _ _ _ _ _ _ _ _ _ d (fun k => (soft_raw m hyp t k).mul ?_) (fun k => b11 m c t k d)).trans
    (congrArg Ideal.exp (congrArg₂ (· * ·) (congrArg soft ?_) ?_))
  · rw [b8 m c t k]
    split_ifs with h
    · exact (hyp.a _).exp.neg
    · exact IsReal.zero
  · exact (raw_at m c t ⟨d.val / 64, by omega⟩).trans (dif_pos (show d.val / 64 < 32 by omega))
  · exact (b8 m c t ⟨d.val / 64, by omega⟩).trans (dif_pos (show d.val / 64 < 32 by omega))

/-- The inputs times the step sizes. -/
theorem xdt_at {c : Dev nD} (hyp : Hyp m c) (t : Fin cfg0.N) (d : Fin 2048) :
    @Eq EReal (k0_pay80 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 0 d))
      (XX m c (ix2 (row t) ⟨d.val, by omega⟩) * DD m c (ix2 (row t) ⟨d.val / 64, by omega⟩)) :=
  (pay80_at _ _ _ _ _ _ _ _ _ _ _ _ d).trans (congrArg₂ (· * ·) (x_at m c t _) (dt_at m hyp t d))

/-- One sample's block of new states. -/
theorem new_at {c : Dev nD} (hyp : Hyp m c) (t : Fin cfg0.N) (h : Fin 32) (p : Fin 64) (n : Fin 128) :
    @Eq EReal (out0_13 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix4 0 h p n))
      (Cert.ReferenceIdeal.Sample.Hn (DD m c) (m ((c : Thread nD τ).loc main_arg8)) (m ((c : Thread nD τ).loc main_arg4)) (XX m c) (ix4 (row t) h p n)) := by
  rw [Cert.ReferenceIdeal.Sample.Hn_at]
  refine (tiles _ _ _ _ _ _ _ _ _ _ _ _ h p n (fun d => ?_) (fun d => ?_)).trans ?_
  · rw [da_at m hyp]
    exact ((DD_real m hyp _ _).mul (hyp.a _).exp.neg).exp
  · rw [xdt_at m hyp]
    exact (XX_real m hyp _ _).mul (DD_real m hyp _ _)
  · rw [da_at m hyp, xdt_at m hyp, x_at, b4]
    have q : (h.val * 64 + p.val) / 64 = h.val := by omega
    simp only [q]

/-- The new states when the kernel is done. -/
theorem final13 {c : Dev nD} (hyp : Hyp m c) :
    (dats m 0 c).arrAt 13 cfg0.N = Cert.ReferenceIdeal.Sample.Hn (DD m c) (m ((c : Thread nD τ).loc main_arg8)) (m ((c : Thread nD τ).loc main_arg4)) (XX m c) := by
  refine (dats m 0 c).arrAt_eq_of_covers 13 _ (by decide +kernel) fun t _ y => ?_
  blk_simp
  rw [after0_13]
  idx_vars y
  obtain rfl : y0 = 0 := Subsingleton.elim _ _
  refine (new_at m hyp t _ _ _).trans ?_
  unfold row
  blk_ext [idx t]

end Cert.KernelIdeal.Sample

end
-- ==== Proof.SampleGateRef.lean ====
module

public import proofs.«01_k».proof.Proof.SampleRef

/-! The reference of the state-space step: its first result, as a term of the new states and the convolved inputs, and
what it is at an element. -/

@[expose] public section

set_option maxRecDepth 16384

noncomputable section

namespace Cert.SampleRow

open Idealize.ShloMosaic Cert.Reals

/-- A number over the root mean square of its group of 512. -/
def normed (f : Fin 512 → EReal) (u : EReal) : EReal :=
  u * Ideal.rsqrt (Ideal.div (∑ k, f k * f k) (Ideal.ofBits .f32 0x44000000#32) + Ideal.ofBits .f32 0x358637BD#32)

end Cert.SampleRow

namespace Cert.ReferenceIdeal.Sample

open Cert.ReferenceIdeal Cert.ReferenceIdeal.Gen Idealize.ShloMosaic Idealize.ShloMosaic.TcCoe Idealize.SL.Sem
open Cert.SampleRow

/-- The gated row before its normalisation: the new state against the output weights, the skip, and the gate. -/
def Gt (hn : FVec Ideal S32x32x64x128 .f32) (x : FVec Ideal S32x3072 .f32) (a9 : FVec Ideal S32 .f32) (a0 : FVec Ideal S32x2048 .f32) :
    FVec Ideal S32x2048 .f32 :=
  mulf (shapeCast _ (addf (Host.reduceAdd (mulf hn (broadcastInDim S32x32x64x128 ![0, 1, 2, 3] bcast_S32x32x1x128_S32x32x64x128_0_1_2_3 (broadcastInDim S32x32x1x128 ![0, 1, 3] bcast_S32x32x128_S32x32x1x128_0_1_3 (shapeCast _ (broadcastInDim S32x4x8x128 ![0, 1, 3] bcast_S32x4x128_S32x4x8x128_0_1_3 (shapeCast _ (extractStridedSlice S32x512 ![0, 2560] x slices_S32x3072_S32x512_0_2560) shapeCasts_S32x512_S32x4x128)) shapeCasts_S32x4x8x128_S32x32x128)))) (constant S_ .f32 0x00000000#32) reducesTo_S32x32x64x128_S32x32x64_d3 h_S_) (mulf (broadcastInDim S32x32x64 ![0, 1, 2] bcast_S1x32x1_S32x32x64_0_1_2 (broadcastInDim S1x32x1 ![1, 2] bcast_S32x1_S1x32x1_1_2 (broadcastInDim S32x1 ![0] bcast_S32_S32x1_0 a9))) (shapeCast _ (extractStridedSlice S32x2048 ![0, 0] x slices_S32x3072_S32x2048_0_0) shapeCasts_S32x2048_S32x32x64))) shapeCasts_S32x32x64_S32x2048) (mulf a0 (Host.divf (broadcastInDim S32x2048 ![] bcast_S_S32x2048 (constant S_ .f32 0x3F800000#32)) (addf (broadcastInDim S32x2048 ![] bcast_S_S32x2048 (constant S_ .f32 0x3F800000#32)) (Host.exp (Host.negf a0)))))

/-- The gated row, normalised over each group of 512 columns. -/
def Yo (g : FVec Ideal S32x2048 .f32) (a10 : FVec Ideal S2048 .f32) : FVec Ideal S32x1x2048 .bf16 :=
  truncf .bf16 (shapeCast _ (mulf (mulf (shapeCast _ g shapeCasts_S32x2048_S32x4x512) (broadcastInDim S32x4x512 ![0, 1, 2] bcast_S32x4x1_S32x4x512_0_1_2 (Host.rsqrt (addf (Host.divf (broadcastInDim S32x4x1 ![0, 1] bcast_S32x4_S32x4x1_0_1 (Host.reduceAdd (mulf (shapeCast _ g shapeCasts_S32x2048_S32x4x512) (shapeCast _ g shapeCasts_S32x2048_S32x4x512)) (constant S_ .f32 0x00000000#32) reducesTo_S32x4x512_S32x4_d2 h_S_)) (broadcastInDim S32x4x1 ![] bcast_S_S32x4x1 (constant S_ .f32 0x44000000#32))) (broadcastInDim S32x4x1 ![] bcast_S_S32x4x1 (constant S_ .f32 0x358637BD#32)))))) (broadcastInDim S32x4x512 ![0, 1, 2] bcast_S1x4x512_S32x4x512_0_1_2 (broadcastInDim S1x4x512 ![1, 2] bcast_S4x512_S1x4x512_1_2 (shapeCast _ a10 shapeCasts_S2048_S4x512)))) shapeCasts_S32x4x512_S32x1x2048) bitsLt_bf16_f32

theorem Gt_at (hn : FVec Ideal S32x32x64x128 .f32) (x : FVec Ideal S32x3072 .f32) (a9 : FVec Ideal S32 .f32) (a0 : FVec Ideal S32x2048 .f32)
    (b : Fin 32) (d : Fin 2048) :
    @Eq EReal (Gt hn x a9 a0 (ix2 b d))
      ((∑ n : Fin 128, hn (ix4 b ⟨d.val / 64, by omega⟩ ⟨d.val % 64, by omega⟩ n) * x (ix2 b ⟨2560 + (d.val / 64 / 8 * 128 + n.val), by omega⟩)
        + a9 (ix1 ⟨d.val / 64, by omega⟩) * x (ix2 b ⟨d.val, by omega⟩)) * silu (a0 (ix2 b d))) := by
  unfold silu
  pointwise [Gt]

theorem Yo_at (g : FVec Ideal S32x2048 .f32) (a10 : FVec Ideal S2048 .f32) (b : Fin 32) (d : Fin 2048) :
    @Eq EReal (Yo g a10 (ix3 b 0 d))
      (normed (fun k => g (ix2 b ⟨d.val / 512 * 512 + k.val, by omega⟩)) (g (ix2 b d)) * a10 (ix1 d)) := by
  unfold normed
  pointwise [Yo]

end Cert.ReferenceIdeal.Sample

end
-- ==== Proof.SampleGate.lean ====
module

public import proofs.«01_k».proof.Proof.SampleOut
public import proofs.«01_k».proof.Proof.SampleGateRef

/-! The state-space step: what the kernel's body computes for its first result, from the new states to the gated and
normalised row. -/

@[expose] public section

set_option maxRecDepth 16384

noncomputable section

namespace Cert.KernelIdeal.Sample

open Cert.KernelIdeal Cert.KernelIdeal.Gen Idealize.ShloMosaic Idealize.ShloMosaic.TcCoe Idealize.SL.Sem
open Idealize.ShloMosaic.Pipeline (Dat)
open Cert.SampleRow Cert.Reals Cert.AttnRow

/-- The skip weights spread over the heads' columns. -/
theorem pay12_at (v83 : Vec Ideal S1x128 .f32) (v87 : Vec Ideal S128x2048 .bf16) (d : Fin 2048)
    (hr : ∀ k : Fin 128, IsReal (v83 (ix2 0 k)))
    (he : ∀ k : Fin 128, @Eq EReal (v87 (ix2 k d)) (if d.val / 64 = k.val then 1 else 0)) :
    @Eq EReal (k0_pay12 v83 v87 (ix2 0 d)) (v83 (ix2 0 ⟨d.val / 64, by omega⟩)) := by
  pointwise [k0_pay12]
  exact spread hr (q := d.val / 64) (by omega) he

/-- A number of a column, picked by its sum against a column of the unit square. -/
theorem pick (f : Fin 128 → EReal) (j : Fin 128) (e : Fin 128 → EReal) (he : ∀ k, e k = if k = j then 1 else 0) :
    ∑ k, f k * e k = f j := by
  simp [he]

theorem eye_at (k j : Fin 128) : @Eq EReal (k0_pay47 (F := Ideal) (ix2 k j)) (if k = j then 1 else 0) := by
  pointwise [k0_pay47]
  by_cases h : k = j
  · subst h
    simp [IntOp.cmpi, FloatOps.sitofp]
  · have hv : BitVec.ofNat 32 k.val ≠ BitVec.ofNat 32 j.val := fun e => h (Fin.ext (by
      have e' := congrArg BitVec.toNat e
      simp only [BitVec.toNat_ofNat] at e'
      omega))
    simp [IntOp.cmpi, FloatOps.sitofp, h, beq_false_of_ne hv]

/-! The sixteen pieces of the column, each laid as a row. -/

theorem row48_at (v155 v206 v257 : FVec Ideal S512x1 .f32) (v259 : FVec Ideal S1x128 .f32)
    (v293 v295 : FVec Ideal S512x128 .f32) (v296 : FVec Ideal S1x128 .bf16) (j : Fin 128) :
    @Eq EReal (k0_pay48 v155 v206 v257 v259 v293 v295 v296 (ix2 0 j)) (k0_pay46 v155 v206 v257 v259 v293 v295 v296 (ix2 ⟨0 + j.val, by omega⟩ 0)) := by
  unfold k0_pay48
  generalize k0_pay46 v155 v206 v257 v259 v293 v295 v296 = col
  pointwise
  refine (pick _ j _ fun k => eye_at k j).trans ?_
  blk_ext

theorem row49_at (v155 v206 v257 : FVec Ideal S512x1 .f32) (v259 : FVec Ideal S1x128 .f32)
    (v293 v295 : FVec Ideal S512x128 .f32) (v296 : FVec Ideal S1x128 .bf16) (j : Fin 128) :
    @Eq EReal (k0_pay49 v155 v206 v257 v259 v293 v295 v296 (ix2 0 j)) (k0_pay46 v155 v206 v257 v259 v293 v295 v296 (ix2 ⟨128 + j.val, by omega⟩ 0)) := by
  unfold k0_pay49
  generalize k0_pay46 v155 v206 v257 v259 v293 v295 v296 = col
  pointwise
  refine (pick _ j _ fun k => eye_at k j).trans ?_
  blk_ext

theorem row50_at (v155 v206 v257 : FVec Ideal S512x1 .f32) (v259 : FVec Ideal S1x128 .f32)
    (v293 v295 : FVec Ideal S512x128 .f32) (v296 : FVec Ideal S1x128 .bf16) (j : Fin 128) :
    @Eq EReal (k0_pay50 v155 v206 v257 v259 v293 v295 v296 (ix2 0 j)) (k0_pay46 v155 v206 v257 v259 v293 v295 v296 (ix2 ⟨256 + j.val, by omega⟩ 0)) := by
  unfold k0_pay50
  generalize k0_pay46 v155 v206 v257 v259 v293 v295 v296 = col
  pointwise
  refine (pick _ j _ fun k => eye_at k j).trans ?_
  blk_ext

theorem row51_at (v155 v206 v257 : FVec Ideal S512x1 .f32) (v259 : FVec Ideal S1x128 .f32)
    (v293 v295 : FVec Ideal S512x128 .f32) (v296 : FVec Ideal S1x128 .bf16) (j : Fin 128) :
    @Eq EReal (k0_pay51 v155 v206 v257 v259 v293 v295 v296 (ix2 0 j)) (k0_pay46 v155 v206 v257 v259 v293 v295 v296 (ix2 ⟨384 + j.val, by omega⟩ 0)) := by
  unfold k0_pay51
  generalize k0_pay46 v155 v206 v257 v259 v293 v295 v296 = col
  pointwise
  refine (pick _ j _ fun k => eye_at k j).trans ?_
  blk_ext

theorem row52_at (v155 v206 v257 : FVec Ideal S512x1 .f32) (v259 : FVec Ideal S1x128 .f32)
    (v293 v295 : FVec Ideal S512x128 .f32) (v296 : FVec Ideal S1x128 .bf16) (j : Fin 128) :
    @Eq EReal (k0_pay52 v155 v206 v257 v259 v293 v295 v296 (ix2 0 j)) (k0_pay46 v155 v206 v257 v259 v293 v295 v296 (ix2 ⟨512 + j.val, by omega⟩ 0)) := by
  unfold k0_pay52
  generalize k0_pay46 v155 v206 v257 v259 v293 v295 v296 = col
  pointwise
  refine (pick _ j _ fun k => eye_at k j).trans ?_
  blk_ext

theorem row53_at (v155 v206 v257 : FVec Ideal S512x1 .f32) (v259 : FVec Ideal S1x128 .f32)
    (v293 v295 : FVec Ideal S512x128 .f32) (v296 : FVec Ideal S1x128 .bf16) (j : Fin 128) :
    @Eq EReal (k0_pay53 v155 v206 v257 v259 v293 v295 v296 (ix2 0 j)) (k0_pay46 v155 v206 v257 v259 v293 v295 v296 (ix2 ⟨640 + j.val, by omega⟩ 0)) := by
  unfold k0_pay53
  generalize k0_pay46 v155 v206 v257 v259 v293 v295 v296 = col
  pointwise
  refine (pick _ j _ fun k => eye_at k j).trans ?_
  blk_ext

theorem row54_at (col : FVec Ideal S2048x1 .f32) (j : Fin 128) :
    @Eq EReal (k0_pay54 col (k0_pay47 (F := Ideal)) (ix2 0 j)) (col (ix2 ⟨768 + j.val, by omega⟩ 0)) := by
  pointwise [k0_pay54]
  exact pick (fun k => col (ix2 ⟨768 + k.val, by omega⟩ 0)) j _ fun k => eye_at k j

theorem row55_at (col : FVec Ideal S2048x1 .f32) (j : Fin 128) :
    @Eq EReal (k0_pay55 col (k0_pay47 (F := Ideal)) (ix2 0 j)) (col (ix2 ⟨896 + j.val, by omega⟩ 0)) := by
  pointwise [k0_pay55]
  exact pick (fun k => col (ix2 ⟨896 + k.val, by omega⟩ 0)) j _ fun k => eye_at k j

theorem row56_at (col : FVec Ideal S2048x1 .f32) (j : Fin 128) :
    @Eq EReal (k0_pay56 col (k0_pay47 (F := Ideal)) (ix2 0 j)) (col (ix2 ⟨1024 + j.val, by omega⟩ 0)) := by
  pointwise [k0_pay56]
  exact pick (fun k => col (ix2 ⟨1024 + k.val, by omega⟩ 0)) j _ fun k => eye_at k j

theorem row57_at (col : FVec Ideal S2048x1 .f32) (j : Fin 128) :
    @Eq EReal (k0_pay57 col (k0_pay47 (F := Ideal)) (ix2 0 j)) (col (ix2 ⟨1152 + j.val, by omega⟩ 0)) := by
  pointwise [k0_pay57]
  exact pick (fun k => col (ix2 ⟨1152 + k.val, by omega⟩ 0)) j _ fun k => eye_at k j

theorem row58_at (col : FVec Ideal S2048x1 .f32) (j : Fin 128) :
    @Eq EReal (k0_pay58 col (k0_pay47 (F := Ideal)) (ix2 0 j)) (col (ix2 ⟨1280 + j.val, by omega⟩ 0)) := by
  pointwise [k0_pay58]
  exact pick (fun k => col (ix2 ⟨1280 + k.val, by omega⟩ 0)) j _ fun k => eye_at k j

theorem row59_at (col : FVec Ideal S2048x1 .f32) (j : Fin 128) :
    @Eq EReal (k0_pay59 col (k0_pay47 (F := Ideal)) (ix2 0 j)) (col (ix2 ⟨1408 + j.val, by omega⟩ 0)) := by
  pointwise [k0_pay59]
  exact pick (fun k => col (ix2 ⟨1408 + k.val, by omega⟩ 0)) j _ fun k => eye_at k j

theorem row60_at (col : FVec Ideal S2048x1 .f32) (j : Fin 128) :
    @Eq EReal (k0_pay60 col (k0_pay47 (F := Ideal)) (ix2 0 j)) (col (ix2 ⟨1536 + j.val, by omega⟩ 0)) := by
  pointwise [k0_pay60]
  exact pick (fun k => col (ix2 ⟨1536 + k.val, by omega⟩ 0)) j _ fun k => eye_at k j

theorem row61_at (col : FVec Ideal S2048x1 .f32) (j : Fin 128) :
    @Eq EReal (k0_pay61 col (k0_pay47 (F := Ideal)) (ix2 0 j)) (col (ix2 ⟨1664 + j.val, by omega⟩ 0)) := by
  pointwise [k0_pay61]
  exact pick (fun k => col (ix2 ⟨1664 + k.val, by omega⟩ 0)) j _ fun k => eye_at k j

theorem row62_at (col : FVec Ideal S2048x1 .f32) (j : Fin 128) :
    @Eq EReal (k0_pay62 col (k0_pay47 (F := Ideal)) (ix2 0 j)) (col (ix2 ⟨1792 + j.val, by omega⟩ 0)) := by
  pointwise [k0_pay62]
  exact pick (fun k => col (ix2 ⟨1792 + k.val, by omega⟩ 0)) j _ fun k => eye_at k j

theorem row63_at (col : FVec Ideal S2048x1 .f32) (j : Fin 128) :
    @Eq EReal (k0_pay63 col (k0_pay47 (F := Ideal)) (ix2 0 j)) (col (ix2 ⟨1920 + j.val, by omega⟩ 0)) := by
  pointwise [k0_pay63]
  exact pick (fun k => col (ix2 ⟨1920 + k.val, by omega⟩ 0)) j _ fun k => eye_at k j

/-- Sixteen rows beside each other, each a piece of one function. -/
theorem rows_at (r : Fin 16 → FVec Ideal S1x128 .f32) (f : Fin 2048 → EReal)
    (h : ∀ (n : Fin 16) (j : Fin 128), @Eq EReal (r n (ix2 0 j)) (f ⟨128 * n.val + j.val, by omega⟩)) (d : Fin 2048) :
    @Eq EReal (concatenate S1x2048 1 [⟨S1x128, r 0⟩, ⟨S1x128, r 1⟩, ⟨S1x128, r 2⟩, ⟨S1x128, r 3⟩, ⟨S1x128, r 4⟩, ⟨S1x128, r 5⟩, ⟨S1x128, r 6⟩, ⟨S1x128, r 7⟩, ⟨S1x128, r 8⟩, ⟨S1x128, r 9⟩, ⟨S1x128, r 10⟩, ⟨S1x128, r 11⟩, ⟨S1x128, r 12⟩, ⟨S1x128, r 13⟩, ⟨S1x128, r 14⟩, ⟨S1x128, r 15⟩] concatenates_S1x128_S1x128_S1x128_S1x128_S1x128_S1x128_S1x128_S1x128_S1x128_S1x128_S1x128_S1x128_S1x128_S1x128_S1x128_S1x128_S1x2048_d1 (ix2 0 d)) (f d) := by
  refine (concatenate_ofFn_apply (t := S1x2048) (s₁ := S1x128) 1 r concatenates_S1x128_S1x128_S1x128_S1x128_S1x128_S1x128_S1x128_S1x128_S1x128_S1x128_S1x128_S1x128_S1x128_S1x128_S1x128_S1x128_S1x2048_d1 rfl 128 rfl (ix2 0 d) ⟨d.val / 128, by omega⟩ rfl
    (ix2 0 ⟨d.val % 128, by omega⟩) rfl ?_).trans ?_
  · intro b hb
    fin_cases b
    · rfl
    · exact absurd rfl hb
  · refine (h _ _).trans (congrArg f (Fin.ext ?_))
    show 128 * (d.val / 128) + d.val % 128 = d.val
    omega

/-- The rows beside each other, with the skip, under the gate. -/
theorem gate_at (v101 v102 : FVec Ideal S1x2048 .f32) (r : Fin 16 → FVec Ideal S1x128 .f32) (z : Vec Ideal S1x1x2048 .f32) (f : Fin 2048 → EReal)
    (h : ∀ (n : Fin 16) (j : Fin 128), @Eq EReal (r n (ix2 0 j)) (f ⟨128 * n.val + j.val, by omega⟩)) (d : Fin 2048) :
    @Eq EReal (k0_pay64 v101 v102 (r 0) (r 1) (r 2) (r 3) (r 4) (r 5) (r 6) (r 7) (r 8) (r 9) (r 10) (r 11) (r 12) (r 13) (r 14) (r 15) z (ix2 0 d)) ((f d + v101 (ix2 0 d) * v102 (ix2 0 d)) * silu (z (ix3 0 0 d))) := by
  have e := rows_at r f h d
  unfold silu
  unfold k0_pay64
  revert e
  generalize concatenate S1x2048 1 [⟨S1x128, r 0⟩, ⟨S1x128, r 1⟩, ⟨S1x128, r 2⟩, ⟨S1x128, r 3⟩, ⟨S1x128, r 4⟩, ⟨S1x128, r 5⟩, ⟨S1x128, r 6⟩, ⟨S1x128, r 7⟩, ⟨S1x128, r 8⟩, ⟨S1x128, r 9⟩, ⟨S1x128, r 10⟩, ⟨S1x128, r 11⟩, ⟨S1x128, r 12⟩, ⟨S1x128, r 13⟩, ⟨S1x128, r 14⟩, ⟨S1x128, r 15⟩] concatenates_S1x128_S1x128_S1x128_S1x128_S1x128_S1x128_S1x128_S1x128_S1x128_S1x128_S1x128_S1x128_S1x128_S1x128_S1x128_S1x128_S1x2048_d1 = K
  intro e
  rw [← e]
  pointwise
  rw [zero_sub]

/-- The first group's products of the new states with the output weights, summed. -/
theorem q0_at (v103 : FVec Ideal S1x2048 .f32) (v29 : FVec Ideal S1x3072 .f32) (v68 : FVec Ideal S128x2048 .bf16)
    (v69 v72 : FVec Ideal S8x128 .bf16) (v74 : FVec Ideal S8x128 .f32) (v137 : Vec Ideal S1x8x64x128 .f32) (i : Fin 512)
    (hd : ∀ d : Fin 2048, IsReal (k0_pay11 v68 v69 v72 v74 (ix2 0 d))) (hx : ∀ d : Fin 2048, IsReal (v103 (ix2 0 d))) :
    @Eq EReal (k0_pay26 v103 (k0_pay15 (F := Ideal)) (k0_pay16 v29) (k0_pay17 v29) (k0_pay22 v68 v69 v72 v74) (k0_pay23 v68 v69 v72 v74) v137 (ix2 i 0))
      (∑ n : Fin 128, (k0_pay11 v68 v69 v72 v74 (ix2 0 ⟨i.val, by omega⟩) * v137 (ix4 0 ⟨i.val / 64, by omega⟩ ⟨i.val % 64, by omega⟩ n)
        + v103 (ix2 0 ⟨i.val, by omega⟩) * v29 (ix2 0 ⟨2048 + n.val, by omega⟩)) * v29 (ix2 0 ⟨2560 + n.val, by omega⟩)) := by
  pointwise [k0_pay26, k0_pay24, k0_pay22, k0_pay23, k0_pay21, k0_pay20, k0_pay19, k0_pay18, k0_pay17, k0_pay16, k0_pay15]
  simp [(hd ⟨i.val, by omega⟩).sub_self, (hx ⟨i.val, by omega⟩).sub_self]

/-- The second group's. -/
theorem q1_at (v103 : FVec Ideal S1x2048 .f32) (v29 : FVec Ideal S1x3072 .f32) (v82 : FVec Ideal S1x2048 .f32) (v137 : Vec Ideal S1x8x64x128 .f32) (i : Fin 512)
    (hd : ∀ d : Fin 2048, IsReal (v82 (ix2 0 d))) (hx : ∀ d : Fin 2048, IsReal (v103 (ix2 0 d))) :
    @Eq EReal (k0_pay34 v103 (k0_pay15 (F := Ideal)) (k0_pay27 v29) (k0_pay28 v29) (k0_pay30 v82) (k0_pay31 v82) v137 (ix2 i 0))
      (∑ n : Fin 128, (v82 (ix2 0 ⟨512 + i.val, by omega⟩) * v137 (ix4 0 ⟨i.val / 64, by omega⟩ ⟨i.val % 64, by omega⟩ n)
        + v103 (ix2 0 ⟨512 + i.val, by omega⟩) * v29 (ix2 0 ⟨2176 + n.val, by omega⟩)) * v29 (ix2 0 ⟨2688 + n.val, by omega⟩)) := by
  pointwise [k0_pay34, k0_pay32, k0_pay27, k0_pay28, k0_pay31, k0_pay30, k0_pay29, k0_pay15]
  simp [(hd ⟨512 + i.val, by omega⟩).sub_self, (hx ⟨512 + i.val, by omega⟩).sub_self]

/-- The third group's. -/
theorem q2_at (v103 : FVec Ideal S1x2048 .f32) (v29 : FVec Ideal S1x3072 .f32) (v82 : FVec Ideal S1x2048 .f32) (v137 : Vec Ideal S1x8x64x128 .f32) (i : Fin 512)
    (hd : ∀ d : Fin 2048, IsReal (v82 (ix2 0 d))) (hx : ∀ d : Fin 2048, IsReal (v103 (ix2 0 d))) :
    @Eq EReal (k0_pay39 (k0_pay35 v29) (k0_pay36 v29 v82 v103 (k0_pay15 (F := Ideal)) v137) (ix2 i 0))
      (∑ n : Fin 128, (v82 (ix2 0 ⟨1024 + i.val, by omega⟩) * v137 (ix4 0 ⟨i.val / 64, by omega⟩ ⟨i.val % 64, by omega⟩ n)
        + v103 (ix2 0 ⟨1024 + i.val, by omega⟩) * v29 (ix2 0 ⟨2304 + n.val, by omega⟩)) * v29 (ix2 0 ⟨2816 + n.val, by omega⟩)) := by
  pointwise [k0_pay39, k0_pay36, k0_pay35, k0_pay15]
  simp [(hd ⟨1024 + i.val, by omega⟩).sub_self, (hx ⟨1024 + i.val, by omega⟩).sub_self]

/-- The column of the weighted sums of all four groups. -/
def Y (da xdt : FVec Ideal S1x2048 .f32) (x : FVec Ideal S1x3072 .f32) (s : Vec Ideal S1x32x64x128 .f32) (i : Fin 2048) : EReal :=
  ∑ n : Fin 128, (da (ix2 0 i) * s (ix4 0 ⟨i.val / 64, by omega⟩ ⟨i.val % 64, by omega⟩ n)
    + xdt (ix2 0 i) * x (ix2 0 ⟨2048 + (i.val / 64 / 8 * 128 + n.val), by omega⟩)) * x (ix2 0 ⟨2560 + (i.val / 64 / 8 * 128 + n.val), by omega⟩)

theorem col_at (v29 : FVec Ideal S1x3072 .f32) (v103 v82 : FVec Ideal S1x2048 .f32) (v155 v206 v257 : FVec Ideal S512x1 .f32) (s : Vec Ideal S1x32x64x128 .f32)
    (h0 : ∀ i : Fin 512, @Eq EReal (v155 (ix2 i 0)) (Y v82 v103 v29 s ⟨i.val, by omega⟩))
    (h1 : ∀ i : Fin 512, @Eq EReal (v206 (ix2 i 0)) (Y v82 v103 v29 s ⟨512 + i.val, by omega⟩))
    (h2 : ∀ i : Fin 512, @Eq EReal (v257 (ix2 i 0)) (Y v82 v103 v29 s ⟨1024 + i.val, by omega⟩))
    (hd : ∀ d : Fin 2048, IsReal (v82 (ix2 0 d))) (hx : ∀ d : Fin 2048, IsReal (v103 (ix2 0 d))) (i : Fin 2048) :
    @Eq EReal (k0_pay46 v155 v206 v257 (k0_pay40 v29) (k0_pay41 v82 (k0_pay15 (F := Ideal)) (View.ld s r0_15)) (k0_pay42 v103 (k0_pay15 (F := Ideal))) (k0_pay43 v29) (ix2 i 0))
      (Y v82 v103 v29 s i) := by
  pointwise [k0_pay46, k0_pay44, k0_pay43, k0_pay42, k0_pay41, k0_pay40, k0_pay15]
  by_cases e0 : i.val < 512
  · rw [dif_pos e0]
    exact h0 _
  rw [dif_neg e0]
  by_cases e1 : i.val - 512 < 512
  · rw [dif_pos e1]
    refine (h1 _).trans (congrArg (Y v82 v103 v29 s) (Fin.ext ?_))
    show 512 + (i.val - 512) = i.val
    omega
  rw [dif_neg e1]
  by_cases e2 : i.val - 512 - 512 < 512
  · rw [dif_pos e2]
    refine (h2 _).trans (congrArg (Y v82 v103 v29 s) (Fin.ext ?_))
    show 1024 + (i.val - 512 - 512) = i.val
    omega
  rw [dif_neg e2]
  have q : (⟨1536 + (i.val - 512 - 512 - 512), by omega⟩ : Fin 2048) = i := Fin.ext (by
    show 1536 + (i.val - 512 - 512 - 512) = i.val
    omega)
  have q1 : (⟨24 + (i.val - 512 - 512 - 512) / 64, by omega⟩ : Fin 32) = ⟨i.val / 64, by omega⟩ := Fin.ext (by
    show 24 + (i.val - 512 - 512 - 512) / 64 = i.val / 64
    omega)
  have q2 : (⟨(i.val - 512 - 512 - 512) % 64, by omega⟩ : Fin 64) = ⟨i.val % 64, by omega⟩ := Fin.ext (by
    show (i.val - 512 - 512 - 512) % 64 = i.val % 64
    omega)
  have q3 : i.val / 64 / 8 = 3 := by omega
  unfold Y
  simp only [q, q1, q2, q3]
  simp [(hd i).sub_self, (hx i).sub_self]
  refine Finset.sum_congr rfl fun n _ => ?_
  refine congrArg₂ (· * ·) (congrArg₂ (· + ·) rfl (congrArg₂ (· * ·) rfl ?_)) ?_
  · blk_ext
  · blk_ext

/-! The four stores of the first result: one group each, normalised. -/

theorem n3_at (v : FVec Ideal S1x2048 .f32) (g : Vec Ideal S1x512 .f32) (j : Fin 512) :
    @Eq EReal (k0_pay1 (k0_pay71 v g) (ix3 0 0 j))
      (normed (fun k => v (ix2 0 ⟨1536 + k.val, by omega⟩)) (v (ix2 0 ⟨1536 + j.val, by omega⟩)) * g (ix2 0 j)) := by
  unfold normed
  pointwise [k0_pay1, k0_pay71]

theorem n2_at (v : FVec Ideal S1x2048 .f32) (g : Vec Ideal S1x512 .f32) (j : Fin 512) :
    @Eq EReal (k0_pay70 v g (ix3 0 0 j))
      (normed (fun k => v (ix2 0 ⟨1024 + k.val, by omega⟩)) (v (ix2 0 ⟨1024 + j.val, by omega⟩)) * g (ix2 0 j)) := by
  unfold normed
  pointwise [k0_pay70]

theorem n1_at (v101 v102 : FVec Ideal S1x2048 .f32) (r0 r1 r2 r3 r4 r5 r6 r7 r8 r9 r10 r11 r12 r13 r14 r15 : FVec Ideal S1x128 .f32) (z : Vec Ideal S1x1x2048 .f32)
    (v : FVec Ideal S1x2048 .f32) (hv : k0_pay64 v101 v102 r0 r1 r2 r3 r4 r5 r6 r7 r8 r9 r10 r11 r12 r13 r14 r15 z = v) (g : Vec Ideal S1x512 .f32) (j : Fin 512) :
    @Eq EReal (k0_pay69 (k0_pay66 v101 v102 r0 r1 r2 r3 r4 r5 r6 r7 r8 r9 r10 r11 r12 r13 r14 r15 z) (k0_pay67 g) (k0_pay68 v101 v102 r0 r1 r2 r3 r4 r5 r6 r7 r8 r9 r10 r11 r12 r13 r14 r15 z) (Scalar.ofBits .f32 0x358637BD#32) (ix3 0 0 j))
      (normed (fun k => v (ix2 0 ⟨512 + k.val, by omega⟩)) (v (ix2 0 ⟨512 + j.val, by omega⟩)) * g (ix2 0 j)) := by
  unfold normed
  unfold k0_pay68 k0_pay66
  rw [hv]
  pointwise [k0_pay69, k0_pay67]

theorem n0_at (v101 v102 : FVec Ideal S1x2048 .f32) (r0 r1 r2 r3 r4 r5 r6 r7 r8 r9 r10 r11 r12 r13 r14 r15 : FVec Ideal S1x128 .f32) (z : Vec Ideal S1x1x2048 .f32)
    (v : FVec Ideal S1x2048 .f32) (hv : k0_pay64 v101 v102 r0 r1 r2 r3 r4 r5 r6 r7 r8 r9 r10 r11 r12 r13 r14 r15 z = v) (g : Vec Ideal S1x512 .f32) (j : Fin 512) :
    @Eq EReal (k0_pay65 v101 v102 r0 r1 r2 r3 r4 r5 r6 r7 r8 r9 r10 r11 r12 r13 r14 r15 z g (ix3 0 0 j))
      (normed (fun k => v (ix2 0 ⟨k.val, by omega⟩)) (v (ix2 0 ⟨j.val, by omega⟩)) * g (ix2 0 j)) := by
  unfold normed
  unfold k0_pay65
  rw [hv]
  pointwise

end Cert.KernelIdeal.Sample

end
-- ==== Proof.SampleGateIn.lean ====
module

public import proofs.«01_k».proof.Proof.SampleGate

/-! The state-space step: the first result's block of one sample, from the blocks that the body reads. -/

@[expose] public section

set_option maxRecDepth 16384

noncomputable section

namespace Cert.KernelIdeal.Sample

open Cert.KernelIdeal Cert.KernelIdeal.Gen Idealize.ShloMosaic Idealize.ShloMosaic.TcCoe Idealize.SL.Sem
open Idealize.ShloMosaic.Pipeline (Dat)
open Cert.SampleRow Cert.Reals Cert.AttnRow

theorem ldst0 (s : Vec Ideal S1x32x64x128 .f32) (i : Fin 512) (n : Fin 128) :
    @Eq EReal (View.ld s r0_12 (ix4 0 ⟨i.val / 64, by omega⟩ ⟨i.val % 64, by omega⟩ n))
      (s (ix4 0 ⟨(0 + i.val) / 64, by omega⟩ ⟨(0 + i.val) % 64, by omega⟩ n)) :=
  View.ld_unit_apply_of s _ _ _ _ (ix4 0 ⟨(0 + i.val) / 64, by omega⟩ ⟨(0 + i.val) % 64, by omega⟩ n) fun a => by
    fin_cases a
    · rfl
    · show (0 + i.val) / 64 = 0 + i.val / 64
      omega
    · show (0 + i.val) % 64 = 0 + i.val % 64
      omega
    · exact (Nat.zero_add _).symm

theorem ldst1 (s : Vec Ideal S1x32x64x128 .f32) (i : Fin 512) (n : Fin 128) :
    @Eq EReal (View.ld s r0_13 (ix4 0 ⟨i.val / 64, by omega⟩ ⟨i.val % 64, by omega⟩ n))
      (s (ix4 0 ⟨(512 + i.val) / 64, by omega⟩ ⟨(512 + i.val) % 64, by omega⟩ n)) :=
  View.ld_unit_apply_of s _ _ _ _ (ix4 0 ⟨(512 + i.val) / 64, by omega⟩ ⟨(512 + i.val) % 64, by omega⟩ n) fun a => by
    fin_cases a
    · rfl
    · show (512 + i.val) / 64 = 8 + i.val / 64
      omega
    · show (512 + i.val) % 64 = 0 + i.val % 64
      omega
    · exact (Nat.zero_add _).symm

theorem ldst2 (s : Vec Ideal S1x32x64x128 .f32) (i : Fin 512) (n : Fin 128) :
    @Eq EReal (View.ld s r0_14 (ix4 0 ⟨i.val / 64, by omega⟩ ⟨i.val % 64, by omega⟩ n))
      (s (ix4 0 ⟨(1024 + i.val) / 64, by omega⟩ ⟨(1024 + i.val) % 64, by omega⟩ n)) :=
  View.ld_unit_apply_of s _ _ _ _ (ix4 0 ⟨(1024 + i.val) / 64, by omega⟩ ⟨(1024 + i.val) % 64, by omega⟩ n) fun a => by
    fin_cases a
    · rfl
    · show (1024 + i.val) / 64 = 16 + i.val / 64
      omega
    · show (1024 + i.val) % 64 = 0 + i.val % 64
      omega
    · exact (Nat.zero_add _).symm

/-- The column of weighted sums, from the blocks. -/
theorem pay95_at (x0 : Vec Ideal S1x1x2048 .f32) (x1 : Vec Ideal S1x1x3072 .f32) (x2 : Vec Ideal S1x1x128 .f32) (x3 : Vec Ideal S1x3x3072 .f32) (x4 : Vec Ideal S1x32x64x128 .f32) (x5 : Vec Ideal S4x3072 .f32) (x6 : Vec Ideal S1x3072 .f32) (x7 : Vec Ideal S1x128 .f32) (x8 : Vec Ideal S1x128 .f32) (x9 : Vec Ideal S1x128 .f32) (x10 : Vec Ideal S1x2048 .f32) (x11 : Vec Ideal S128x2048 .bf16) (i : Fin 2048)
    (hd : ∀ d : Fin 2048, IsReal (k0_pay77 x0 x1 x2 x3 x4 x5 x6 x7 x8 x9 x10 x11 (ix2 0 d))) (hx : ∀ d : Fin 2048, IsReal (k0_pay80 x0 x1 x2 x3 x4 x5 x6 x7 x8 x9 x10 x11 (ix2 0 d))) :
    @Eq EReal (k0_pay95 x0 x1 x2 x3 x4 x5 x6 x7 x8 x9 x10 x11 (ix2 i 0)) (Y (k0_pay77 x0 x1 x2 x3 x4 x5 x6 x7 x8 x9 x10 x11) (k0_pay80 x0 x1 x2 x3 x4 x5 x6 x7 x8 x9 x10 x11) (k0_pay72 x0 x1 x2 x3 x4 x5 x6 x7 x8 x9 x10 x11) x4 i) := by
  unfold k0_pay95
  refine col_at (k0_pay72 x0 x1 x2 x3 x4 x5 x6 x7 x8 x9 x10 x11) (k0_pay80 x0 x1 x2 x3 x4 x5 x6 x7 x8 x9 x10 x11) (k0_pay77 x0 x1 x2 x3 x4 x5 x6 x7 x8 x9 x10 x11) (k0_pay85 x0 x1 x2 x3 x4 x5 x6 x7 x8 x9 x10 x11) (k0_pay89 x0 x1 x2 x3 x4 x5 x6 x7 x8 x9 x10 x11) (k0_pay90 x0 x1 x2 x3 x4 x5 x6 x7 x8 x9 x10 x11) x4 (fun i => ?_) (fun i => ?_) (fun i => ?_) hd hx i
  · unfold k0_pay85
    refine (q0_at (k0_pay80 x0 x1 x2 x3 x4 x5 x6 x7 x8 x9 x10 x11) (k0_pay72 x0 x1 x2 x3 x4 x5 x6 x7 x8 x9 x10 x11) (k0_pay73 x0 x1 x2 x3 x4 x5 x6 x7 x8 x9 x10 x11) (k0_pay74 x0 x1 x2 x3 x4 x5 x6 x7 x8 x9 x10 x11) (k0_pay75 x0 x1 x2 x3 x4 x5 x6 x7 x8 x9 x10 x11) (k0_pay76 x0 x1 x2 x3 x4 x5 x6 x7 x8 x9 x10 x11) (View.ld x4 r0_12) i hd hx).trans ?_
    unfold Y
    refine Finset.sum_congr rfl fun n _ => ?_
    rw [ldst0]
    have q : (0 + i.val) = i.val := Nat.zero_add _
    have q3 : i.val / 64 / 8 = 0 := by omega
    simp only [q, q3, Nat.zero_mul, Nat.zero_add]
    rfl
  · unfold k0_pay89
    refine (q1_at (k0_pay80 x0 x1 x2 x3 x4 x5 x6 x7 x8 x9 x10 x11) (k0_pay72 x0 x1 x2 x3 x4 x5 x6 x7 x8 x9 x10 x11) (k0_pay77 x0 x1 x2 x3 x4 x5 x6 x7 x8 x9 x10 x11) (View.ld x4 r0_13) i hd hx).trans ?_
    unfold Y
    refine Finset.sum_congr rfl fun n _ => ?_
    rw [ldst1]
    have q3 : (512 + i.val) / 64 / 8 = 1 := by omega
    refine congrArg₂ (· * ·) (congrArg₂ (· + ·) rfl (congrArg₂ (· * ·) rfl ?_)) ?_
    · refine congrArg (fun q => (k0_pay72 x0 x1 x2 x3 x4 x5 x6 x7 x8 x9 x10 x11) (ix2 0 q)) (Fin.ext ?_)
      show 2176 + n.val = 2048 + ((512 + i.val) / 64 / 8 * 128 + n.val)
      omega
    · refine congrArg (fun q => (k0_pay72 x0 x1 x2 x3 x4 x5 x6 x7 x8 x9 x10 x11) (ix2 0 q)) (Fin.ext ?_)
      show 2688 + n.val = 2560 + ((512 + i.val) / 64 / 8 * 128 + n.val)
      omega
  · unfold k0_pay90
    refine (q2_at (k0_pay80 x0 x1 x2 x3 x4 x5 x6 x7 x8 x9 x10 x11) (k0_pay72 x0 x1 x2 x3 x4 x5 x6 x7 x8 x9 x10 x11) (k0_pay77 x0 x1 x2 x3 x4 x5 x6 x7 x8 x9 x10 x11) (View.ld x4 r0_14) i hd hx).trans ?_
    unfold Y
    refine Finset.sum_congr rfl fun n _ => ?_
    rw [ldst2]
    refine congrArg₂ (· * ·) (congrArg₂ (· + ·) rfl (congrArg₂ (· * ·) rfl ?_)) ?_
    · refine congrArg (fun q => (k0_pay72 x0 x1 x2 x3 x4 x5 x6 x7 x8 x9 x10 x11) (ix2 0 q)) (Fin.ext ?_)
      show 2304 + n.val = 2048 + ((1024 + i.val) / 64 / 8 * 128 + n.val)
      omega
    · refine congrArg (fun q => (k0_pay72 x0 x1 x2 x3 x4 x5 x6 x7 x8 x9 x10 x11) (ix2 0 q)) (Fin.ext ?_)
      show 2816 + n.val = 2560 + ((1024 + i.val) / 64 / 8 * 128 + n.val)
      omega

/-- The gated row, from the blocks. -/
theorem pay113_at (x0 : Vec Ideal S1x1x2048 .f32) (x1 : Vec Ideal S1x1x3072 .f32) (x2 : Vec Ideal S1x1x128 .f32) (x3 : Vec Ideal S1x3x3072 .f32) (x4 : Vec Ideal S1x32x64x128 .f32) (x5 : Vec Ideal S4x3072 .f32) (x6 : Vec Ideal S1x3072 .f32) (x7 : Vec Ideal S1x128 .f32) (x8 : Vec Ideal S1x128 .f32) (x9 : Vec Ideal S1x128 .f32) (x10 : Vec Ideal S1x2048 .f32) (x11 : Vec Ideal S128x2048 .bf16) (d : Fin 2048)
    (hd : ∀ d : Fin 2048, IsReal (k0_pay77 x0 x1 x2 x3 x4 x5 x6 x7 x8 x9 x10 x11 (ix2 0 d))) (hx : ∀ d : Fin 2048, IsReal (k0_pay80 x0 x1 x2 x3 x4 x5 x6 x7 x8 x9 x10 x11 (ix2 0 d)))
    (hk : ∀ k : Fin 128, IsReal (x9 (ix2 0 k)))
    (he : ∀ k : Fin 128, @Eq EReal (x11 (ix2 k d)) (if d.val / 64 = k.val then 1 else 0)) :
    @Eq EReal (k0_pay113 x0 x1 x2 x3 x4 x5 x6 x7 x8 x9 x10 x11 (ix2 0 d))
      ((Y (k0_pay77 x0 x1 x2 x3 x4 x5 x6 x7 x8 x9 x10 x11) (k0_pay80 x0 x1 x2 x3 x4 x5 x6 x7 x8 x9 x10 x11) (k0_pay72 x0 x1 x2 x3 x4 x5 x6 x7 x8 x9 x10 x11) x4 d + x9 (ix2 0 ⟨d.val / 64, by omega⟩) * k0_pay72 x0 x1 x2 x3 x4 x5 x6 x7 x8 x9 x10 x11 (ix2 0 ⟨d.val, by omega⟩)) * silu (x0 (ix3 0 0 d))) := by
  unfold k0_pay113
  refine (gate_at (k0_pay78 x0 x1 x2 x3 x4 x5 x6 x7 x8 x9 x10 x11) (k0_pay79 x0 x1 x2 x3 x4 x5 x6 x7 x8 x9 x10 x11) ![k0_pay97 x0 x1 x2 x3 x4 x5 x6 x7 x8 x9 x10 x11, k0_pay98 x0 x1 x2 x3 x4 x5 x6 x7 x8 x9 x10 x11, k0_pay99 x0 x1 x2 x3 x4 x5 x6 x7 x8 x9 x10 x11, k0_pay100 x0 x1 x2 x3 x4 x5 x6 x7 x8 x9 x10 x11, k0_pay101 x0 x1 x2 x3 x4 x5 x6 x7 x8 x9 x10 x11, k0_pay102 x0 x1 x2 x3 x4 x5 x6 x7 x8 x9 x10 x11, k0_pay103 x0 x1 x2 x3 x4 x5 x6 x7 x8 x9 x10 x11, k0_pay104 x0 x1 x2 x3 x4 x5 x6 x7 x8 x9 x10 x11, k0_pay105 x0 x1 x2 x3 x4 x5 x6 x7 x8 x9 x10 x11, k0_pay106 x0 x1 x2 x3 x4 x5 x6 x7 x8 x9 x10 x11, k0_pay107 x0 x1 x2 x3 x4 x5 x6 x7 x8 x9 x10 x11, k0_pay108 x0 x1 x2 x3 x4 x5 x6 x7 x8 x9 x10 x11, k0_pay109 x0 x1 x2 x3 x4 x5 x6 x7 x8 x9 x10 x11, k0_pay110 x0 x1 x2 x3 x4 x5 x6 x7 x8 x9 x10 x11, k0_pay111 x0 x1 x2 x3 x4 x5 x6 x7 x8 x9 x10 x11, k0_pay112 x0 x1 x2 x3 x4 x5 x6 x7 x8 x9 x10 x11] (View.ld x0 r0_16) (Y (k0_pay77 x0 x1 x2 x3 x4 x5 x6 x7 x8 x9 x10 x11) (k0_pay80 x0 x1 x2 x3 x4 x5 x6 x7 x8 x9 x10 x11) (k0_pay72 x0 x1 x2 x3 x4 x5 x6 x7 x8 x9 x10 x11) x4) (fun n j => ?_) d).trans ?_
  · have e := fun i => pay95_at x0 x1 x2 x3 x4 x5 x6 x7 x8 x9 x10 x11 i hd hx
    unfold k0_pay95 at e
    fin_cases n
    · exact (row48_at _ _ _ _ _ _ _ j).trans (e _)
    · exact (row49_at _ _ _ _ _ _ _ j).trans (e _)
    · exact (row50_at _ _ _ _ _ _ _ j).trans (e _)
    · exact (row51_at _ _ _ _ _ _ _ j).trans (e _)
    · exact (row52_at _ _ _ _ _ _ _ j).trans (e _)
    · exact (row53_at _ _ _ _ _ _ _ j).trans (e _)
    · exact (row54_at _ j).trans (e _)
    · exact (row55_at _ j).trans (e _)
    · exact (row56_at _ j).trans (e _)
    · exact (row57_at _ j).trans (e _)
    · exact (row58_at _ j).trans (e _)
    · exact (row59_at _ j).trans (e _)
    · exact (row60_at _ j).trans (e _)
    · exact (row61_at _ j).trans (e _)
    · exact (row62_at _ j).trans (e _)
    · exact (row63_at _ j).trans (e _)
  · refine congrArg₂ (· * ·) (congrArg₂ (· + ·) rfl (congrArg₂ (· * ·) ?_ ?_)) (congrArg silu ?_)
    · unfold k0_pay78
      refine (pay12_at _ _ d (fun k => ?_) (fun k => ?_)).trans (ld10 _ _)
      · rw [ld10]; exact hk k
      · rw [ld11]; exact he k
    · unfold k0_pay79
      generalize (k0_pay72 x0 x1 x2 x3 x4 x5 x6 x7 x8 x9 x10 x11) = u
      pointwise [k0_pay13]
    · exact View.ld_unit_apply_of x0 _ _ _ _ (ix3 0 0 d) fun a => by
        fin_cases a <;> first | rfl | exact (Nat.zero_add _).symm

end Cert.KernelIdeal.Sample

end
-- ==== Proof.SampleGateBlocks.lean ====
module

public import proofs.«01_k».proof.Proof.SampleBlocks

/-! The blocks that the first result of the state-space step needs besides, as entries of the arguments. -/

@[expose] public section

set_option maxRecDepth 16384

noncomputable section

namespace Cert.KernelIdeal.Sample

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

theorem V_z (c : Dev nD) (b : Fin 32) (z : Fin 1) (j : Fin 2048) :
    @Eq EReal ((V m c main_v12 : FVec Ideal S32x1x2048 .f32) (ix3 b z j)) ((m ((c : Thread nD τ).loc main_arg0) : FVec Ideal S32x2048 .f32) (ix2 b j)) := by
  simp only [V, List.flatten, List.append, hostOps0, hostOps0_1, hostOps0_2, hostOps0_3, hostOps0_4, hostOps0_5,
    hostOps0_6, hostOps0_7, hostOps0_8, hostOps0_9, hostOps0_10]
  after_results
  simp only [StableHlo.TRef.ofBuf_toBuf, StableHlo.TRef.ofBuf, StableHlo.TRef.toBuf, StableHlo.TRef.of, id, cast_eq]
  pointwise []

theorem V_k (c : Dev nD) (z : Fin 1) (k : Fin 128) :
    @Eq EReal ((V m c main_v21 : FVec Ideal S1x128 .f32) (ix2 z k))
      (if h : k.val < 32 then (m ((c : Thread nD τ).loc main_arg9) : FVec Ideal S32 .f32) (ix1 ⟨k.val, h⟩) else 0) := by
  simp only [V, List.flatten, List.append, hostOps0, hostOps0_1, hostOps0_2, hostOps0_3, hostOps0_4, hostOps0_5,
    hostOps0_6, hostOps0_7, hostOps0_8, hostOps0_9, hostOps0_10]
  after_results
  simp only [StableHlo.TRef.ofBuf_toBuf, StableHlo.TRef.ofBuf, StableHlo.TRef.toBuf, StableHlo.TRef.of, id, cast_eq]
  pointwise []
  simp [FloatOps.sitofp]

theorem V_g (c : Dev nD) (z : Fin 1) (j : Fin 2048) :
    @Eq EReal ((V m c main_v22 : FVec Ideal S1x2048 .f32) (ix2 z j)) ((m ((c : Thread nD τ).loc main_arg10) : FVec Ideal S2048 .f32) (ix1 j)) := by
  simp only [V, List.flatten, List.append, hostOps0, hostOps0_1, hostOps0_2, hostOps0_3, hostOps0_4, hostOps0_5,
    hostOps0_6, hostOps0_7, hostOps0_8, hostOps0_9, hostOps0_10]
  after_results
  simp only [StableHlo.TRef.ofBuf_toBuf, StableHlo.TRef.ofBuf, StableHlo.TRef.toBuf, StableHlo.TRef.of, id, cast_eq]
  pointwise []

theorem b0 (c : Dev nD) (t : Fin cfg0.N) (j : Fin 2048) :
    @Eq EReal ((iblk m c 0 t : FVec Ideal S1x1x2048 .f32) (ix3 0 0 j)) ((m ((c : Thread nD τ).loc main_arg0) : FVec Ideal S32x2048 .f32) (ix2 (row t) j)) := by
  unfold row
  exact Eq.trans (by blk_ext [iblk, idx t]) (V_z m c _ 0 j)

theorem b9 (c : Dev nD) (t : Fin cfg0.N) (k : Fin 128) :
    @Eq EReal ((iblk m c 9 t : FVec Ideal S1x128 .f32) (ix2 0 k)) (if h : k.val < 32 then (m ((c : Thread nD τ).loc main_arg9) : FVec Ideal S32 .f32) (ix1 ⟨k.val, h⟩) else 0) :=
  Eq.trans (by blk_ext [iblk, idx t]) (V_k m c 0 k)

theorem b10 (c : Dev nD) (t : Fin cfg0.N) (j : Fin 2048) :
    @Eq EReal ((iblk m c 10 t : FVec Ideal S1x2048 .f32) (ix2 0 j)) ((m ((c : Thread nD τ).loc main_arg10) : FVec Ideal S2048 .f32) (ix1 j)) :=
  Eq.trans (by blk_ext [iblk, idx t]) (V_g m c 0 j)

end Cert.KernelIdeal.Sample

end
-- ==== Proof.SampleGateOut.lean ====
module

public import proofs.«01_k».proof.Proof.SampleGateIn
public import proofs.«01_k».proof.Proof.SampleGateBlocks

/-! The state-space step: the first result that the kernel leaves in memory is the reference's. -/

@[expose] public section

set_option maxRecDepth 16384

noncomputable section

namespace Cert.KernelIdeal.Sample

open Cert.KernelIdeal Cert.KernelIdeal.Gen Idealize.ShloMosaic Idealize.ShloMosaic.TcCoe Idealize.SL.Sem
open Idealize.ShloMosaic.Pipeline (Dat)
open Cert.SampleRow Cert.Reals Cert.AttnRow

/-- The four stores of the first result, group by group. -/
theorem gates (v101 v102 : FVec Ideal S1x2048 .f32) (r0 r1 r2 r3 r4 r5 r6 r7 r8 r9 r10 r11 r12 r13 r14 r15 : FVec Ideal S1x128 .f32) (z : Vec Ideal S1x1x2048 .f32)
    (v : FVec Ideal S1x2048 .f32) (hv : k0_pay64 v101 v102 r0 r1 r2 r3 r4 r5 r6 r7 r8 r9 r10 r11 r12 r13 r14 r15 z = v) (g : Vec Ideal S1x2048 .f32) (d : Fin 2048) :
    @Eq EReal ((View.canon [⟨r0_24, k0_pay1 (k0_pay71 v (View.ld g r0_23))⟩, ⟨r0_22, k0_pay70 v (View.ld g r0_21)⟩,
        ⟨r0_20, k0_pay69 (k0_pay66 v101 v102 r0 r1 r2 r3 r4 r5 r6 r7 r8 r9 r10 r11 r12 r13 r14 r15 z) (k0_pay67 (View.ld g r0_19)) (k0_pay68 v101 v102 r0 r1 r2 r3 r4 r5 r6 r7 r8 r9 r10 r11 r12 r13 r14 r15 z) (Scalar.ofBits .f32 0x358637BD#32)⟩,
        ⟨r0_18, k0_pay65 v101 v102 r0 r1 r2 r3 r4 r5 r6 r7 r8 r9 r10 r11 r12 r13 r14 r15 z (View.ld g r0_17)⟩] : Vec Ideal S1x1x2048 .bf16) (ix3 0 0 d))
      (normed (fun k => v (ix2 0 ⟨d.val / 512 * 512 + k.val, by omega⟩)) (v (ix2 0 d)) * g (ix2 0 d)) := by
  have e0 : (ix3 (0 : Fin 1) (0 : Fin 1) d 0).val = (0 : Fin 1).val := rfl
  have e1 : (ix3 (0 : Fin 1) (0 : Fin 1) d 1).val = (0 : Fin 1).val := rfl
  have e2 : (ix3 (0 : Fin 1) (0 : Fin 1) d 2).val = d.val := rfl
  canon_tiles y hy
  all_goals
    idx_vars y
    obtain rfl : y0 = 0 := Subsingleton.elim _ _
    obtain rfl : y1 = 0 := Subsingleton.elim _ _
  · have q : d = ⟨1536 + y2.val, by omega⟩ := Fin.ext (by first | exact hy2 | exact hy2.trans (Nat.zero_add _))
    refine (n3_at _ _ y2).trans (congrArg₂ (· * ·) (congrArg₂ normed (funext fun k => ?_) (congrArg (fun q => v (ix2 0 q)) q.symm)) ?_)
    · refine congrArg (fun q => v (ix2 0 q)) (Fin.ext ?_)
      show 1536 + k.val = d.val / 512 * 512 + k.val
      omega
    · exact View.ld_unit_apply_of g _ _ _ _ (ix2 0 d) fun a => by
        fin_cases a
        · rfl
        · first | exact hy2 | exact hy2.trans (Nat.zero_add _).symm
  · have q : d = ⟨1024 + y2.val, by omega⟩ := Fin.ext (by first | exact hy2 | exact hy2.trans (Nat.zero_add _))
    refine (n2_at _ _ y2).trans (congrArg₂ (· * ·) (congrArg₂ normed (funext fun k => ?_) (congrArg (fun q => v (ix2 0 q)) q.symm)) ?_)
    · refine congrArg (fun q => v (ix2 0 q)) (Fin.ext ?_)
      show 1024 + k.val = d.val / 512 * 512 + k.val
      omega
    · exact View.ld_unit_apply_of g _ _ _ _ (ix2 0 d) fun a => by
        fin_cases a
        · rfl
        · first | exact hy2 | exact hy2.trans (Nat.zero_add _).symm
  · have q : d = ⟨512 + y2.val, by omega⟩ := Fin.ext (by first | exact hy2 | exact hy2.trans (Nat.zero_add _))
    refine (n1_at _ _ _ _ _ _ _ _ _ _ _ _ _ _ _ _ _ _ _ v hv _ y2).trans (congrArg₂ (· * ·) (congrArg₂ normed (funext fun k => ?_) (congrArg (fun q => v (ix2 0 q)) q.symm)) ?_)
    · refine congrArg (fun q => v (ix2 0 q)) (Fin.ext ?_)
      show 512 + k.val = d.val / 512 * 512 + k.val
      omega
    · exact View.ld_unit_apply_of g _ _ _ _ (ix2 0 d) fun a => by
        fin_cases a
        · rfl
        · first | exact hy2 | exact hy2.trans (Nat.zero_add _).symm
  · have q : d = ⟨y2.val, by omega⟩ := Fin.ext (by first | exact hy2 | exact hy2.trans (Nat.zero_add _))
    refine (n0_at _ _ _ _ _ _ _ _ _ _ _ _ _ _ _ _ _ _ _ v hv _ y2).trans (congrArg₂ (· * ·) (congrArg₂ normed (funext fun k => ?_) (congrArg (fun q => v (ix2 0 q)) q.symm)) ?_)
    · refine congrArg (fun q => v (ix2 0 q)) (Fin.ext ?_)
      show k.val = d.val / 512 * 512 + k.val
      omega
    · exact View.ld_unit_apply_of g _ _ _ _ (ix2 0 d) fun a => by
        fin_cases a
        · rfl
        · first | exact hy2 | exact hy2.trans (Nat.zero_add _).symm

/-- The block of the first result of one sample. -/
theorem out12_at (x0 : Vec Ideal S1x1x2048 .f32) (x1 : Vec Ideal S1x1x3072 .f32) (x2 : Vec Ideal S1x1x128 .f32) (x3 : Vec Ideal S1x3x3072 .f32) (x4 : Vec Ideal S1x32x64x128 .f32) (x5 : Vec Ideal S4x3072 .f32) (x6 : Vec Ideal S1x3072 .f32) (x7 : Vec Ideal S1x128 .f32) (x8 : Vec Ideal S1x128 .f32) (x9 : Vec Ideal S1x128 .f32) (x10 : Vec Ideal S1x2048 .f32) (x11 : Vec Ideal S128x2048 .bf16) (d : Fin 2048) :
    @Eq EReal (out0_12 (F := Ideal) x0 x1 x2 x3 x4 x5 x6 x7 x8 x9 x10 x11 (ix3 0 0 d))
      (normed (fun k => k0_pay113 x0 x1 x2 x3 x4 x5 x6 x7 x8 x9 x10 x11 (ix2 0 ⟨d.val / 512 * 512 + k.val, by omega⟩)) (k0_pay113 x0 x1 x2 x3 x4 x5 x6 x7 x8 x9 x10 x11 (ix2 0 d)) * x10 (ix2 0 d)) := by
  unfold out0_12
  exact gates _ _ _ _ _ _ _ _ _ _ _ _ _ _ _ _ _ _ _ (k0_pay113 x0 x1 x2 x3 x4 x5 x6 x7 x8 x9 x10 x11) (by unfold k0_pay113; rfl) x10 d

variable (m : (ℓ : Loc nD τ sig) → Buf (Elt Ideal) ℓ)

/-- The reference's gated row. -/
def GG (c : Dev nD) : FVec Ideal S32x2048 .f32 :=
  Cert.ReferenceIdeal.Sample.Gt (Cert.ReferenceIdeal.Sample.Hn (DD m c) (m ((c : Thread nD τ).loc main_arg8)) (m ((c : Thread nD τ).loc main_arg4)) (XX m c)) (XX m c)
    (m ((c : Thread nD τ).loc main_arg9)) (m ((c : Thread nD τ).loc main_arg0))

/-- The gated row that the body computes is the reference's. -/
theorem row_at {c : Dev nD} (hyp : Hyp m c) (t : Fin cfg0.N) (d : Fin 2048) :
    @Eq EReal (k0_pay113 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 0 d)) (GG m c (ix2 (row t) d)) := by
  unfold GG
  rw [Cert.ReferenceIdeal.Sample.Gt_at]
  refine (pay113_at _ _ _ _ _ _ _ _ _ _ _ _ d (fun d => ?_) (fun d => ?_) (fun k => ?_) (fun k => b11 m c t k d)).trans ?_
  · rw [da_at m hyp]
    exact ((DD_real m hyp _ _).mul (hyp.a _).exp.neg).exp
  · rw [xdt_at m hyp]
    exact (XX_real m hyp _ _).mul (DD_real m hyp _ _)
  · rw [b9 m c t k]
    split_ifs with h
    · exact hyp.dk _
    · exact IsReal.zero
  · refine congrArg₂ (· * ·) (congrArg₂ (· + ·) ?_ (congrArg₂ (· * ·) ?_ ?_)) (congrArg silu (b0 m c t d))
    · unfold Y
      refine Finset.sum_congr rfl fun n _ => ?_
      rw [Cert.ReferenceIdeal.Sample.Hn_at, da_at m hyp, xdt_at m hyp, x_at, x_at, b4]
      have q : d.val / 64 * 64 + d.val % 64 = d.val := by omega
      simp only [q]
    · exact (b9 m c t ⟨d.val / 64, by omega⟩).trans (dif_pos (show d.val / 64 < 32 by omega))
    · exact x_at m c t _

/-- The first result when the kernel is done. -/
theorem final12 {c : Dev nD} (hyp : Hyp m c) :
    (dats m 0 c).arrAt 12 cfg0.N = Cert.ReferenceIdeal.Sample.Yo (GG m c) (m ((c : Thread nD τ).loc main_arg10)) := by
  refine (dats m 0 c).arrAt_eq_of_covers 12 _ (by decide +kernel) fun t _ y => ?_
  blk_simp
  rw [after0_12]
  idx_vars y
  obtain rfl : y0 = 0 := Subsingleton.elim _ _
  obtain rfl : y1 = 0 := Subsingleton.elim _ _
  refine (out12_at _ _ _ _ _ _ _ _ _ _ _ _ y2).trans ?_
  refine Eq.trans ?_ (Eq.trans (Cert.ReferenceIdeal.Sample.Yo_at (GG m c) (m ((c : Thread nD τ).loc main_arg10)) (row t) y2).symm ?_)
  · refine congrArg₂ (· * ·) ?_ (b10 m c t y2)
    rw [row_at m hyp]
    refine congrArg (fun f => normed f _) (funext fun k => ?_)
    exact row_at m hyp t _
  · unfold row
    blk_ext [idx t]

end Cert.KernelIdeal.Sample

end
-- ==== Proof.SampleClaim.lean ====
module

public import proofs.«01_k».proof.Defs
public import proofs.«01_k».proof.Proof.SampleGateOut

/-! The state-space step: the claim about both results. -/

@[expose] public section

set_option maxRecDepth 16384

noncomputable section

/-- The shape facts that the precondition states. -/
theorem Cert.Pre_finite1.facts : Cert.Pre_finite1.Facts := ⟨by decide, by decide, by decide, by decide, by decide, by decide⟩

namespace Cert.KernelIdeal.Sample

open Cert.KernelIdeal Cert.KernelIdeal.Gen Idealize.ShloMosaic Idealize.ShloMosaic.TcCoe Idealize.SL.Sem
open Idealize.ShloMosaic.Pipeline (Dat)
open Cert.Reals

variable (m : (ℓ : Loc nD τ sig) → Buf (Elt Ideal) ℓ)

/-- The precondition says that the arrays it names hold real numbers. -/
theorem hyp_of_pre (h : Cert.Pre_KernelIdeal_finite1 (hPre_finite1 := Cert.Pre_finite1.facts) m) (c : Dev nD) : Hyp m c := by
  obtain ⟨h1, h2, h3, h4, h5, h6, h7, h8⟩ := h c
  constructor
  · intro b j
    have e := congrFun h1 (ix2 b j)
    revert e
    pointwise [Cert.Pre_finite1.fn, Cert.Pre_finite1.fn_part1, Cert.Pre_finite1.fn_part2]
    exact isReal_of_word
  · intro b h
    have e := congrFun h2 (ix2 b h)
    revert e
    pointwise [Cert.Pre_finite1.fn, Cert.Pre_finite1.fn_part1, Cert.Pre_finite1.fn_part2]
    exact isReal_of_word
  · intro b i j
    have e := congrFun h3 (ix3 b i j)
    revert e
    pointwise [Cert.Pre_finite1.fn, Cert.Pre_finite1.fn_part1, Cert.Pre_finite1.fn_part2]
    exact isReal_of_word
  · intro i j
    have e := congrFun h4 (ix2 i j)
    revert e
    pointwise [Cert.Pre_finite1.fn, Cert.Pre_finite1.fn_part1, Cert.Pre_finite1.fn_part2]
    exact isReal_of_word
  · intro j
    have e := congrFun h5 (ix1 j)
    revert e
    pointwise [Cert.Pre_finite1.fn, Cert.Pre_finite1.fn_part1, Cert.Pre_finite1.fn_part2]
    exact isReal_of_word
  · intro h
    have e := congrFun h6 (ix1 h)
    revert e
    pointwise [Cert.Pre_finite1.fn, Cert.Pre_finite1.fn_part1, Cert.Pre_finite1.fn_part2]
    exact isReal_of_word
  · intro h
    have e := congrFun h7 (ix1 h)
    revert e
    pointwise [Cert.Pre_finite1.fn, Cert.Pre_finite1.fn_part1, Cert.Pre_finite1.fn_part2]
    exact isReal_of_word
  · intro h
    have e := congrFun h8 (ix1 h)
    revert e
    pointwise [Cert.Pre_finite1.fn, Cert.Pre_finite1.fn_part1, Cert.Pre_finite1.fn_part2]
    exact isReal_of_word

set_option maxHeartbeats 4000000 in
/-- The kernel and its reference leave the same results, and neither changes its arguments. -/
theorem algebraic : Cert.algebraic_KernelIdeal_ReferenceIdeal_pre_finite1 (hKernelIdeal := Cert.KernelIdeal.Gen.facts)
    (hReferenceIdeal := Cert.ReferenceIdeal.Gen.facts) (hPre_finite1 := Cert.Pre_finite1.facts) := by
  intro m g m' g' hp hargs
  refine ⟨fun c => (Cert.KernelIdeal.Gen.dats m 0 c).arrAt 12 Cert.KernelIdeal.cfg0.N,
    fun c => (Cert.KernelIdeal.Gen.dats m 0 c).arrAt 13 Cert.KernelIdeal.cfg0.N,
    Cert.KernelIdeal.Value.run_blocks m g, ?_⟩
  refine (θ_run _ _ _).mono (fun r h c => ⟨?_, ?_, (h c).2.2⟩) (Cert.ReferenceIdeal.Value.run m' g')
  · obtain ⟨h0, h1, h2, h3, h4, h5, h6, h7, h8, h9, h10⟩ := hargs c
    refine (h c).1.trans (Eq.trans ?_ (final12 m (hyp_of_pre m hp c)).symm)
    refine Eq.trans (b := Cert.ReferenceIdeal.Sample.Yo (Cert.ReferenceIdeal.Sample.Gt (Cert.ReferenceIdeal.Sample.Hn (Cert.ReferenceIdeal.Sample.Dt (m' ((c : Thread Cert.ReferenceIdeal.nD Cert.ReferenceIdeal.τ).loc Cert.ReferenceIdeal.main_arg2)) (m' ((c : Thread Cert.ReferenceIdeal.nD Cert.ReferenceIdeal.τ).loc Cert.ReferenceIdeal.main_arg7))) (m' ((c : Thread Cert.ReferenceIdeal.nD Cert.ReferenceIdeal.τ).loc Cert.ReferenceIdeal.main_arg8)) (m' ((c : Thread Cert.ReferenceIdeal.nD Cert.ReferenceIdeal.τ).loc Cert.ReferenceIdeal.main_arg4)) (Cert.ReferenceIdeal.Sample.X (Cert.ReferenceIdeal.Sample.U (m' ((c : Thread Cert.ReferenceIdeal.nD Cert.ReferenceIdeal.τ).loc Cert.ReferenceIdeal.main_arg1)) (m' ((c : Thread Cert.ReferenceIdeal.nD Cert.ReferenceIdeal.τ).loc Cert.ReferenceIdeal.main_arg3)) (m' ((c : Thread Cert.ReferenceIdeal.nD Cert.ReferenceIdeal.τ).loc Cert.ReferenceIdeal.main_arg5)) (m' ((c : Thread Cert.ReferenceIdeal.nD Cert.ReferenceIdeal.τ).loc Cert.ReferenceIdeal.main_arg6)))))
      (Cert.ReferenceIdeal.Sample.X (Cert.ReferenceIdeal.Sample.U (m' ((c : Thread Cert.ReferenceIdeal.nD Cert.ReferenceIdeal.τ).loc Cert.ReferenceIdeal.main_arg1)) (m' ((c : Thread Cert.ReferenceIdeal.nD Cert.ReferenceIdeal.τ).loc Cert.ReferenceIdeal.main_arg3)) (m' ((c : Thread Cert.ReferenceIdeal.nD Cert.ReferenceIdeal.τ).loc Cert.ReferenceIdeal.main_arg5)) (m' ((c : Thread Cert.ReferenceIdeal.nD Cert.ReferenceIdeal.τ).loc Cert.ReferenceIdeal.main_arg6)))) (m' ((c : Thread Cert.ReferenceIdeal.nD Cert.ReferenceIdeal.τ).loc Cert.ReferenceIdeal.main_arg9)) (m' ((c : Thread Cert.ReferenceIdeal.nD Cert.ReferenceIdeal.τ).loc Cert.ReferenceIdeal.main_arg0))) (m' ((c : Thread Cert.ReferenceIdeal.nD Cert.ReferenceIdeal.τ).loc Cert.ReferenceIdeal.main_arg10))) rfl ?_
    rw [h0, h1, h2, h3, h4, h5, h6, h7, h8, h9, h10]
    rfl
  · obtain ⟨h0, h1, h2, h3, h4, h5, h6, h7, h8, h9, h10⟩ := hargs c
    refine (h c).2.1.trans (Eq.trans ?_ (final13 m (hyp_of_pre m hp c)).symm)
    refine Eq.trans (b := Cert.ReferenceIdeal.Sample.Hn (Cert.ReferenceIdeal.Sample.Dt (m' ((c : Thread Cert.ReferenceIdeal.nD Cert.ReferenceIdeal.τ).loc Cert.ReferenceIdeal.main_arg2)) (m' ((c : Thread Cert.ReferenceIdeal.nD Cert.ReferenceIdeal.τ).loc Cert.ReferenceIdeal.main_arg7))) (m' ((c : Thread Cert.ReferenceIdeal.nD Cert.ReferenceIdeal.τ).loc Cert.ReferenceIdeal.main_arg8)) (m' ((c : Thread Cert.ReferenceIdeal.nD Cert.ReferenceIdeal.τ).loc Cert.ReferenceIdeal.main_arg4)) (Cert.ReferenceIdeal.Sample.X (Cert.ReferenceIdeal.Sample.U (m' ((c : Thread Cert.ReferenceIdeal.nD Cert.ReferenceIdeal.τ).loc Cert.ReferenceIdeal.main_arg1)) (m' ((c : Thread Cert.ReferenceIdeal.nD Cert.ReferenceIdeal.τ).loc Cert.ReferenceIdeal.main_arg3)) (m' ((c : Thread Cert.ReferenceIdeal.nD Cert.ReferenceIdeal.τ).loc Cert.ReferenceIdeal.main_arg5)) (m' ((c : Thread Cert.ReferenceIdeal.nD Cert.ReferenceIdeal.τ).loc Cert.ReferenceIdeal.main_arg6))))) rfl ?_
    rw [h1, h2, h3, h4, h5, h6, h7, h8]
    rfl

end Cert.KernelIdeal.Sample

end
-- ==== Proof.ScanTail.lean ====
module

public import proofs.«01_k».proof.Proof.Gen.Kernel6Ideal.Frame
public import proofs.«01_k».proof.Proof.Gen.Reference6Ideal.Run
public import Idealize.ShloMosaic.Lib.Pipeline.Value
public import Idealize.ShloMosaic.Lib.Pipeline.ValueKit
public import Idealize.ShloMosaic.Lib.Pipeline.ReadBack

/-! The state-space scan of the prompt: the rows it hands on to a later step's convolution. -/

@[expose] public section

set_option maxRecDepth 16384

noncomputable section

namespace Cert.Reference6Ideal.Scan

open Cert.Reference6Ideal Cert.Reference6Ideal.Gen Idealize.ShloMosaic Idealize.ShloMosaic.TcCoe Idealize.SL.Sem

/-- The reference's normalised rows. -/
def rows (x : FVec Ideal S8x4112x1024 .f32) (g : FVec Ideal S1024 .f32) : FVec Ideal S8x4112x1024 .f32 :=
  mulf (mulf x (broadcastInDim S8x4112x1024 ![0, 1, 2] bcast_S8x4112x1_S8x4112x1024_0_1_2 (Host.rsqrt (addf (Host.divf (broadcastInDim S8x4112x1 ![0, 1] bcast_S8x4112_S8x4112x1_0_1 (Host.reduceAdd (mulf x x) (constant S_ .f32 0x00000000#32) reducesTo_S8x4112x1024_S8x4112_d2 h_S_)) (broadcastInDim S8x4112x1 ![] bcast_S_S8x4112x1 (constant S_ .f32 0x44800000#32))) (broadcastInDim S8x4112x1 ![] bcast_S_S8x4112x1 (constant S_ .f32 0x358637BD#32)))))) (broadcastInDim S8x4112x1024 ![0, 1, 2] bcast_S1x1x1024_S8x4112x1024_0_1_2 (broadcastInDim S1x1x1024 ![2] bcast_S1024_S1x1x1024_2 g))

/-- The reference's last eight projected rows of each sequence. -/
def TAIL (x : FVec Ideal S8x4112x1024 .f32) (g : FVec Ideal S1024 .f32) (w : FVec Ideal S1024x5152 .f32) :
    FVec Ideal S8x8x3072 .f32 :=
  extractStridedSlice S8x8x3072 ![0, 4104, 0] (extractStridedSlice S8x4112x3072 ![0, 0, 2048]
    (Host.dotGeneral dot_S8x4112x1024_S1024x5152_S8x4112x5152_2_0_01_1_n_n none (rows x g) w)
    slices_S8x4112x5152_S8x4112x3072_0_0_2048) slices_S8x4112x3072_S8x8x3072_0_4104_0

end Cert.Reference6Ideal.Scan

namespace Cert.Kernel6Ideal.Scan

open Cert.Kernel6Ideal Cert.Kernel6Ideal.Gen Idealize.ShloMosaic Idealize.ShloMosaic.TcCoe Idealize.SL.Sem
open Idealize.ShloMosaic.Pipeline (Dat)

variable (m : (ℓ : Loc nD τ sig) → Buf (Elt Ideal) ℓ)

/-- Which block of its array each of the windows used here stages at a grid point. -/
theorem idx : ∀ t : Fin cfg0.N, win0_0.index t = ![t.val, 0] ∧ win0_1.index t = ![0, 0] ∧ win0_3.index t = ![0, 0]
    ∧ win0_18.index t = ![t.val / 33, 0, 0] :=
  (by decide +kernel : ∀ t : Fin grid0.N, _)

set_option maxHeartbeats 4000000 in
/-- At a sequence's last chunk the body hands on the last eight rows of the chunk's projection. -/
theorem last (c : Dev nD) (t : Fin cfg0.N) (h1 : t.val % 33 = 32) (a : Fin 8) (j : Fin 3072) :
    (outsAt0 (F := Ideal) m c t.val t.isLt).2.2.1 (ix3 0 a j)
    = k0_pay9 (iblk m c 0 t) (iblk m c 1 t) (iblk m c 3 t) (ix2 ⟨120 + a, by omega⟩ j) := by
  rw [outsAt0_C m c t (by omega) h1]
  frame_open
  simp (disch := decide) only [↓ View.readCov_skip, ↓ View.readCov_cons_toLoadRect, ↓ View.readCov_fill]
  frame_out
  generalize k0_pay9 (iblk m c 0 t) (iblk m c 1 t) (iblk m c 3 t) = P
  rw [View.readCov_eq_canon']
  pointwise [k0_pay2, k0_pay12]
  refine (congrArg (View.canon _) (?_ : _ = (Rect.unit (s := S136x3072) ![8, 0] ![128, 3072] inb_S136x3072_S128x3072_8_0).emb
    (ix2 ⟨120 + a, by omega⟩ j))).trans ((View.canon_cons_emb _ _ _ _).trans ?_)
  · funext k
    apply Fin.ext
    fin_cases k
    · show 128 + a.val = 8 + 1 * (120 + a.val)
      omega
    · show j.val = 0 + 1 * j.val
      omega
  · pointwise [k0_pay10]

/-- The padded rows of the prompt at a row of a sequence. -/
theorem V_x (c : Dev nD) (b : Fin 8) (s : Fin 4112) (d : Fin 1024) (r : Fin 33792) (hr : r.val = 4224 * b.val + 112 + s.val) :
    @Eq EReal ((V m c main_v1 : FVec Ideal S33792x1024 .f32) (ix2 r d))
      ((m ((c : Thread nD τ).loc main_arg0) : FVec Ideal S8x4112x1024 .f32) (ix3 b s d)) := by
  simp only [V, List.flatten, List.append, hostOps0, hostOps0_1, hostOps0_2, hostOps0_3, hostOps0_4, hostOps0_5,
    hostOps0_6, hostOps0_7, hostOps0_8, hostOps0_9, hostOps0_10, hostOps0_11, hostOps0_12]
  after_results
  simp only [StableHlo.TRef.ofBuf_toBuf, StableHlo.TRef.ofBuf, StableHlo.TRef.toBuf, StableHlo.TRef.of, id, cast_eq]
  pointwise []
  rw [dif_pos ⟨by omega, by omega, by omega⟩]
  have hb : (⟨r.val / 4224, by omega⟩ : Fin 8) = b := Fin.ext (by show r.val / 4224 = b.val; omega)
  have hs : (⟨r.val % 4224 - 112, by omega⟩ : Fin 4112) = s := Fin.ext (by show r.val % 4224 - 112 = s.val; omega)
  have e := congr (congrArg (fun p q => (m ((c : Thread nD τ).loc main_arg0) : FVec Ideal S8x4112x1024 .f32) (ix3 p q d)) hb) hs
  exact e

/-- The gains of the norm. -/
theorem V_g (c : Dev nD) (d : Fin 1024) :
    @Eq EReal ((V m c (Pipeline.arrRef spec0 1) : FVec Ideal S1x1024 .f32) (ix2 0 d))
      ((m ((c : Thread nD τ).loc main_arg1) : FVec Ideal S1024 .f32) (ix1 d)) := by
  simp only [V, List.flatten, List.append, hostOps0, hostOps0_1, hostOps0_2, hostOps0_3, hostOps0_4, hostOps0_5,
    hostOps0_6, hostOps0_7, hostOps0_8, hostOps0_9, hostOps0_10, hostOps0_11, hostOps0_12]
  after_results
  simp only [StableHlo.TRef.ofBuf_toBuf, StableHlo.TRef.ofBuf, StableHlo.TRef.toBuf, StableHlo.TRef.of, id, cast_eq]
  pointwise []

/-- The columns of the weight that the convolution reads. -/
theorem V_w (c : Dev nD) (d : Fin 1024) (j : Fin 3072) :
    @Eq EReal ((V m c main_v8 : FVec Ideal S1024x3072 .bf16) (ix2 d j))
      ((m ((c : Thread nD τ).loc main_arg2) : FVec Ideal S1024x5152 .f32) (ix2 d ⟨2048 + j, by omega⟩)) := by
  simp only [V, List.flatten, List.append, hostOps0, hostOps0_1, hostOps0_2, hostOps0_3, hostOps0_4, hostOps0_5,
    hostOps0_6, hostOps0_7, hostOps0_8, hostOps0_9, hostOps0_10, hostOps0_11, hostOps0_12]
  after_results
  pointwise []

/-- The block of rows at a sequence's last chunk, at one of its last eight rows. -/
theorem b0 (c : Dev nD) (t : Fin cfg0.N) (b a : Fin 8) (ht : t.val = 33 * b.val + 32) (d : Fin 1024) :
    @Eq EReal ((iblk m c 0 t : FVec Ideal S128x1024 .f32) (ix2 ⟨120 + a, by omega⟩ d))
      ((m ((c : Thread nD τ).loc main_arg0) : FVec Ideal S8x4112x1024 .f32) (ix3 b ⟨4104 + a, by omega⟩ d)) := by
  refine Eq.trans ?_ (V_x m c b ⟨4104 + a, by omega⟩ d ⟨4224 * b + 112 + (4104 + a), by omega⟩ rfl)
  blk_ext [iblk, idx t]

/-- The block of gains. -/
theorem b1 (c : Dev nD) (t : Fin cfg0.N) (d : Fin 1024) :
    @Eq EReal ((iblk m c 1 t : FVec Ideal S1x1024 .f32) (ix2 0 d))
      ((m ((c : Thread nD τ).loc main_arg1) : FVec Ideal S1024 .f32) (ix1 d)) := by
  refine Eq.trans ?_ (V_g m c d)
  blk_ext [iblk, idx t]

/-- The block of weights. -/
theorem b3 (c : Dev nD) (t : Fin cfg0.N) (d : Fin 1024) (j : Fin 3072) :
    @Eq EReal ((iblk m c 3 t : FVec Ideal S1024x3072 .bf16) (ix2 d j))
      ((m ((c : Thread nD τ).loc main_arg2) : FVec Ideal S1024x5152 .f32) (ix2 d ⟨2048 + j, by omega⟩)) := by
  refine Eq.trans ?_ (V_w m c d j)
  blk_ext [iblk, idx t]

/-- The projected rows handed on are the reference's. -/
theorem point (c : Dev nD) (t : Fin cfg0.N) (b a : Fin 8) (ht : t.val = 33 * b.val + 32) (j : Fin 3072) :
    k0_pay9 (F := Ideal) (iblk m c 0 t) (iblk m c 1 t) (iblk m c 3 t) (ix2 ⟨120 + a, by omega⟩ j)
    = Cert.Reference6Ideal.Scan.TAIL (m ((c : Thread nD τ).loc main_arg0)) (m ((c : Thread nD τ).loc main_arg1))
      (m ((c : Thread nD τ).loc main_arg2)) (ix3 b a j) := by
  have e0 := b0 m c t b a ht
  have e1 := b1 m c t
  have e3 := fun d => b3 m c t d j
  revert e0 e1 e3
  generalize iblk m c 0 t = X
  generalize iblk m c 1 t = G
  generalize iblk m c 3 t = W
  intro e0 e1 e3
  pointwise [k0_pay9, k0_pay5, Cert.Reference6Ideal.Scan.TAIL, Cert.Reference6Ideal.Scan.rows]
  simp only [e0, e1, e3, zero_add]

/-- The rows handed on, after the run. -/
theorem final18 (c : Dev nD) : (dats m 0 c).arrAt 18 cfg0.N
    = Cert.Reference6Ideal.Scan.TAIL (m ((c : Thread nD τ).loc main_arg0)) (m ((c : Thread nD τ).loc main_arg1))
      (m ((c : Thread nD τ).loc main_arg2)) := by
  refine (dats m 0 c).arrAt_eq_of_covers 18 _ (by decide +kernel) fun t hf y => ?_
  have h1 := (flush0_18 t).mp hf
  have hN : t.val < 264 := lt_of_lt_of_eq t.isLt N_0
  blk_simp
  rw [after0_18]
  idx_vars y
  obtain rfl : y0 = 0 := Subsingleton.elim _ _
  refine (last m c t h1 _ _).trans ?_
  refine (point m c t ⟨t.val / 33, by omega⟩ _ (by show t.val = 33 * (t.val / 33) + 32; omega) _).trans ?_
  blk_ext [idx t]

end Cert.Kernel6Ideal.Scan

end
-- ==== Proof.ScanClaim.lean ====
module

public import proofs.«01_k».proof.Defs
public import proofs.«01_k».proof.Proof.ScanTail

/-! The state-space scan of the prompt: the claim about the rows it hands on to a later step's convolution. -/

@[expose] public section

set_option maxRecDepth 16384

noncomputable section

/-- The shape facts that the selection of the handed-on rows states. -/
theorem Cert.On_conv_only.facts : Cert.On_conv_only.Facts := ⟨by decide, by decide, by decide⟩

namespace Cert.Kernel6Ideal.Scan

open Cert.Kernel6Ideal Cert.Kernel6Ideal.Gen Idealize.ShloMosaic Idealize.ShloMosaic.TcCoe Idealize.SL.Sem
open Idealize.ShloMosaic.Pipeline (Dat)

/-- The kernel's run with its three result arrays named: the arguments stay as they were. -/
theorem run_named (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c : Thread nD τ).loc main_v27_0) = (dats m 0 c).arrAt 16 cfg0.N
      ∧ r.2.mem ((c : Thread nD τ).loc main_v27_1) = (dats m 0 c).arrAt 17 cfg0.N
      ∧ r.2.mem ((c : Thread nD τ).loc main_v27_2) = (dats m 0 c).arrAt 18 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run (defs (F := Ideal)) _ _).mono (fun r h c => ⟨(h c).1 16, (h c).1 17, (h c).1 18,
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).1 6).trans (((dats m 0 c).arrAt_in 6 rfl _).trans ((A_eq m c 6).trans (V_main_arg3 m c))),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c)⟩)
    (run_main m g)

set_option maxHeartbeats 2000000 in
/-- The kernel and its reference hand on the same rows, and neither changes its arguments. -/
theorem algebraic : Cert.algebraic_Kernel6Ideal_Reference6Ideal_on_conv_only (hKernel6Ideal := Cert.Kernel6Ideal.Gen.facts)
    (hReference6Ideal := Cert.Reference6Ideal.Gen.facts) (hOn_conv_only := Cert.On_conv_only.facts) := by
  intro m g m' g' hp hargs
  refine ⟨fun c => (Cert.Kernel6Ideal.Gen.dats m 0 c).arrAt 16 Cert.Kernel6Ideal.cfg0.N,
    fun c => (Cert.Kernel6Ideal.Gen.dats m 0 c).arrAt 17 Cert.Kernel6Ideal.cfg0.N,
    fun c => (Cert.Kernel6Ideal.Gen.dats m 0 c).arrAt 18 Cert.Kernel6Ideal.cfg0.N,
    (θ_run _ _ _).mono (fun r h c => ⟨fun i _ => congrFun (h c).1 i, fun i _ => congrFun (h c).2.1 i,
      fun i _ => congrFun (h c).2.2.1 i, (h c).2.2.2⟩) (run_named m g), ?_⟩
  refine (θ_run _ _ _).mono (fun r h c => ⟨fun i hi => absurd (show (0#1 : BitVec 1) = 1#1 from hi) (by decide),
    fun i hi => absurd (show (0#1 : BitVec 1) = 1#1 from hi) (by decide),
    fun i _ => congrFun ?_ i, (h c).2.2.2⟩) (Cert.Reference6Ideal.Value.run m' g')
  obtain ⟨h0, h1, h2, h3, h4, h5, h6, h7, h8, h9⟩ := hargs c
  refine (h c).2.2.1.trans (Eq.trans ?_ (final18 m c).symm)
  refine Eq.trans (b := Cert.Reference6Ideal.Scan.TAIL (m' ((c : Thread Cert.Reference6Ideal.nD Cert.Reference6Ideal.τ).loc Cert.Reference6Ideal.main_arg0)) (m' ((c : Thread Cert.Reference6Ideal.nD Cert.Reference6Ideal.τ).loc Cert.Reference6Ideal.main_arg1)) (m' ((c : Thread Cert.Reference6Ideal.nD Cert.Reference6Ideal.τ).loc Cert.Reference6Ideal.main_arg2))) rfl ?_
  rw [h0, h1, h2]

end Cert.Kernel6Ideal.Scan

end
-- ==== Proof.OutProj.lean ====
module

public import proofs.«01_k».proof.Defs
public import proofs.«01_k».proof.Proof.Gen.Kernel5Ideal.Value
public import proofs.«01_k».proof.Proof.Gen.Reference5Ideal.Run
public import Idealize.ShloMosaic.Lib.Pipeline.ValueKit
public import Idealize.ShloMosaic.Lib.Pipeline.ReadBack

@[expose] public section

set_option maxRecDepth 16384

noncomputable section

namespace Cert.Reference5Ideal.OutProj

open Cert.Reference5Ideal Cert.Reference5Ideal.Gen Idealize.ShloMosaic Idealize.ShloMosaic.TcCoe Idealize.SL.Sem

/-- The reference's result as one term of its arguments: the residual plus the projected attention rows. -/
def REF (x : FVec Ideal S33792x1024 .f32) (y : FVec Ideal S33792x1024 .bf16) (w : FVec Ideal S1024x1024 .f32) :
    FVec Ideal S33792x1024 .f32 :=
  addf x (Host.dotGeneral (F := Ideal) dot_S33792x1024_S1024x1024_S33792x1024_1_0_0_1_n_n none (extf .f32 y bitsLt_bf16_f32) w)

end Cert.Reference5Ideal.OutProj

namespace Cert.Kernel5Ideal.OutProj

open Cert.Kernel5Ideal Cert.Kernel5Ideal.Gen Idealize.ShloMosaic Idealize.ShloMosaic.TcCoe Idealize.SL.Sem
open Idealize.ShloMosaic.Pipeline (Dat)

variable (m : (ℓ : Loc nD τ sig) → Buf (Elt Ideal) ℓ)

/-- Which block of its array each window stages at a grid point. -/
theorem idx : ∀ t : Fin cfg0.N, win0_0.index t = ![t.val, 0] ∧ win0_1.index t = ![t.val, 0] ∧ win0_2.index t = ![0, 0]
    ∧ win0_3.index t = ![t.val, 0] :=
  (by decide +kernel : ∀ t : Fin grid0.N, _)

/-- What a grid point leaves at an element of its block is the reference's term there. -/
theorem point (c : Dev nD) (t : Fin cfg0.N) (y : S512x1024.Idx) :
    k0_pay1 (F := Ideal) (iblk m c 0 t) (iblk m c 1 t) (iblk m c 2 t) y
    = Cert.Reference5Ideal.OutProj.REF (m ((c : Thread nD τ).loc main_arg0)) (m ((c : Thread nD τ).loc main_arg1))
      (m ((c : Thread nD τ).loc main_arg2)) (((cfg0.win 3).blk t).view.emb y) := by
  idx_vars y
  pointwise [k0_pay1, Cert.Reference5Ideal.OutProj.REF]
  blk_point [iblk, V, idx t]

/-- The result array after the run is the reference's term of the arguments. -/
theorem final (c : Dev nD) : (dats m 0 c).arrAt 3 cfg0.N
    = Cert.Reference5Ideal.OutProj.REF (m ((c : Thread nD τ).loc main_arg0)) (m ((c : Thread nD τ).loc main_arg1))
      (m ((c : Thread nD τ).loc main_arg2)) := by
  refine (dats m 0 c).arrAt_eq_of_covers 3 _ (by decide +kernel) fun t _ y => ?_
  blk_simp
  rw [after0_3]
  frame_out
  exact point m c t y

/-- The output projection and its reference leave the same array, and neither changes its arguments. -/
theorem algebraic : Cert.algebraic_Kernel5Ideal_Reference5Ideal (hKernel5Ideal := Cert.Kernel5Ideal.Gen.facts)
    (hReference5Ideal := Cert.Reference5Ideal.Gen.facts) := by
  intro m g m' g' _ hargs
  refine ⟨fun c => (Cert.Kernel5Ideal.Gen.dats m 0 c).arrAt 3 Cert.Kernel5Ideal.cfg0.N,
    Cert.Kernel5Ideal.Value.run_blocks m g, ?_⟩
  refine (θ_run _ _ _).mono (fun r h c => ⟨?_, (h c).2⟩) (Cert.Reference5Ideal.Value.run m' g')
  obtain ⟨h0, h1, h2⟩ := hargs c
  refine (h c).1.trans (Eq.trans ?_ (final m c).symm)
  rw [← h0, ← h1, ← h2]
  rfl

end Cert.Kernel5Ideal.OutProj

end
-- ==== Proof.Frames.lean ====
module

public import proofs.«01_k».proof.Defs
public import proofs.«01_k».proof.Proof.Gen.ReferenceIdeal.Run
public import proofs.«01_k».proof.Proof.Gen.Reference2Ideal.Run
public import proofs.«01_k».proof.Proof.Gen.Reference3Ideal.Run
public import proofs.«01_k».proof.Proof.Gen.Reference4Ideal.Run
public import proofs.«01_k».proof.Proof.Gen.Reference5Ideal.Run
public import proofs.«01_k».proof.Proof.Gen.Reference6Ideal.Run
public import proofs.«01_k».proof.Proof.AttnClaim3
public import proofs.«01_k».proof.Proof.AttnClaim4
public import proofs.«01_k».proof.Proof.SampleClaim
public import Idealize.ShloMosaic.Lib.Quiescent

/-! Every reference runs to its end and leaves its arguments as they were. None of them has a semaphore. -/

@[expose] public section

set_option maxRecDepth 16384

noncomputable section

namespace Cert.Frames

open Idealize.ShloMosaic Idealize.SL.Sem

/-- The reference of the feed-forward call. -/
theorem ffn_reference : Cert.quiescent_Reference2Ideal (hReference2Ideal := Cert.Reference2Ideal.Gen.facts) := by
  intro m g _
  exact (θ_run _ _ _).mono (fun r h => ⟨fun c => (h c).2, sem_eq_zero_of_no_sems (by decide) r.2⟩)
    (Cert.Reference2Ideal.Value.run m g)

/-- The reference of the state-space step. -/
theorem ssd_reference : Cert.quiescent_ReferenceIdeal (hReferenceIdeal := Cert.ReferenceIdeal.Gen.facts) := by
  intro m g _
  exact (θ_run _ _ _).mono (fun r h => ⟨fun c => (h c).2.2, sem_eq_zero_of_no_sems (by decide) r.2⟩)
    (Cert.ReferenceIdeal.Value.run m g)

/-- The reference of the state-space step, under the precondition. -/
theorem ssd_reference_pre : Cert.quiescent_ReferenceIdeal_pre_finite1 (hReferenceIdeal := Cert.ReferenceIdeal.Gen.facts) (hPre_finite1 := Cert.Pre_finite1.facts) := by
  intro m g _
  exact (θ_run _ _ _).mono (fun r h => ⟨fun c => (h c).2.2, sem_eq_zero_of_no_sems (by decide) r.2⟩)
    (Cert.ReferenceIdeal.Value.run m g)

/-- The reference of the input projections of the sample rows. -/
theorem attn3_reference : Cert.quiescent_Reference3Ideal (hReference3Ideal := Cert.Reference3Ideal.Gen.facts) := by
  intro m g _
  exact (θ_run _ _ _).mono (fun r h => ⟨fun c => (h c).2.2.2.2.2.2, sem_eq_zero_of_no_sems (by decide) r.2⟩)
    (Cert.Reference3Ideal.Value.run m g)

/-- The reference of the input projections of the sample rows, under the precondition. -/
theorem attn3_reference_pre : Cert.quiescent_Reference3Ideal_pre_finite3 (hReference3Ideal := Cert.Reference3Ideal.Gen.facts) (hPre_finite3 := Cert.Pre_finite3.facts) := by
  intro m g _
  exact (θ_run _ _ _).mono (fun r h => ⟨fun c => (h c).2.2.2.2.2.2, sem_eq_zero_of_no_sems (by decide) r.2⟩)
    (Cert.Reference3Ideal.Value.run m g)

/-- The reference of the input projections of the prompt rows. -/
theorem attn4_reference : Cert.quiescent_Reference4Ideal (hReference4Ideal := Cert.Reference4Ideal.Gen.facts) := by
  intro m g _
  exact (θ_run _ _ _).mono (fun r h => ⟨fun c => (h c).2.2.2.2.2.2.2.2.2, sem_eq_zero_of_no_sems (by decide) r.2⟩)
    (Cert.Reference4Ideal.Value.run m g)

/-- The reference of the input projections of the prompt rows, under the precondition. -/
theorem attn4_reference_pre : Cert.quiescent_Reference4Ideal_pre_finite4 (hReference4Ideal := Cert.Reference4Ideal.Gen.facts) (hPre_finite4 := Cert.Pre_finite4.facts) := by
  intro m g _
  exact (θ_run _ _ _).mono (fun r h => ⟨fun c => (h c).2.2.2.2.2.2.2.2.2, sem_eq_zero_of_no_sems (by decide) r.2⟩)
    (Cert.Reference4Ideal.Value.run m g)

/-- The reference of the output projection. -/
theorem out_reference : Cert.quiescent_Reference5Ideal (hReference5Ideal := Cert.Reference5Ideal.Gen.facts) := by
  intro m g _
  exact (θ_run _ _ _).mono (fun r h => ⟨fun c => (h c).2, sem_eq_zero_of_no_sems (by decide) r.2⟩)
    (Cert.Reference5Ideal.Value.run m g)

/-- The reference of the state-space scan of the prompts. -/
theorem scan_reference : Cert.quiescent_Reference6Ideal (hReference6Ideal := Cert.Reference6Ideal.Gen.facts) := by
  intro m g _
  exact (θ_run _ _ _).mono (fun r h => ⟨fun c => (h c).2.2.2, sem_eq_zero_of_no_sems (by decide) r.2⟩)
    (Cert.Reference6Ideal.Value.run m g)

end Cert.Frames

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Reference2Ideal
public import proofs.«01_k».proof.Proof.FfnClaim
public import proofs.«01_k».proof.Proof.AttnClaim3
public import proofs.«01_k».proof.Proof.AttnClaim4
public import proofs.«01_k».proof.Proof.SampleClaim
public import proofs.«01_k».proof.Proof.ScanClaim
public import proofs.«01_k».proof.Proof.OutProj
public import proofs.«01_k».proof.Proof.Frames
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Reference6Ideal.Run
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts,
    Cert.KernelIdeal.Gen.facts,
    Cert.ReferenceIdeal.Gen.facts,
    Cert.Kernel2.Gen.facts,
    Cert.Kernel2Ideal.Gen.facts,
    Cert.Reference2Ideal.Gen.facts,
    Cert.Kernel3.Gen.facts,
    Cert.Kernel3Ideal.Gen.facts,
    Cert.Reference3Ideal.Gen.facts,
    Cert.Kernel4.Gen.facts,
    Cert.Kernel4Ideal.Gen.facts,
    Cert.Reference4Ideal.Gen.facts,
    Cert.Kernel5.Gen.facts,
    Cert.Kernel5Ideal.Gen.facts,
    Cert.Reference5Ideal.Gen.facts,
    Cert.Kernel6.Gen.facts,
    Cert.Kernel6Ideal.Gen.facts,
    Cert.Reference6Ideal.Gen.facts,
    Cert.Pre_finite1.facts,
    Cert.Pre_finite3.facts,
    Cert.Pre_finite4.facts,
    Cert.On_conv_only.facts,
    fun m g _ => Cert.Kernel.Gen.frame m g,
    fun m g _ => Cert.KernelIdeal.Gen.frame m g,
    fun m g _ => Cert.KernelIdeal.Gen.frame m g,
    Cert.Frames.ssd_reference,
    Cert.Frames.ssd_reference_pre,
    fun m g _ => Cert.Kernel2.Gen.frame m g,
    fun m g _ => Cert.Kernel2Ideal.Gen.frame m g,
    Cert.Frames.ffn_reference,
    fun m g _ => Cert.Kernel3.Gen.frame m g,
    fun m g _ => Cert.Kernel3Ideal.Gen.frame m g,
    fun m g _ => Cert.Kernel3Ideal.Gen.frame m g,
    Cert.Frames.attn3_reference,
    Cert.Frames.attn3_reference_pre,
    fun m g _ => Cert.Kernel4.Gen.frame m g,
    fun m g _ => Cert.Kernel4Ideal.Gen.frame m g,
    fun m g _ => Cert.Kernel4Ideal.Gen.frame m g,
    Cert.Frames.attn4_reference,
    Cert.Frames.attn4_reference_pre,
    fun m g _ => Cert.Kernel5.Gen.frame m g,
    fun m g _ => Cert.Kernel5Ideal.Gen.frame m g,
    Cert.Frames.out_reference,
    fun m g _ => Cert.Kernel6.Gen.frame m g,
    fun m g _ => Cert.Kernel6Ideal.Gen.frame m g,
    Cert.Frames.scan_reference,
    trivial,
    Cert.KernelIdeal.Sample.algebraic,
    trivial,
    Cert.Kernel2Ideal.Ffn.algebraic,
    trivial,
    Cert.Kernel3Ideal.AttnIn.algebraic,
    trivial,
    Cert.Kernel4Ideal.AttnIn.algebraic,
    trivial,
    Cert.Kernel5Ideal.OutProj.algebraic,
    trivial,
    Cert.Kernel6Ideal.Scan.algebraic⟩

end Cert.Proof

end
